-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_2)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_2) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_v36) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v11) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10_7) = v0 c
          ∧ r.2.mem ((c.tc : Thread Cert.Reference2Ideal.nD Cert.Reference2Ideal.τ).loc Cert.Reference2Ideal.main_v10_8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v12)) (v1 : (c : Dev Cert.Kernel3Ideal.nD) → Buf (Elt Ideal) ((c.tc : Thread Cert.Kernel3Ideal.nD Cert.Kernel3Ideal.τ).loc Cert.Kernel3Ideal.main_v19)) (v2 : (c : Dev Cert.Kernel3Ideal.nD) → Buf (Elt Ideal) ((c.tc : Thread Cert.Kernel3Ideal.nD Cert.Kernel3Ideal.τ).loc Cert.Kernel3Ideal.main_v14)) (v3 : (c : Dev Cert.Kernel3Ideal.nD) → Buf (Elt Ideal) ((c.tc : Thread Cert.Kernel3Ideal.nD Cert.Kernel3Ideal.τ).loc Cert.Kernel3Ideal.main_v21)) (v4 : (c : Dev Cert.Kernel3Ideal.nD) → Buf (Elt Ideal) ((c.tc : Thread Cert.Kernel3Ideal.nD Cert.Kernel3Ideal.τ).loc Cert.Kernel3Ideal.main_v23)) (v5 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_v19) = v1 c
          ∧ r.2.mem ((c.tc : Thread Cert.Kernel3Ideal.nD Cert.Kernel3Ideal.τ).loc Cert.Kernel3Ideal.main_v14) = v2 c
          ∧ r.2.mem ((c.tc : Thread Cert.Kernel3Ideal.nD Cert.Kernel3Ideal.τ).loc Cert.Kernel3Ideal.main_v21) = v3 c
          ∧ r.2.mem ((c.tc : Thread Cert.Kernel3Ideal.nD Cert.Kernel3Ideal.τ).loc Cert.Kernel3Ideal.main_v23) = v4 c
          ∧ r.2.mem ((c.tc : Thread Cert.Kernel3Ideal.nD Cert.Kernel3Ideal.τ).loc Cert.Kernel3Ideal.main_v25) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v3) = v1 c
          ∧ r.2.mem ((c.tc : Thread Cert.Reference3Ideal.nD Cert.Reference3Ideal.τ).loc Cert.Reference3Ideal.main_v5) = v2 c
          ∧ r.2.mem ((c.tc : Thread Cert.Reference3Ideal.nD Cert.Reference3Ideal.τ).loc Cert.Reference3Ideal.main_v7) = v3 c
          ∧ r.2.mem ((c.tc : Thread Cert.Reference3Ideal.nD Cert.Reference3Ideal.τ).loc Cert.Reference3Ideal.main_v9) = v4 c
          ∧ r.2.mem ((c.tc : Thread Cert.Reference3Ideal.nD Cert.Reference3Ideal.τ).loc Cert.Reference3Ideal.main_v11) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_ReferenceIdeal_pre_finite [hKernel4Ideal : Cert.Kernel4Ideal.Facts] [hReferenceIdeal : Cert.ReferenceIdeal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_Kernel4Ideal_finite m →
    (∀ c : Dev Cert.Kernel4Ideal.nD,
      m' ((c.tc : Thread Cert.ReferenceIdeal.nD Cert.ReferenceIdeal.τ).loc Cert.ReferenceIdeal.main_arg0) = m ((c.tc : Thread Cert.Kernel4Ideal.nD Cert.Kernel4Ideal.τ).loc Cert.Kernel4Ideal.main_arg0)
      ∧ m' ((c.tc : Thread Cert.ReferenceIdeal.nD Cert.ReferenceIdeal.τ).loc Cert.ReferenceIdeal.main_arg1) = m ((c.tc : Thread Cert.Kernel4Ideal.nD Cert.Kernel4Ideal.τ).loc Cert.Kernel4Ideal.main_arg1)
      ∧ m' ((c.tc : Thread Cert.ReferenceIdeal.nD Cert.ReferenceIdeal.τ).loc Cert.ReferenceIdeal.main_arg2) = m ((c.tc : Thread Cert.Kernel4Ideal.nD Cert.Kernel4Ideal.τ).loc Cert.Kernel4Ideal.main_arg2)
      ∧ m' ((c.tc : Thread Cert.ReferenceIdeal.nD Cert.ReferenceIdeal.τ).loc Cert.ReferenceIdeal.main_arg3) = m ((c.tc : Thread Cert.Kernel4Ideal.nD Cert.Kernel4Ideal.τ).loc Cert.Kernel4Ideal.main_arg3)
      ∧ m' ((c.tc : Thread Cert.ReferenceIdeal.nD Cert.ReferenceIdeal.τ).loc Cert.ReferenceIdeal.main_arg4) = m ((c.tc : Thread Cert.Kernel4Ideal.nD Cert.Kernel4Ideal.τ).loc Cert.Kernel4Ideal.main_arg4)
      ∧ m' ((c.tc : Thread Cert.ReferenceIdeal.nD Cert.ReferenceIdeal.τ).loc Cert.ReferenceIdeal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_2)) (v1 : (c : Dev Cert.Kernel4Ideal.nD) → Buf (Elt Ideal) ((c.tc : Thread Cert.Kernel4Ideal.nD Cert.Kernel4Ideal.τ).loc Cert.Kernel4Ideal.main_v6_0)) (v2 : (c : Dev Cert.Kernel4Ideal.nD) → Buf (Elt Ideal) ((c.tc : Thread Cert.Kernel4Ideal.nD Cert.Kernel4Ideal.τ).loc Cert.Kernel4Ideal.main_v10)) (v3 : (c : Dev Cert.Kernel4Ideal.nD) → Buf (Elt Ideal) ((c.tc : Thread Cert.Kernel4Ideal.nD Cert.Kernel4Ideal.τ).loc Cert.Kernel4Ideal.main_v8)) (v4 : (c : Dev Cert.Kernel4Ideal.nD) → Buf (Elt Ideal) ((c.tc : Thread Cert.Kernel4Ideal.nD Cert.Kernel4Ideal.τ).loc Cert.Kernel4Ideal.main_v6_4)) (v5 : (c : Dev Cert.Kernel4Ideal.nD) → Buf (Elt Ideal) ((c.tc : Thread Cert.Kernel4Ideal.nD Cert.Kernel4Ideal.τ).loc Cert.Kernel4Ideal.main_v6_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_2) = v0 c
          ∧ r.2.mem ((c.tc : Thread Cert.Kernel4Ideal.nD Cert.Kernel4Ideal.τ).loc Cert.Kernel4Ideal.main_v6_0) = v1 c
          ∧ r.2.mem ((c.tc : Thread Cert.Kernel4Ideal.nD Cert.Kernel4Ideal.τ).loc Cert.Kernel4Ideal.main_v10) = v2 c
          ∧ r.2.mem ((c.tc : Thread Cert.Kernel4Ideal.nD Cert.Kernel4Ideal.τ).loc Cert.Kernel4Ideal.main_v8) = v3 c
          ∧ r.2.mem ((c.tc : Thread Cert.Kernel4Ideal.nD Cert.Kernel4Ideal.τ).loc Cert.Kernel4Ideal.main_v6_4) = v4 c
          ∧ r.2.mem ((c.tc : Thread Cert.Kernel4Ideal.nD Cert.Kernel4Ideal.τ).loc Cert.Kernel4Ideal.main_v6_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_v36) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_ReferenceIdeal_pre_finite (hKernel4Ideal := hKernel4Ideal) (hReferenceIdeal := hReferenceIdeal) (hPre_finite := hPre_finite)
    ∧ preserves_Kernel5_Kernel5Ideal
    ∧ algebraic_Kernel5Ideal_Reference5Ideal (hKernel5Ideal := hKernel5Ideal) (hReference5Ideal := hReference5Ideal)
-- ==== Pre_finite.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S2048x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S2048x1024 .f32 := Host.absf main_arg5
  let main_cst_8 : FVec F S_ .f32 := constant S_ .f32 0x7F800000#32
  let main_v21 : FVec F S2048x1024 .f32 := broadcastInDim S2048x1024 ![] bcast_S_S2048x1024 main_cst_8
  let main_v22 : IVec S2048x1024 1 := cmpf .olt main_v20 main_v21
  let main_c_9 : IVec S_ 1 := constantI S_ 1 1#1
  let main_v23 : IVec S_ 1 := (fun x v => Host.reduce IntOp.andi x v reducesTo_S2048x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2048x1024 .f32) (main_arg1 : FVec F S1024x5632 .f32) (main_arg2 : FVec F S2816x1024 .f32) (main_arg3 : FVec F S1x1024 .f32) (main_arg4 : FVec F S1x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_v3 main_v7 main_v11 main_v15
-- ==== Pre_finite2.lean ====
abbrev S2048x512 : Shape := ⟨2, ![2048, 512]⟩
abbrev S4x128x512 : Shape := ⟨3, ![4, 128, 512]⟩
abbrev S1x2048 : Shape := ⟨2, ![1, 2048]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S4x128x512 : S_.BroadcastsInDim S4x128x512 (![] : Fin 0 → Fin S4x128x512.rank)
  reducesTo_S4x128x512_S_d0_1_2 : S4x128x512.ReducesTo [0, 1, 2] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v3 : IVec S_ 1) (main_v7 : IVec S_ 1) (main_v11 : IVec S_ 1) (main_v15 : IVec S_ 1) : IVec S_ 1 :=
  let main_v16 : FVec F S1x2048 .f32 := Host.absf main_arg4
  let main_cst_6 : FVec F S_ .f32 := constant S_ .f32 0x7F800000#32
  let main_v17 : FVec F S1x2048 .f32 := broadcastInDim S1x2048 ![] bcast_S_S1x2048 main_cst_6
  let main_v18 : IVec S1x2048 1 := cmpf .olt main_v16 main_v17
  let main_c_7 : IVec S_ 1 := constantI S_ 1 1#1
  let main_v19 : IVec S_ 1 := (fun x v => Host.reduce IntOp.andi x v reducesTo_S1x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x512 .f32) (main_arg1 : FVec F S4x128x512 .f32) (main_arg2 : FVec F S4x128x512 .f32) (main_arg3 : FVec F S1x2048 .f32) (main_arg4 : FVec F S1x2048 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S4x128x512 .f32 := Host.absf main_arg1
  let main_cst_0 : FVec F S_ .f32 := constant S_ .f32 0x7F800000#32
  let main_v5 : FVec F S4x128x512 .f32 := broadcastInDim S4x128x512 ![] bcast_S_S4x128x512 main_cst_0
  let main_v6 : IVec S4x128x512 1 := cmpf .olt main_v4 main_v5
  let main_c_1 : IVec S_ 1 := constantI S_ 1 1#1
  let main_v7 : IVec S_ 1 := (fun x v => Host.reduce IntOp.andi x v reducesTo_S4x128x512_S_d0_1_2 h_S_) main_v6 main_c_1
  let main_v8 : FVec F S4x128x512 .f32 := Host.absf main_arg2
  let main_cst_2 : FVec F S_ .f32 := constant S_ .f32 0x7F800000#32
  let main_v9 : FVec F S4x128x512 .f32 := broadcastInDim S4x128x512 ![] bcast_S_S4x128x512 main_cst_2
  let main_v10 : IVec S4x128x512 1 := cmpf .olt main_v8 main_v9
  let main_c_3 : IVec S_ 1 := constantI S_ 1 1#1
  let main_v11 : IVec S_ 1 := (fun x v => Host.reduce IntOp.andi x v reducesTo_S4x128x512_S_d0_1_2 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_arg4 main_v3 main_v7 main_v11 main_v15
-- ==== Kernel.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S2048x5632 : Shape := ⟨2, ![2048, 5632]⟩
abbrev S256x1024 : Shape := ⟨2, ![256, 1024]⟩
abbrev S256x5632 : Shape := ⟨2, ![256, 5632]⟩
abbrev S1x1024x1408 : Shape := ⟨3, ![1, 1024, 1408]⟩
abbrev S1024x1408 : Shape := ⟨2, ![1024, 1408]⟩
abbrev S256x1408 : Shape := ⟨2, ![256, 1408]⟩
abbrev S1x1408x1024 : Shape := ⟨3, ![1, 1408, 1024]⟩
abbrev S1408x1024 : Shape := ⟨2, ![1408, 1024]⟩
abbrev S256 : Shape := ⟨1, ![256]⟩
abbrev S256x1 : Shape := ⟨2, ![256, 1]⟩
abbrev S2048x2816 : Shape := ⟨2, ![2048, 2816]⟩
abbrev S256x2816 : Shape := ⟨2, ![256, 2816]⟩
abbrev S1024 : Shape := ⟨1, ![1024]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 26
  | .vmem => 46
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S2x1408x1024, .f32⟩
  | .hbm, ⟨10, _⟩ => ⟨S2x1408x1024, .bf16⟩
  | .hbm, ⟨11, _⟩ => ⟨S2048x5632, .bf16⟩
  | .hbm, ⟨12, _⟩ => ⟨S2048x1024, .f32⟩
  | .hbm, ⟨13, _⟩ => ⟨S2048x1024, .f32⟩
  | .hbm, ⟨14, _⟩ => ⟨S2048x1024, .bf16⟩
  | .hbm, ⟨15, _⟩ => ⟨S2048x1024, .bf16⟩
  | .hbm, ⟨16, _⟩ => ⟨S2048x1024, .f32⟩
  | .hbm, ⟨17, _⟩ => ⟨S2048x5632, .bf16⟩
  | .hbm, ⟨18, _⟩ => ⟨S2048x2816, .bf16⟩
  | .hbm, ⟨19, _⟩ => ⟨S2048x1024, .bf16⟩
  | .hbm, ⟨20, _⟩ => ⟨S1x1024, .f32⟩
  | .hbm, ⟨21, _⟩ => ⟨S1x1024, .f32⟩
  | .hbm, ⟨22, _⟩ => ⟨S4x1024x1408, .f32⟩
  | .hbm, ⟨23, _⟩ => ⟨S2816x1024, .f32⟩
  | .hbm, ⟨24, _⟩ => ⟨S1024x4x1408, .f32⟩
  | .hbm, ⟨25, _⟩ => ⟨S1024x5632, .f32⟩
  | .local _ .vmem, ⟨0, _⟩ => ⟨S256x1024, .f32⟩
  | .local _ .vmem, ⟨1, _⟩ => ⟨S256x1024, .f32⟩
  | .local _ .vmem, ⟨2, _⟩ => ⟨S4x1024x1408, .bf16⟩
  | .local _ .vmem, ⟨3, _⟩ => ⟨S2x1408x1024, .bf16⟩
  | .local _ .vmem, ⟨4, _⟩ => ⟨S1x1024, .f32⟩
  | .local _ .vmem, ⟨5, _⟩ => ⟨S1x1024, .f32⟩
  | .local _ .vmem, ⟨6, _⟩ => ⟨S256x5632, .bf16⟩
  | .local _ .vmem, ⟨7, _⟩ => ⟨S256x5632, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S256x5632, .bf16⟩
  | .local _ .vmem, ⟨22, _⟩ => ⟨S256x5632, .bf16⟩
  | .local _ .vmem, ⟨23, _⟩ => ⟨S4x1024x1408, .bf16⟩
  | .local _ .vmem, ⟨24, _⟩ => ⟨S2x1408x1024, .bf16⟩
  | .local _ .vmem, ⟨25, _⟩ => ⟨S256x1024, .f32⟩
  | .local _ .vmem, ⟨26, _⟩ => ⟨S256x1024, .f32⟩
  | .local _ .vmem, ⟨27, _⟩ => ⟨S256x5632, .bf16⟩
  | .local _ .vmem, ⟨28, _⟩ => ⟨S256x5632, .bf16⟩
  | .local _ .vmem, ⟨29, _⟩ => ⟨S256x2816, .bf16⟩
  | .local _ .vmem, ⟨30, _⟩ => ⟨S256x2816, .bf16⟩
  | .local _ .vmem, ⟨31, _⟩ => ⟨S256x1024, .bf16⟩
  | .local _ .vmem, ⟨32, _⟩ => ⟨S256x1024, .bf16⟩
  | .local _ .vmem, ⟨33, _⟩ => ⟨S1x1024, .f32⟩
  | .local _ .vmem, ⟨34, _⟩ => ⟨S1x1024, .f32⟩
  | .local _ .vmem, ⟨35, _⟩ => ⟨S2048x512, .bf16⟩
  | .local _ .vmem, ⟨36, _⟩ => ⟨S2048x512, .bf16⟩
  | .local _ .vmem, ⟨37, _⟩ => ⟨S2048x1408, .bf16⟩
  | .local _ .vmem, ⟨38, _⟩ => ⟨S2048x1408, .bf16⟩
  | .local _ .vmem, ⟨39, _⟩ => ⟨S1x512x1408, .f32⟩
  | .local _ .vmem, ⟨40, _⟩ => ⟨S1x512x1408, .f32⟩
  | .local _ .vmem, ⟨41, _⟩ => ⟨S2048x1408, .bf16⟩
  | .local _ .vmem, ⟨42, _⟩ => ⟨S2048x1408, .bf16⟩
  | .local _ .vmem, ⟨43, _⟩ => ⟨S2048x1024, .bf16⟩
  | .local _ .vmem, ⟨44, _⟩ => ⟨S1408x1024, .f32⟩
  | .local _ .vmem, ⟨45, _⟩ => ⟨S1408x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg11_0 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg2_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem11_0 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc3_sem0_0 : DmaSem sig := 41
abbrev cc3_sem0_1 : DmaSem sig := 42
abbrev cc3_sem1_0 : DmaSem sig := 43
abbrev cc3_sem2_0 : DmaSem sig := 44
abbrev cc3_sem2_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x5632 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x1024x1408 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x1408x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x5632 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x2816 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c2_i32_11 : BitVec 32 := 2#32
  let v28 : BitVec 32 := Scalar.divsi v16 c2_i32_11
  let c0_i32_12 : BitVec 32 := 0#32
  let v29 : BitVec 1 := Scalar.cmpi .sgt v16 c0_i32_12
  let v30 : BitVec 32 := Scalar.extui v29
  let c0_i32_13 : BitVec 32 := 0#32
  let v31 : BitVec 1 := Scalar.cmpi .slt v16 c0_i32_13
  let v32 : BitVec 32 := Scalar.extui v31
  let v33 : BitVec 32 := Scalar.subi v30 v32
  let c0_i32_14 : BitVec 32 := 0#32
  let v34 : BitVec 1 := Scalar.cmpi .sgt c2_i32_11 c0_i32_14
  let v35 : BitVec 32 := Scalar.extui v34
  let c0_i32_15 : BitVec 32 := 0#32
  let v36 : BitVec 1 := Scalar.cmpi .slt c2_i32_11 c0_i32_15
  let v37 : BitVec 32 := Scalar.extui v36
  let v38 : BitVec 32 := Scalar.subi v35 v37
  let v39 : BitVec 1 := Scalar.cmpi .ne v33 v38
  let v40 : BitVec 32 := Scalar.remsi v16 c2_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v27 v44
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v45.toNat, arg0.toNat, v55.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ReferenceIdeal.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2048x5632 : Shape := ⟨2, ![2048, 5632]⟩
abbrev S2048x2816 : Shape := ⟨2, ![2048, 2816]⟩
abbrev S2048 : Shape := ⟨1, ![2048]⟩
abbrev S2048x1 : Shape := ⟨2, ![2048, 1]⟩
abbrev S1024 : Shape := ⟨1, ![1024]⟩
abbrev S1024x2816 : Shape := ⟨2, ![1024, 2816]⟩
abbrev S5632x1024 : Shape := ⟨2, ![5632, 1024]⟩

abbrev nBuf : Space → Nat
  | .hbm => 118
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x5632, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S_, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S2048, .f32⟩
  | .hbm, ⟨90, _⟩ => ⟨S2048x1, .f32⟩
  | .hbm, ⟨91, _⟩ => ⟨S_, .f32⟩
  | .hbm, ⟨92, _⟩ => ⟨S2048x1, .f32⟩
  | .hbm, ⟨93, _⟩ => ⟨S2048x1, .f32⟩
  | .hbm, ⟨94, _⟩ => ⟨S_, .f32⟩
  | .hbm, ⟨95, _⟩ => ⟨S2048, .f32⟩
  | .hbm, ⟨96, _⟩ => ⟨S2048x1024, .f32⟩
  | .hbm, ⟨97, _⟩ => ⟨S2048x1024, .f32⟩
  | .hbm, ⟨98, _⟩ => ⟨S_, .f32⟩
  | .hbm, ⟨99, _⟩ => ⟨S2048x1024, .f32⟩
  | .hbm, ⟨100, _⟩ => ⟨S2048x1024, .f32⟩
  | .hbm, ⟨101, _⟩ => ⟨S1024x2816, .f32⟩
  | .hbm, ⟨102, _⟩ => ⟨S2816x1024, .f32⟩
  | .hbm, ⟨103, _⟩ => ⟨S2048x2816, .f32⟩
  | .hbm, ⟨104, _⟩ => ⟨S2048x2816, .f32⟩
  | .hbm, ⟨105, _⟩ => ⟨S2048x2816, .f32⟩
  | .hbm, ⟨106, _⟩ => ⟨S2048x2816, .f32⟩
  | .hbm, ⟨107, _⟩ => ⟨S2048x2816, .f32⟩
  | .hbm, ⟨108, _⟩ => ⟨S2048x2816, .f32⟩
  | .hbm, ⟨109, _⟩ => ⟨S2048x2816, .f32⟩
  | .hbm, ⟨110, _⟩ => ⟨S2048x5632, .f32⟩
  | .hbm, ⟨111, _⟩ => ⟨S5632x1024, .f32⟩
  | .hbm, ⟨112, _⟩ => ⟨S1024x5632, .f32⟩
  | .hbm, ⟨113, _⟩ => ⟨S2048x1024, .f32⟩
  | .hbm, ⟨114, _⟩ => ⟨S_, .f32⟩
  | .hbm, ⟨115, _⟩ => ⟨S2048x1024, .f32⟩
  | .hbm, ⟨116, _⟩ => ⟨S2048x1024, .f32⟩
  | .hbm, ⟨117, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v5_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v5_1 : Ref sig .tc := ⟨.hbm, 23, rfl⟩
abbrev main_v5_0 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_cst_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_cst_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_16 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩

abbrev nD : Nat := 1
abbrev τ : Topo := Topo.v7x

variable {F : FTy → Type} [FloatOps F]
-- ==== Kernel2.lean ====
abbrev S2048x512 : Shape := ⟨2, ![2048, 512]⟩
abbrev S4x128x512 : Shape := ⟨3, ![4, 128, 512]⟩
abbrev S1x2048 : Shape := ⟨2, ![1, 2048]⟩
abbrev S4x128x4x128 : Shape := ⟨4, ![4, 128, 4, 128]⟩
abbrev S4x4x128x128 : Shape := ⟨4, ![4, 4, 128, 128]⟩
abbrev S16x128x128 : Shape := ⟨3, ![16, 128, 128]⟩
abbrev S2048x2048 : Shape := ⟨2, ![2048, 2048]⟩
abbrev S2048x128 : Shape := ⟨2, ![2048, 128]⟩
abbrev S1x128x128 : Shape := ⟨3, ![1, 128, 128]⟩
abbrev S1x128 : Shape := ⟨2, ![1, 128]⟩
abbrev S2064x128 : Shape := ⟨2, ![2064, 128]⟩
abbrev S128x128 : Shape := ⟨2, ![128, 128]⟩
abbrev S8x128 : Shape := ⟨2, ![8, 128]⟩
abbrev S1x8x128 : Shape := ⟨3, ![1, 8, 128]⟩
abbrev S256x128 : Shape := ⟨2, ![256, 128]⟩
abbrev S32x8x128 : Shape := ⟨3, ![32, 8, 128]⟩
abbrev S32x128 : Shape := ⟨2, ![32, 128]⟩
abbrev S32x1x128 : Shape := ⟨3, ![32, 1, 128]⟩

abbrev nBuf : Space → Nat
  | .hbm => 18
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S4x128x512, .f32⟩
  | .hbm, ⟨2, _⟩ => ⟨S4x128x512, .f32⟩
  | .hbm, ⟨3, _⟩ => ⟨S1x2048, .f32⟩
  | .hbm, ⟨4, _⟩ => ⟨S1x2048, .f32⟩
  | .hbm, ⟨5, _⟩ => ⟨S4x128x4x128, .f32⟩
  | .hbm, ⟨6, _⟩ => ⟨S4x4x128x128, .f32⟩
  | .hbm, ⟨7, _⟩ => ⟨S16x128x128, .f32⟩
  | .hbm, ⟨8, _⟩ => ⟨S16x128x128, .bf16⟩
  | .hbm, ⟨9, _⟩ => ⟨S4x128x4x128, .f32⟩
  | .hbm, ⟨10, _⟩ => ⟨S4x4x128x128, .f32⟩
  | .hbm, ⟨11, _⟩ => ⟨S16x128x128, .f32⟩
  | .hbm, ⟨12, _⟩ => ⟨S16x128x128, .bf16⟩
  | .hbm, ⟨13, _⟩ => ⟨S2048x512, .bf16⟩
  | .hbm, ⟨14, _⟩ => ⟨S2048x2048, .bf16⟩
  | .hbm, ⟨15, _⟩ => ⟨S2048x2048, .bf16⟩
  | .hbm, ⟨16, _⟩ => ⟨S2048x2048, .f32⟩
  | .hbm, ⟨17, _⟩ => ⟨S2048x2048, .f32⟩
  | .local _ .vmem, ⟨0, _⟩ => ⟨S2048x128, .bf16⟩
  | .local _ .vmem, ⟨1, _⟩ => ⟨S2048x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2064x128, .f32⟩
  | .local _ .vmem, ⟨15, _⟩ => ⟨S2064x128, .f32⟩
  | .local _ .vmem, ⟨16, _⟩ => ⟨S256x128, .f32⟩
  | .local _ .vmem, ⟨17, _⟩ => ⟨S256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scoped0 : Ref sig .tc := ⟨.vmem, 16, rfl⟩
abbrev cc0_scoped1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v95 : BitVec 32 := Scalar.addi c0_i32 c8_i32
  let c1_i32_21 : BitVec 32 := 1#32
  ⟨c0_i32, v95, c1_i32_21⟩
def k0_mult1 (k0_t1 : Fin k0_t1_loop.trips) : BitVec 32 :=
  let c0_i32 : BitVec 32 := 0#32
  let c1_i32_21 : BitVec 32 := 1#32
  let arg10 : BitVec 32 := Scf.iv c0_i32 c1_i32_21 k0_t1
  let c256_i32 : BitVec 32 := 256#32
  let v321 : BitVec 32 := Scalar.muli arg10 c256_i32
  v321
def k0_off1 (k0_t1 : Fin k0_t1_loop.trips) : Fin 2 → Nat :=
  let c0_i32 : BitVec 32 := 0#32
  let c1_i32_21 : BitVec 32 := 1#32
  let arg10 : BitVec 32 := Scf.iv c0_i32 c1_i32_21 k0_t1
  let c256_i32 : BitVec 32 := 256#32
  let v321 : BitVec 32 := Scalar.muli arg10 c256_i32
  let v322 : BitVec 32 := v321
  let c8_i32_77 : BitVec 32 := 8#32
  let v323 : BitVec 32 := Scalar.addi v322 c8_i32_77
  let v324 : Index := Scalar.indexCast v323
  let c0_78 : Index := 0#32
  ![v324.toNat, 0]
@[reducible] def k0_t2_loop : Scf.Loop 32 :=
  let c0_i32_89_r0 : BitVec 32 := 0#32
  let c8_i32_90_r0 : BitVec 32 := 8#32
  let v337_r0 : BitVec 32 := Scalar.addi c0_i32_89_r0 c8_i32_90_r0
  let c1_i32_91_r0 : BitVec 32 := 1#32
  ⟨c0_i32_89_r0, v337_r0, c1_i32_91_r0⟩
def k0_mult2 (k0_t2 : Fin k0_t2_loop.trips) : BitVec 32 :=
  let c0_i32_89_r0 : BitVec 32 := 0#32
  let c1_i32_91_r0 : BitVec 32 := 1#32
  let arg10_r0 : BitVec 32 := Scf.iv c0_i32_89_r0 c1_i32_91_r0 k0_t2
  let c256_i32_r0 : BitVec 32 := 256#32
  let v339_r0 : BitVec 32 := Scalar.muli arg10_r0 c256_i32_r0
  v339_r0
def k0_mult3 (k0_t2 : Fin k0_t2_loop.trips) : BitVec 32 :=
  let c0_i32_89_r0 : BitVec 32 := 0#32
  let c1_i32_91_r0 : BitVec 32 := 1#32
  let arg10_r0 : BitVec 32 := Scf.iv c0_i32_89_r0 c1_i32_91_r0 k0_t2
  let c32_i32_93_r0 : BitVec 32 := 32#32
  let v341_r0 : BitVec 32 := Scalar.muli arg10_r0 c32_i32_93_r0
  v341_r0
def k0_off2 (k0_t2 : Fin k0_t2_loop.trips) : Fin 2 → Nat :=
  let c0_i32_89_r0 : BitVec 32 := 0#32
  let c1_i32_91_r0 : BitVec 32 := 1#32
  let arg10_r0 : BitVec 32 := Scf.iv c0_i32_89_r0 c1_i32_91_r0 k0_t2
  let c32_i32_93_r0 : BitVec 32 := 32#32
  let v341_r0 : BitVec 32 := Scalar.muli arg10_r0 c32_i32_93_r0
  let v342_r0 : BitVec 32 := v341_r0
  let v343_r0 : Index := Scalar.indexCast v342_r0
  let c0_94_r0 : Index := 0#32
  ![v343_r0.toNat, 0]
def k0_off3 (k0_t2 : Fin k0_t2_loop.trips) : Fin 2 → Nat :=
  let c0_i32_89_r0 : BitVec 32 := 0#32
  let c1_i32_91_r0 : BitVec 32 := 1#32
  let arg10_r0 : BitVec 32 := Scf.iv c0_i32_89_r0 c1_i32_91_r0 k0_t2
  let c256_i32_r0 : BitVec 32 := 256#32
  let v339_r0 : BitVec 32 := Scalar.muli arg10_r0 c256_i32_r0
  let v340_r0 : BitVec 32 := v339_r0
  let c8_i32_96_r0 : BitVec 32 := 8#32
  let v363_r0 : BitVec 32 := Scalar.addi v340_r0 c8_i32_96_r0
  let v364_r0 : Index := Scalar.indexCast v363_r0
  let c0_97_r0 : Index := 0#32
  ![v364_r0.toNat, 0]
def k0_off4 (k0_t2 : Fin k0_t2_loop.trips) : Fin 2 → Nat :=
  let c0_i32_89_r0 : BitVec 32 := 0#32
  let c1_i32_91_r0 : BitVec 32 := 1#32
  let arg10_r0 : BitVec 32 := Scf.iv c0_i32_89_r0 c1_i32_91_r0 k0_t2
  let c256_i32_r0 : BitVec 32 := 256#32
  let v339_r0 : BitVec 32 := Scalar.muli arg10_r0 c256_i32_r0
  let v340_r0 : BitVec 32 := v339_r0
  let v374_r0 : Index := Scalar.indexCast v340_r0
  let c0_100_r0 : Index := 0#32
  ![v374_r0.toNat, 0]
def cc0_transform_0 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2048x512 : Shape := ⟨2, ![2048, 512]⟩
abbrev S4x128x512 : Shape := ⟨3, ![4, 128, 512]⟩
abbrev S1x2048 : Shape := ⟨2, ![1, 2048]⟩
abbrev S2048x4x128 : Shape := ⟨3, ![2048, 4, 128]⟩
abbrev S4x512x2048 : Shape := ⟨3, ![4, 512, 2048]⟩
abbrev S2048x4x512 : Shape := ⟨3, ![2048, 4, 512]⟩
abbrev S2048x2048 : Shape := ⟨2, ![2048, 2048]⟩
abbrev S_ : Shape := ⟨0, ![]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x128x512, .f32⟩
  | .hbm, ⟨2, _⟩ => ⟨S4x128x512, .f32⟩
  | .hbm, ⟨3, _⟩ => ⟨S1x2048, .f32⟩
  | .hbm, ⟨4, _⟩ => ⟨S1x2048, .f32⟩
  | .hbm, ⟨5, _⟩ => ⟨S2048x4x128, .f32⟩
  | .hbm, ⟨6, _⟩ => ⟨S4x512x2048, .f32⟩
  | .hbm, ⟨7, _⟩ => ⟨S2048x4x512, .f32⟩
  | .hbm, ⟨8, _⟩ => ⟨S2048x2048, .f32⟩
  | .hbm, ⟨9, _⟩ => ⟨S4x512x2048, .f32⟩
  | .hbm, ⟨10, _⟩ => ⟨S2048x4x512, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S_, .i32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S1x2048, .f32⟩
  | .hbm, ⟨23, _⟩ => ⟨S_, .i32⟩
  | .hbm, ⟨24, _⟩ => ⟨S2048, .f32⟩
  | .hbm, ⟨25, _⟩ => ⟨S2048, .f32⟩
  | .hbm, ⟨26, _⟩ => ⟨S2048x2048, .f32⟩
  | .hbm, ⟨27, _⟩ => ⟨S2048x2048, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S1x2048, .f32⟩
  | .hbm, ⟨32, _⟩ => ⟨S2048, .f32⟩
  | .hbm, ⟨33, _⟩ => ⟨S_, .i32⟩
  | .hbm, ⟨34, _⟩ => ⟨S1x2048, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S1x2048, .f32⟩
  | .hbm, ⟨49, _⟩ => ⟨S_, .i32⟩
  | .hbm, ⟨50, _⟩ => ⟨S2048x2048, .f32⟩
  | .hbm, ⟨51, _⟩ => ⟨S1x2048, .f32⟩
  | .hbm, ⟨52, _⟩ => ⟨S_, .i32⟩
  | .hbm, ⟨53, _⟩ => ⟨S2048x2048, .f32⟩
  | .hbm, ⟨54, _⟩ => ⟨S_, .i32⟩
  | .hbm, ⟨55, _⟩ => ⟨S_, .i32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_c : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev main_v10_7 : Ref sig .tc := ⟨.hbm, 26, rfl⟩
abbrev main_v10_8 : Ref sig .tc := ⟨.hbm, 27, rfl⟩
abbrev main_while0c_c_10 : Ref sig .tc := ⟨.hbm, 28, rfl⟩
abbrev main_while0c_v11 : Ref sig .tc := ⟨.hbm, 29, rfl⟩
abbrev main_while0b_call0_c : Ref sig .tc := ⟨.hbm, 30, rfl⟩
abbrev main_while0b_call0_v0 : Ref sig .tc := ⟨.hbm, 31, rfl⟩
abbrev main_while0b_v11 : Ref sig .tc := ⟨.hbm, 32, rfl⟩
abbrev main_while0b_call1_c : Ref sig .tc := ⟨.hbm, 33, rfl⟩
abbrev main_while0b_call1_v0 : Ref sig .tc := ⟨.hbm, 34, rfl⟩
abbrev main_while0b_v12 : Ref sig .tc := ⟨.hbm, 35, rfl⟩
abbrev main_while0b_v13 : Ref sig .tc := ⟨.hbm, 36, rfl⟩
abbrev main_while0b_v14 : Ref sig .tc := ⟨.hbm, 37, rfl⟩
abbrev main_while0b_v15 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_call2_v0 : Ref sig .tc := ⟨.hbm, 48, rfl⟩
abbrev main_while0b_call2_c : Ref sig .tc := ⟨.hbm, 49, rfl⟩
abbrev main_while0b_v25 : Ref sig .tc := ⟨.hbm, 50, rfl⟩
abbrev main_while0b_call3_v0 : Ref sig .tc := ⟨.hbm, 51, rfl⟩
abbrev main_while0b_call3_c : Ref sig .tc := ⟨.hbm, 52, rfl⟩
abbrev main_while0b_v26 : Ref sig .tc := ⟨.hbm, 53, rfl⟩
abbrev main_while0b_c_10 : Ref sig .tc := ⟨.hbm, 54, rfl⟩
abbrev main_while0b_v27 : Ref sig .tc := ⟨.hbm, 55, rfl⟩

abbrev nD : Nat := 1
abbrev τ : Topo := Topo.v7x

variable {F : FTy → Type} [FloatOps F]

abbrev main_while0_count : Scf.Loop 32 := ⟨0#32, 2048#32, 1#32⟩
-- ==== Kernel3.lean ====
abbrev S2048x1024 : Shape := ⟨2, ![2048, 1024]⟩
abbrev S2048x256 : Shape := ⟨2, ![2048, 256]⟩
abbrev S2048x512 : Shape := ⟨2, ![2048, 512]⟩
abbrev S2048x2048 : Shape := ⟨2, ![2048, 2048]⟩
abbrev S2048x4096 : Shape := ⟨2, ![2048, 4096]⟩
abbrev S1024x1024 : Shape := ⟨2, ![1024, 1024]⟩
abbrev S512x1024 : Shape := ⟨2, ![512, 1024]⟩
abbrev S4x256x256 : Shape := ⟨3, ![4, 256, 256]⟩
abbrev S1x256x256 : Shape := ⟨3, ![1, 256, 256]⟩
abbrev S256x256 : Shape := ⟨2, ![256, 256]⟩
abbrev S4x512x512 : Shape := ⟨3, ![4, 512, 512]⟩
abbrev S1x512x512 : Shape := ⟨3, ![1, 512, 512]⟩
abbrev S512x512 : Shape := ⟨2, ![512, 512]⟩
abbrev S4x512x256 : Shape := ⟨3, ![4, 512, 256]⟩
abbrev S1x512x256 : Shape := ⟨3, ![1, 512, 256]⟩
abbrev S512x256 : Shape := ⟨2, ![512, 256]⟩
abbrev S4x1024x1024 : Shape := ⟨3, ![4, 1024, 1024]⟩
abbrev S1x512x1024 : Shape := ⟨3, ![1, 512, 1024]⟩
abbrev S256x4x256 : Shape := ⟨3, ![256, 4, 256]⟩
abbrev S256x1024 : Shape := ⟨2, ![256, 1024]⟩
abbrev S512x4x512 : Shape := ⟨3, ![512, 4, 512]⟩
abbrev S512x2048 : Shape := ⟨2, ![512, 2048]⟩
abbrev S512x4x256 : Shape := ⟨3, ![512, 4, 256]⟩
abbrev S1024x4x1024 : Shape := ⟨3, ![1024, 4, 1024]⟩
abbrev S1024x4096 : Shape := ⟨2, ![1024, 4096]⟩

abbrev nBuf : Space → Nat
  | .hbm => 38
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x256, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x512, .f32⟩
  | .hbm, ⟨7, _⟩ => ⟨S2048x2048, .f32⟩
  | .hbm, ⟨8, _⟩ => ⟨S2048x512, .f32⟩
  | .hbm, ⟨9, _⟩ => ⟨S2048x1024, .f32⟩
  | .hbm, ⟨10, _⟩ => ⟨S2048x1024, .f32⟩
  | .hbm, ⟨11, _⟩ => ⟨S2048x4096, .f32⟩
  | .hbm, ⟨12, _⟩ => ⟨S2048x1024, .bf16⟩
  | .hbm, ⟨13, _⟩ => ⟨S2048x1024, .bf16⟩
  | .hbm, ⟨14, _⟩ => ⟨S2048x256, .bf16⟩
  | .hbm, ⟨15, _⟩ => ⟨S2048x1024, .bf16⟩
  | .hbm, ⟨16, _⟩ => ⟨S2048x1024, .bf16⟩
  | .hbm, ⟨17, _⟩ => ⟨S2048x1024, .bf16⟩
  | .hbm, ⟨18, _⟩ => ⟨S2048x512, .bf16⟩
  | .hbm, ⟨19, _⟩ => ⟨S2048x2048, .bf16⟩
  | .hbm, ⟨20, _⟩ => ⟨S2048x512, .bf16⟩
  | .hbm, ⟨21, _⟩ => ⟨S2048x1024, .bf16⟩
  | .hbm, ⟨22, _⟩ => ⟨S2048x1024, .bf16⟩
  | .hbm, ⟨23, _⟩ => ⟨S2048x4096, .bf16⟩
  | .hbm, ⟨24, _⟩ => ⟨S1024x1024, .f32⟩
  | .hbm, ⟨25, _⟩ => ⟨S4x256x256, .f32⟩
  | .hbm, ⟨26, _⟩ => ⟨S1024x1024, .f32⟩
  | .hbm, ⟨27, _⟩ => ⟨S4x512x512, .f32⟩
  | .hbm, ⟨28, _⟩ => ⟨S4x512x256, .f32⟩
  | .hbm, ⟨29, _⟩ => ⟨S4x1024x1024, .f32⟩
  | .hbm, ⟨30, _⟩ => ⟨S256x4x256, .f32⟩
  | .hbm, ⟨31, _⟩ => ⟨S256x1024, .f32⟩
  | .hbm, ⟨32, _⟩ => ⟨S512x4x512, .f32⟩
  | .hbm, ⟨33, _⟩ => ⟨S512x2048, .f32⟩
  | .hbm, ⟨34, _⟩ => ⟨S512x4x256, .f32⟩
  | .hbm, ⟨35, _⟩ => ⟨S512x1024, .f32⟩
  | .hbm, ⟨36, _⟩ => ⟨S1024x4x1024, .f32⟩
  | .hbm, ⟨37, _⟩ => ⟨S1024x4096, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1x256x256, .f32⟩
  | .local _ .vmem, ⟨9, _⟩ => ⟨S1x256x256, .f32⟩
  | .local _ .vmem, ⟨10, _⟩ => ⟨S2048x512, .bf16⟩
  | .local _ .vmem, ⟨11, _⟩ => ⟨S2048x512, .bf16⟩
  | .local _ .vmem, ⟨12, _⟩ => ⟨S2048x1024, .bf16⟩
  | .local _ .vmem, ⟨13, _⟩ => ⟨S512x1024, .f32⟩
  | .local _ .vmem, ⟨14, _⟩ => ⟨S512x1024, .f32⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S1x512x512, .f32⟩
  | .local _ .vmem, ⟨19, _⟩ => ⟨S1x512x512, .f32⟩
  | .local _ .vmem, ⟨20, _⟩ => ⟨S2048x512, .bf16⟩
  | .local _ .vmem, ⟨21, _⟩ => ⟨S2048x256, .bf16⟩
  | .local _ .vmem, ⟨22, _⟩ => ⟨S2048x256, .bf16⟩
  | .local _ .vmem, ⟨23, _⟩ => ⟨S1x512x256, .f32⟩
  | .local _ .vmem, ⟨24, _⟩ => ⟨S1x512x256, .f32⟩
  | .local _ .vmem, ⟨25, _⟩ => ⟨S2048x512, .bf16⟩
  | .local _ .vmem, ⟨26, _⟩ => ⟨S2048x512, .bf16⟩
  | .local _ .vmem, ⟨27, _⟩ => ⟨S2048x1024, .bf16⟩
  | .local _ .vmem, ⟨28, _⟩ => ⟨S2048x1024, .bf16⟩
  | .local _ .vmem, ⟨29, _⟩ => ⟨S1x512x1024, .f32⟩
  | .local _ .vmem, ⟨30, _⟩ => ⟨S1x512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage1_0 : Fin 1 → Memref sig .tc .vmem S2048x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage3_0 : Fin 1 → Memref sig .tc .vmem S2048x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 1 → Memref sig .tc .vmem S2048x512 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference3Ideal.lean ====
abbrev S2048x1024 : Shape := ⟨2, ![2048, 1024]⟩
abbrev S2048x256 : Shape := ⟨2, ![2048, 256]⟩
abbrev S2048x512 : Shape := ⟨2, ![2048, 512]⟩
abbrev S2048x2048 : Shape := ⟨2, ![2048, 2048]⟩
abbrev S2048x4096 : Shape := ⟨2, ![2048, 4096]⟩
abbrev S1024x1024 : Shape := ⟨2, ![1024, 1024]⟩
abbrev S1024x256 : Shape := ⟨2, ![1024, 256]⟩
abbrev S256x1024 : Shape := ⟨2, ![256, 1024]⟩
abbrev S512x2048 : Shape := ⟨2, ![512, 2048]⟩
abbrev S1024x512 : Shape := ⟨2, ![1024, 512]⟩
abbrev S512x1024 : Shape := ⟨2, ![512, 1024]⟩
abbrev S4096x1024 : Shape := ⟨2, ![4096, 1024]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x256, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x512, .f32⟩
  | .hbm, ⟨7, _⟩ => ⟨S2048x2048, .f32⟩
  | .hbm, ⟨8, _⟩ => ⟨S2048x512, .f32⟩
  | .hbm, ⟨9, _⟩ => ⟨S2048x1024, .f32⟩
  | .hbm, ⟨10, _⟩ => ⟨S2048x1024, .f32⟩
  | .hbm, ⟨11, _⟩ => ⟨S2048x4096, .f32⟩
  | .hbm, ⟨12, _⟩ => ⟨S1024x1024, .f32⟩
  | .hbm, ⟨13, _⟩ => ⟨S1024x1024, .f32⟩
  | .hbm, ⟨14, _⟩ => ⟨S1024x256, .f32⟩
  | .hbm, ⟨15, _⟩ => ⟨S256x1024, .f32⟩
  | .hbm, ⟨16, _⟩ => ⟨S1024x1024, .f32⟩
  | .hbm, ⟨17, _⟩ => ⟨S1024x1024, .f32⟩
  | .hbm, ⟨18, _⟩ => ⟨S2048x512, .f32⟩
  | .hbm, ⟨19, _⟩ => ⟨S512x2048, .f32⟩
  | .hbm, ⟨20, _⟩ => ⟨S1024x512, .f32⟩
  | .hbm, ⟨21, _⟩ => ⟨S512x1024, .f32⟩
  | .hbm, ⟨22, _⟩ => ⟨S4096x1024, .f32⟩
  | .hbm, ⟨23, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Kernel4.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S2048x5632 : Shape := ⟨2, ![2048, 5632]⟩
abbrev S256x1024 : Shape := ⟨2, ![256, 1024]⟩
abbrev S256x5632 : Shape := ⟨2, ![256, 5632]⟩
abbrev S1x1024x1408 : Shape := ⟨3, ![1, 1024, 1408]⟩
abbrev S1024x1408 : Shape := ⟨2, ![1024, 1408]⟩
abbrev S256x1408 : Shape := ⟨2, ![256, 1408]⟩
abbrev S1x1408x1024 : Shape := ⟨3, ![1, 1408, 1024]⟩
abbrev S1408x1024 : Shape := ⟨2, ![1408, 1024]⟩
abbrev S256 : Shape := ⟨1, ![256]⟩
abbrev S256x1 : Shape := ⟨2, ![256, 1]⟩
abbrev S2048x2816 : Shape := ⟨2, ![2048, 2816]⟩
abbrev S256x2816 : Shape := ⟨2, ![256, 2816]⟩
abbrev S1024 : Shape := ⟨1, ![1024]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 26
  | .vmem => 46
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S2x1408x1024, .f32⟩
  | .hbm, ⟨10, _⟩ => ⟨S2x1408x1024, .bf16⟩
  | .hbm, ⟨11, _⟩ => ⟨S2048x5632, .bf16⟩
  | .hbm, ⟨12, _⟩ => ⟨S2048x1024, .f32⟩
  | .hbm, ⟨13, _⟩ => ⟨S2048x1024, .f32⟩
  | .hbm, ⟨14, _⟩ => ⟨S2048x1024, .bf16⟩
  | .hbm, ⟨15, _⟩ => ⟨S2048x1024, .bf16⟩
  | .hbm, ⟨16, _⟩ => ⟨S2048x1024, .f32⟩
  | .hbm, ⟨17, _⟩ => ⟨S2048x5632, .bf16⟩
  | .hbm, ⟨18, _⟩ => ⟨S2048x2816, .bf16⟩
  | .hbm, ⟨19, _⟩ => ⟨S2048x1024, .bf16⟩
  | .hbm, ⟨20, _⟩ => ⟨S1x1024, .f32⟩
  | .hbm, ⟨21, _⟩ => ⟨S1x1024, .f32⟩
  | .hbm, ⟨22, _⟩ => ⟨S4x1024x1408, .f32⟩
  | .hbm, ⟨23, _⟩ => ⟨S2816x1024, .f32⟩
  | .hbm, ⟨24, _⟩ => ⟨S1024x4x1408, .f32⟩
  | .hbm, ⟨25, _⟩ => ⟨S1024x5632, .f32⟩
  | .local _ .vmem, ⟨0, _⟩ => ⟨S256x1024, .f32⟩
  | .local _ .vmem, ⟨1, _⟩ => ⟨S256x1024, .f32⟩
  | .local _ .vmem, ⟨2, _⟩ => ⟨S4x1024x1408, .bf16⟩
  | .local _ .vmem, ⟨3, _⟩ => ⟨S2x1408x1024, .bf16⟩
  | .local _ .vmem, ⟨4, _⟩ => ⟨S1x1024, .f32⟩
  | .local _ .vmem, ⟨5, _⟩ => ⟨S1x1024, .f32⟩
  | .local _ .vmem, ⟨6, _⟩ => ⟨S256x5632, .bf16⟩
  | .local _ .vmem, ⟨7, _⟩ => ⟨S256x5632, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S256x5632, .bf16⟩
  | .local _ .vmem, ⟨22, _⟩ => ⟨S256x5632, .bf16⟩
  | .local _ .vmem, ⟨23, _⟩ => ⟨S4x1024x1408, .bf16⟩
  | .local _ .vmem, ⟨24, _⟩ => ⟨S2x1408x1024, .bf16⟩
  | .local _ .vmem, ⟨25, _⟩ => ⟨S256x1024, .f32⟩
  | .local _ .vmem, ⟨26, _⟩ => ⟨S256x1024, .f32⟩
  | .local _ .vmem, ⟨27, _⟩ => ⟨S256x5632, .bf16⟩
  | .local _ .vmem, ⟨28, _⟩ => ⟨S256x5632, .bf16⟩
  | .local _ .vmem, ⟨29, _⟩ => ⟨S256x2816, .bf16⟩
  | .local _ .vmem, ⟨30, _⟩ => ⟨S256x2816, .bf16⟩
  | .local _ .vmem, ⟨31, _⟩ => ⟨S256x1024, .bf16⟩
  | .local _ .vmem, ⟨32, _⟩ => ⟨S256x1024, .bf16⟩
  | .local _ .vmem, ⟨33, _⟩ => ⟨S1x1024, .f32⟩
  | .local _ .vmem, ⟨34, _⟩ => ⟨S1x1024, .f32⟩
  | .local _ .vmem, ⟨35, _⟩ => ⟨S2048x512, .bf16⟩
  | .local _ .vmem, ⟨36, _⟩ => ⟨S2048x512, .bf16⟩
  | .local _ .vmem, ⟨37, _⟩ => ⟨S2048x1408, .bf16⟩
  | .local _ .vmem, ⟨38, _⟩ => ⟨S2048x1408, .bf16⟩
  | .local _ .vmem, ⟨39, _⟩ => ⟨S1x512x1408, .f32⟩
  | .local _ .vmem, ⟨40, _⟩ => ⟨S1x512x1408, .f32⟩
  | .local _ .vmem, ⟨41, _⟩ => ⟨S2048x1408, .bf16⟩
  | .local _ .vmem, ⟨42, _⟩ => ⟨S2048x1408, .bf16⟩
  | .local _ .vmem, ⟨43, _⟩ => ⟨S2048x1024, .bf16⟩
  | .local _ .vmem, ⟨44, _⟩ => ⟨S1408x1024, .f32⟩
  | .local _ .vmem, ⟨45, _⟩ => ⟨S1408x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg11_0 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg2_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem11_0 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc3_sem0_0 : DmaSem sig := 41
abbrev cc3_sem0_1 : DmaSem sig := 42
abbrev cc3_sem1_0 : DmaSem sig := 43
abbrev cc3_sem2_0 : DmaSem sig := 44
abbrev cc3_sem2_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x5632 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x1024x1408 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x1408x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x5632 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x2816 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c2_i32_11 : BitVec 32 := 2#32
  let v28 : BitVec 32 := Scalar.divsi v16 c2_i32_11
  let c0_i32_12 : BitVec 32 := 0#32
  let v29 : BitVec 1 := Scalar.cmpi .sgt v16 c0_i32_12
  let v30 : BitVec 32 := Scalar.extui v29
  let c0_i32_13 : BitVec 32 := 0#32
  let v31 : BitVec 1 := Scalar.cmpi .slt v16 c0_i32_13
  let v32 : BitVec 32 := Scalar.extui v31
  let v33 : BitVec 32 := Scalar.subi v30 v32
  let c0_i32_14 : BitVec 32 := 0#32
  let v34 : BitVec 1 := Scalar.cmpi .sgt c2_i32_11 c0_i32_14
  let v35 : BitVec 32 := Scalar.extui v34
  let c0_i32_15 : BitVec 32 := 0#32
  let v36 : BitVec 1 := Scalar.cmpi .slt c2_i32_11 c0_i32_15
  let v37 : BitVec 32 := Scalar.extui v36
  let v38 : BitVec 32 := Scalar.subi v35 v37
  let v39 : BitVec 1 := Scalar.cmpi .ne v33 v38
  let v40 : BitVec 32 := Scalar.remsi v16 c2_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v27 v44
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v45.toNat, arg0.toNat, v55.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Kernel5.lean ====
abbrev S144x1024 : Shape := ⟨2, ![144, 1024]⟩
abbrev S16x1024 : Shape := ⟨2, ![16, 1024]⟩

abbrev nBuf : Space → Nat
  | .hbm => 7
  | .vmem => 14
  | .smem => 0
  | _ => 0

abbrev bufTy : (tb : Table) → Fin (tcTables nBuf tb) → BufTy
  | .hbm, ⟨0, _⟩ => ⟨S144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | _, _ => ⟨S144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S144x1024 : Shape := ⟨2, ![144, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S144x1024, .f32⟩
  | .hbm, ⟨6, _⟩ => ⟨S144x1024, .f32⟩
  | .hbm, ⟨7, _⟩ => ⟨S_, .f32⟩
  | .hbm, ⟨8, _⟩ => ⟨S144x1024, .f32⟩
  | .hbm, ⟨9, _⟩ => ⟨S144x1024, .f32⟩
  | .hbm, ⟨10, _⟩ => ⟨S144x1024, .f32⟩
  | .hbm, ⟨11, _⟩ => ⟨S_, .f32⟩
  | .hbm, ⟨12, _⟩ => ⟨S144x1024, .f32⟩
  | .hbm, ⟨13, _⟩ => ⟨S144x1024, .f32⟩
  | .hbm, ⟨14, _⟩ => ⟨S144x1024, .f32⟩
  | .hbm, ⟨15, _⟩ => ⟨S_, .f32⟩
  | .hbm, ⟨16, _⟩ => ⟨S144x1024, .f32⟩
  | .hbm, ⟨17, _⟩ => ⟨S144x1024, .f32⟩
  | .hbm, ⟨18, _⟩ => ⟨S144x1024, .f32⟩
  | .hbm, ⟨19, _⟩ => ⟨S_, .f32⟩
  | .hbm, ⟨20, _⟩ => ⟨S144x1024, .f32⟩
  | .hbm, ⟨21, _⟩ => ⟨S144x1024, .f32⟩
  | .hbm, ⟨22, _⟩ => ⟨S_, .f32⟩
  | .hbm, ⟨23, _⟩ => ⟨S144x1024, .f32⟩
  | .hbm, ⟨24, _⟩ => ⟨S144x1024, .f32⟩
  | .hbm, ⟨25, _⟩ => ⟨S144x1024, .f32⟩
  | .hbm, ⟨26, _⟩ => ⟨S_, .f32⟩
  | .hbm, ⟨27, _⟩ => ⟨S144x1024, .f32⟩
  | .hbm, ⟨28, _⟩ => ⟨S144x1024, .f32⟩
  | .hbm, ⟨29, _⟩ => ⟨S144x1024, .f32⟩
  | .hbm, ⟨30, _⟩ => ⟨S_, .f32⟩
  | .hbm, ⟨31, _⟩ => ⟨S144x1024, .f32⟩
  | .hbm, ⟨32, _⟩ => ⟨S144x1024, .f32⟩
  | .hbm, ⟨33, _⟩ => ⟨S144x1024, .f32⟩
  | .hbm, ⟨34, _⟩ => ⟨S_, .f32⟩
  | .hbm, ⟨35, _⟩ => ⟨S144x1024, .f32⟩
  | .hbm, ⟨36, _⟩ => ⟨S144x1024, .f32⟩
  | _, _ => ⟨S144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Run.Fwd.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The forward call: what one point's body leaves in each output block, and its run. -/

@[expose] public section

-- rectangles of the full extents are compared coordinate by coordinate
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! # REGION 0 of @main: custom_call 0, `cc0_ffn2_fwd` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S4x1024x1408 := Rect.unit (s := S4x1024x1408) ![0, 0, 0] S1x1024x1408.size inb_S4x1024x1408_S1x1024x1408_0_0_0
abbrev r0_2 : Rect S4x1024x1408 := Rect.unit (s := S4x1024x1408) ![2, 0, 0] S1x1024x1408.size inb_S4x1024x1408_S1x1024x1408_2_0_0
abbrev r0_3 : Rect S256x5632 := Rect.unit (s := S256x5632) ![0, 0] S256x1408.size inb_S256x5632_S256x1408_0_0
abbrev r0_4 : Rect S256x5632 := Rect.unit (s := S256x5632) ![0, 1408] S256x1408.size inb_S256x5632_S256x1408_0_1408
abbrev r0_5 : Rect S2x1408x1024 := Rect.unit (s := S2x1408x1024) ![0, 0, 0] S1x1408x1024.size inb_S2x1408x1024_S1x1408x1024_0_0_0
abbrev r0_6 : Rect S4x1024x1408 := Rect.unit (s := S4x1024x1408) ![1, 0, 0] S1x1024x1408.size inb_S4x1024x1408_S1x1024x1408_1_0_0
abbrev r0_7 : Rect S4x1024x1408 := Rect.unit (s := S4x1024x1408) ![3, 0, 0] S1x1024x1408.size inb_S4x1024x1408_S1x1024x1408_3_0_0
abbrev r0_8 : Rect S256x5632 := Rect.unit (s := S256x5632) ![0, 2816] S256x1408.size inb_S256x5632_S256x1408_0_2816
abbrev r0_9 : Rect S256x5632 := Rect.unit (s := S256x5632) ![0, 4224] S256x1408.size inb_S256x5632_S256x1408_0_4224
abbrev r0_10 : Rect S2x1408x1024 := Rect.unit (s := S2x1408x1024) ![1, 0, 0] S1x1408x1024.size inb_S2x1408x1024_S1x1408x1024_1_0_0
abbrev r0_11 : Rect S1x1024 := Rect.unit (s := S1x1024) ![0, 0] S1x1024.size inb_S1x1024_S1x1024_0_0

/-! ## What the body leaves in each output window's buffer -/

/-! ### Values of the body that the stores' payloads, spelt out, would write more than once

    Each is a vector the body binds (often a part call's result), stated over the input windows' blocks and
    numbered on from the skeleton's payload functions (`k0_pay19` …, after `k0_pay18`), so that
    `out0_W` and the values after it name it instead of spelling it out ; the comment after each is the printed function's
    name for the value (a count appended where that name is bound again). -/

def k0_pay19 (x0 : Vec F S256x1024 .f32) (x1 : Vec F S4x1024x1408 .bf16) (x2 : Vec F S2x1408x1024 .bf16) (x3 : Vec F S1x1024 .f32) (x4 : Vec F S1x1024 .f32) : FVec F S256x1024 .bf16 :=
  k0_pay5 (View.ld x0 r0_0) -- `v1`
def k0_pay20 (x0 : Vec F S256x1024 .f32) (x1 : Vec F S4x1024x1408 .bf16) (x2 : Vec F S2x1408x1024 .bf16) (x3 : Vec F S1x1024 .f32) (x4 : Vec F S1x1024 .f32) : FVec F S256x1024 .f32 :=
  k0_pay11 (View.ld x0 r0_0) (View.ld x1 r0_1) (View.ld x1 r0_2) (View.ld x2 r0_5) -- `v30`
def k0_pay21 (x0 : Vec F S256x1024 .f32) (x1 : Vec F S4x1024x1408 .bf16) (x2 : Vec F S2x1408x1024 .bf16) (x3 : Vec F S1x1024 .f32) (x4 : Vec F S1x1024 .f32) : FVec F S256x1024 .f32 :=
  k0_pay17 (k0_pay19 x0 x1 x2 x3 x4) (k0_pay20 x0 x1 x2 x3 x4) (View.ld x1 r0_6) (View.ld x1 r0_7) (View.ld x2 r0_10) -- `v60`
def k0_pay22 (x0 : Vec F S256x1024 .f32) (x1 : Vec F S4x1024x1408 .bf16) (x2 : Vec F S2x1408x1024 .bf16) (x3 : Vec F S1x1024 .f32) (x4 : Vec F S1x1024 .f32) : FVec F S256x1024 .f32 :=
  k0_pay18 (k0_pay19 x0 x1 x2 x3 x4) (k0_pay20 x0 x1 x2 x3 x4) (View.ld x1 r0_6) (View.ld x1 r0_7) (View.ld x2 r0_10) -- `v69`

/-- Window 5's staging buffer after the body, from the input windows' blocks: its 4 stores as pieces, LAST
    FIRST . -/
def out0_5 (x0 : Vec F S256x1024 .f32) (x1 : Vec F S4x1024x1408 .bf16) (x2 : Vec F S2x1408x1024 .bf16) (x3 : Vec F S1x1024 .f32) (x4 : Vec F S1x1024 .f32) : Vec F S256x5632 .bf16 :=
  View.canon [⟨r0_9, k0_pay15 (k0_pay19 x0 x1 x2 x3 x4) (View.ld x1 r0_7)⟩,
    ⟨r0_8, k0_pay14 (k0_pay19 x0 x1 x2 x3 x4) (View.ld x1 r0_6)⟩,
    ⟨r0_4, k0_pay10 (View.ld x0 r0_0) (View.ld x1 r0_2)⟩,
    ⟨r0_3, k0_pay9 (View.ld x0 r0_0) (View.ld x1 r0_1)⟩]

/-- Its stores tile the buffer (checked by evaluation), so they cover it. -/
theorem cover0_5 (p0 : Vec F S256x1408 .bf16) (p1 : Vec F S256x1408 .bf16) (p2 : Vec F S256x1408 .bf16) (p3 : Vec F S256x1408 .bf16) (y : S256x5632.Idx) :
    ∃ pc ∈ ([⟨r0_9, p0⟩, ⟨r0_8, p1⟩, ⟨r0_4, p2⟩, ⟨r0_3, p3⟩] : List (View.Piece (Elt F) S256x5632 .bf16)), y ∈ pc.1.set :=
  View.cover_of_tiled [⟨r0_9, p0⟩, ⟨r0_8, p1⟩, ⟨r0_4, p2⟩, ⟨r0_3, p3⟩] S256x1408.size (by rfl) y

/-- Window 6's staging buffer after the body, from the input windows' blocks: its 1 store as pieces, LAST
    FIRST . -/
def out0_6 (x0 : Vec F S256x1024 .f32) (x1 : Vec F S4x1024x1408 .bf16) (x2 : Vec F S2x1408x1024 .bf16) (x3 : Vec F S1x1024 .f32) (x4 : Vec F S1x1024 .f32) : Vec F S256x1024 .f32 :=
  View.canon [⟨r0_0, k0_pay2 (k0_pay16 (k0_pay19 x0 x1 x2 x3 x4) (k0_pay20 x0 x1 x2 x3 x4) (View.ld x1 r0_6) (View.ld x1 r0_7) (View.ld x2 r0_10))⟩]

/-- Its stores tile the buffer (checked by evaluation), so they cover it. -/
theorem cover0_6 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 7's staging buffer after the body, from the input windows' blocks: its 1 store as pieces, LAST
    FIRST . -/
def out0_7 (x0 : Vec F S256x1024 .f32) (x1 : Vec F S4x1024x1408 .bf16) (x2 : Vec F S2x1408x1024 .bf16) (x3 : Vec F S1x1024 .f32) (x4 : Vec F S1x1024 .f32) : Vec F S256x1024 .f32 :=
  View.canon [⟨r0_0, k0_pay3 (k0_pay21 x0 x1 x2 x3 x4) (k0_pay22 x0 x1 x2 x3 x4) (View.ld x3 r0_11) (View.ld x4 r0_11)⟩]

/-- Its stores tile the buffer (checked by evaluation), so they cover it. -/
theorem cover0_7 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 8's staging buffer after the body, from the input windows' blocks: its 1 store as pieces, LAST
    FIRST . -/
def out0_8 (x0 : Vec F S256x1024 .f32) (x1 : Vec F S4x1024x1408 .bf16) (x2 : Vec F S2x1408x1024 .bf16) (x3 : Vec F S1x1024 .f32) (x4 : Vec F S1x1024 .f32) : Vec F S256x1024 .bf16 :=
  View.canon [⟨r0_0, k0_pay4 (k0_pay21 x0 x1 x2 x3 x4) (k0_pay22 x0 x1 x2 x3 x4) (View.ld x3 r0_11) (View.ld x4 r0_11)⟩]

/-- Its stores tile the buffer (checked by evaluation), so they cover it. -/
theorem cover0_8 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 9's staging buffer after the body, from the input windows' blocks: its 1 store as pieces, LAST
    FIRST . -/
def out0_9 (x0 : Vec F S256x1024 .f32) (x1 : Vec F S4x1024x1408 .bf16) (x2 : Vec F S2x1408x1024 .bf16) (x3 : Vec F S1x1024 .f32) (x4 : Vec F S1x1024 .f32) : Vec F S256x1024 .bf16 :=
  View.canon [⟨r0_0, k0_pay6 (View.ld x0 r0_0)⟩]

/-- Its stores tile the buffer (checked by evaluation), so they cover it. -/
theorem cover0_9 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs , through every part call. -/
theorem sound_kernel0 (c : Dev nD) (E : Set ℕ) (i : grid0.Coords) (arg1 : Memref sig .tc .vmem S256x1024 .f32) (harg1 : arg1.IsWhole) (arg2 : Memref sig .tc .vmem S4x1024x1408 .bf16) (harg2 : arg2.IsWhole) (arg3 : Memref sig .tc .vmem S2x1408x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole)
    (x0 : Vec F S256x1024 .f32) (x1 : Vec F S4x1024x1408 .bf16) (x2 : Vec F S2x1408x1024 .bf16) (x3 : Vec F S1x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4) ∗ owns (c : Thread nD τ) arg9 fullShare (out0_8 x0 x1 x2 x3 x4) ∗ owns (c : Thread nD τ) arg10 fullShare (out0_9 x0 x1 x2 x3 x4)) -∗ K ⟨⟩))
      ⊢ wp frame (wpE (defs₀ (F := F)) Variants.none c none) E (cc0_ffn2_fwd i arg1 harg1 arg2 harg2 arg3 harg3 arg4 harg4 arg5 harg5 arg6 harg6 arg7 harg7 arg8 harg8 arg9 harg9 arg10 harg10) K := by
  simp only [cc0_ffn2_fwd_eq_skeleton]; unfold cc0_ffn2_fwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _ _ _ _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  iexists _; isplitr
  swap; · iexact H9
  ipureintro
  refine (View.read_writes_eq_canon _ _ _ (cover0_9 _)).trans ?_
  rfl

/-! ## The pipeline's proof data -/

/-- The proof data of pipeline 0 on core `c`: the arrays as the region finds them (`V`); after the body at
    point `t` each input's buffer at its block and each output's at `out0_W` of the input blocks; the invariant the
    class's ; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
    | ⟨8, _⟩ => out0_8 (iblk0 V c 0 t) (iblk0 V c 1 t) (iblk0 V c 2 t) (iblk0 V c 3 t) (iblk0 V c 4 t)
    | ⟨9, _⟩ => out0_9 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.Run.Bwd.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The backward call: what one point's body leaves in each output block, the two gradients it sums over the points, and its run. -/

@[expose] public section

-- rectangles of the full extents are compared coordinate by coordinate
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! # REGION 1 of @main: custom_call 1, `cc1_ffn2_bwd` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x1024 := Rect.unit (s := S256x1024) ![0, 0] S256x1024.size inb_S256x1024_S256x1024_0_0
abbrev r1_1 : Rect S1x1024 := Rect.unit (s := S1x1024) ![0, 0] S1x1024.size inb_S1x1024_S1x1024_0_0
abbrev r1_2 : Rect S2x1408x1024 := Rect.unit (s := S2x1408x1024) ![0, 0, 0] S1x1408x1024.size inb_S2x1408x1024_S1x1408x1024_0_0_0
abbrev r1_3 : Rect S256x5632 := Rect.unit (s := S256x5632) ![0, 0] S256x1408.size inb_S256x5632_S256x1408_0_0
abbrev r1_4 : Rect S256x5632 := Rect.unit (s := S256x5632) ![0, 1408] S256x1408.size inb_S256x5632_S256x1408_0_1408
abbrev r1_5 : Rect S256x2816 := Rect.unit (s := S256x2816) ![0, 0] S256x1408.size inb_S256x2816_S256x1408_0_0
abbrev r1_6 : Rect S4x1024x1408 := Rect.unit (s := S4x1024x1408) ![0, 0, 0] S1x1024x1408.size inb_S4x1024x1408_S1x1024x1408_0_0_0
abbrev r1_7 : Rect S4x1024x1408 := Rect.unit (s := S4x1024x1408) ![2, 0, 0] S1x1024x1408.size inb_S4x1024x1408_S1x1024x1408_2_0_0
abbrev r1_8 : Rect S2x1408x1024 := Rect.unit (s := S2x1408x1024) ![1, 0, 0] S1x1408x1024.size inb_S2x1408x1024_S1x1408x1024_1_0_0
abbrev r1_9 : Rect S256x5632 := Rect.unit (s := S256x5632) ![0, 2816] S256x1408.size inb_S256x5632_S256x1408_0_2816
abbrev r1_10 : Rect S256x5632 := Rect.unit (s := S256x5632) ![0, 4224] S256x1408.size inb_S256x5632_S256x1408_0_4224
abbrev r1_11 : Rect S256x2816 := Rect.unit (s := S256x2816) ![0, 1408] S256x1408.size inb_S256x2816_S256x1408_0_1408
abbrev r1_12 : Rect S4x1024x1408 := Rect.unit (s := S4x1024x1408) ![1, 0, 0] S1x1024x1408.size inb_S4x1024x1408_S1x1024x1408_1_0_0
abbrev r1_13 : Rect S4x1024x1408 := Rect.unit (s := S4x1024x1408) ![3, 0, 0] S1x1024x1408.size inb_S4x1024x1408_S1x1024x1408_3_0_0

/-! ## What the body leaves in each output window's buffer -/

/-! ### The values one grid point computes, from its input blocks

    `x0` the cotangent, `x1` the saved residual sum, `x2` the norm's gain, `x3` the saved projections,
    `x4` and `x5` the two weights. -/

/-- The normalised rows. -/
def xh1 (x1 : Vec F S256x1024 .f32) : FVec F S256x1024 .f32 := k1_pay3 (View.ld x1 r1_0)
/-- The gradient at the norm's input. -/
def dr1 (x0 : Vec F S256x1024 .f32) (x1 : Vec F S256x1024 .f32) (x2 : Vec F S1x1024 .f32) : FVec F S256x1024 .f32 :=
  k1_pay4 (View.ld x0 r1_0) (View.ld x1 r1_0) (View.ld x2 r1_1)
/-- The gradient at the first half of the hidden activations. -/
def da1_0 (x0 : Vec F S256x1024 .f32) (x1 : Vec F S256x1024 .f32) (x2 : Vec F S1x1024 .f32) (x5 : Vec F S2x1408x1024 .bf16) : FVec F S256x1408 .f32 :=
  k1_pay11 (dr1 x0 x1 x2) (View.ld x5 r1_2)
/-- The gradient at the second half of the hidden activations. -/
def da1_1 (x0 : Vec F S256x1024 .f32) (x1 : Vec F S256x1024 .f32) (x2 : Vec F S1x1024 .f32) (x5 : Vec F S2x1408x1024 .bf16) : FVec F S256x1408 .f32 :=
  k1_pay22 (k1_pay8 (dr1 x0 x1 x2)) (View.ld x5 r1_8)
/-- The gate of the first half, -/
def gt1_0 (x3 : Vec F S256x5632 .bf16) : FVec F S256x1408 .f32 := k1_pay12 (View.ld x3 r1_3)
/-- its logistic, -/
def sg1_0 (x3 : Vec F S256x5632 .bf16) : FVec F S256x1408 .f32 := k1_pay14 (View.ld x3 r1_3)
/-- the gate times its logistic, -/
def sl1_0 (x3 : Vec F S256x5632 .bf16) : FVec F S256x1408 .f32 := k1_pay15 (View.ld x3 r1_3)
/-- and the factor beside it. -/
def up1_0 (x3 : Vec F S256x5632 .bf16) : FVec F S256x1408 .f32 := k1_pay13 (View.ld x3 r1_4)
/-- The gate of the second half. -/
def gt1_1 (x3 : Vec F S256x5632 .bf16) : FVec F S256x1408 .f32 := k1_pay23 (View.ld x3 r1_9)

/-- Window 6's staging buffer after the body, from the input windows' blocks: its 1 store as pieces, LAST
    FIRST . -/
def out1_6 (x0 : Vec F S256x1024 .f32) (x1 : Vec F S256x1024 .f32) (x2 : Vec F S1x1024 .f32) (x3 : Vec F S256x5632 .bf16) (x4 : Vec F S4x1024x1408 .bf16) (x5 : Vec F S2x1408x1024 .bf16) : Vec F S256x1024 .f32 :=
  View.canon [⟨r1_0, k1_pay32 (k1_pay21 (k1_pay10 (dr1 x0 x1 x2)) (da1_0 x0 x1 x2 x5) (gt1_0 x3) (up1_0 x3) (sg1_0 x3) (sl1_0 x3) (View.ld x4 r1_6) (View.ld x4 r1_7)) (da1_1 x0 x1 x2 x5) (gt1_1 x3) (View.ld x3 r1_10) (View.ld x4 r1_12) (View.ld x4 r1_13)⟩]

/-- Its stores tile the buffer (checked by evaluation), so they cover it. -/
theorem cover1_6 (p0 : Vec F S256x1024 .f32) (y : S256x1024.Idx) :
    ∃ pc ∈ ([⟨r1_0, p0⟩] : List (View.Piece (Elt F) S256x1024 .f32)), y ∈ pc.1.set :=
  View.cover_of_tiled [⟨r1_0, p0⟩] S256x1024.size (by rfl) y

/-- Window 7's staging buffer after the body, from the input windows' blocks: its 4 stores as pieces, LAST
    FIRST . -/
def out1_7 (x0 : Vec F S256x1024 .f32) (x1 : Vec F S256x1024 .f32) (x2 : Vec F S1x1024 .f32) (x3 : Vec F S256x5632 .bf16) (x4 : Vec F S4x1024x1408 .bf16) (x5 : Vec F S2x1408x1024 .bf16) : Vec F S256x5632 .bf16 :=
  View.canon [⟨r1_10, k1_pay31 (da1_1 x0 x1 x2 x5) (gt1_1 x3)⟩,
    ⟨r1_9, k1_pay30 (da1_1 x0 x1 x2 x5) (gt1_1 x3) (View.ld x3 r1_10)⟩,
    ⟨r1_4, k1_pay20 (da1_0 x0 x1 x2 x5) (sl1_0 x3)⟩,
    ⟨r1_3, k1_pay19 (da1_0 x0 x1 x2 x5) (gt1_0 x3) (up1_0 x3) (sg1_0 x3)⟩]

/-- Its stores tile the buffer (checked by evaluation), so they cover it. -/
theorem cover1_7 (p0 : Vec F S256x1408 .bf16) (p1 : Vec F S256x1408 .bf16) (p2 : Vec F S256x1408 .bf16) (p3 : Vec F S256x1408 .bf16) (y : S256x5632.Idx) :
    ∃ pc ∈ ([⟨r1_10, p0⟩, ⟨r1_9, p1⟩, ⟨r1_4, p2⟩, ⟨r1_3, p3⟩] : List (View.Piece (Elt F) S256x5632 .bf16)), y ∈ pc.1.set :=
  View.cover_of_tiled [⟨r1_10, p0⟩, ⟨r1_9, p1⟩, ⟨r1_4, p2⟩, ⟨r1_3, p3⟩] S256x1408.size (by rfl) y

/-- Window 8's staging buffer after the body, from the input windows' blocks: its 2 stores as pieces, LAST
    FIRST . -/
def out1_8 (x0 : Vec F S256x1024 .f32) (x1 : Vec F S256x1024 .f32) (x2 : Vec F S1x1024 .f32) (x3 : Vec F S256x5632 .bf16) (x4 : Vec F S4x1024x1408 .bf16) (x5 : Vec F S2x1408x1024 .bf16) : Vec F S256x2816 .bf16 :=
  View.canon [⟨r1_11, k1_pay29 (gt1_1 x3) (View.ld x3 r1_10)⟩,
    ⟨r1_5, k1_pay18 (up1_0 x3) (sl1_0 x3)⟩]

/-- Its stores tile the buffer (checked by evaluation), so they cover it. -/
theorem cover1_8 (p0 : Vec F S256x1408 .bf16) (p1 : Vec F S256x1408 .bf16) (y : S256x2816.Idx) :
    ∃ pc ∈ ([⟨r1_11, p0⟩, ⟨r1_5, p1⟩] : List (View.Piece (Elt F) S256x2816 .bf16)), y ∈ pc.1.set :=
  View.cover_of_tiled [⟨r1_11, p0⟩, ⟨r1_5, p1⟩] S256x1408.size (by rfl) y

/-- Window 9's staging buffer after the body, from the input windows' blocks: its 1 store as pieces, LAST
    FIRST . -/
def out1_9 (x0 : Vec F S256x1024 .f32) (x1 : Vec F S256x1024 .f32) (x2 : Vec F S1x1024 .f32) (x3 : Vec F S256x5632 .bf16) (x4 : Vec F S4x1024x1408 .bf16) (x5 : Vec F S2x1408x1024 .bf16) : Vec F S256x1024 .bf16 :=
  View.canon [⟨r1_0, k1_pay9 (dr1 x0 x1 x2)⟩]

/-- Its stores tile the buffer (checked by evaluation), so they cover it. -/
theorem cover1_9 (p0 : Vec F S256x1024 .bf16) (y : S256x1024.Idx) :
    ∃ pc ∈ ([⟨r1_0, p0⟩] : List (View.Piece (Elt F) S256x1024 .bf16)), y ∈ pc.1.set :=
  View.cover_of_tiled [⟨r1_0, p0⟩] S256x1024.size (by rfl) y

/-- Window 10's block after the body (the gain's gradient, summed over the points), from what the block held before, `p`: its store . -/
def out1_10 (i : grid1.Coords) (x0 x1 : Vec F S256x1024 .f32) (p : Vec F S1x1024 .f32) : Vec F S1x1024 .f32 :=
  View.canon [⟨r1_1, k1_pay6 (View.ld x0 r1_0) (xh1 x1) (Scalar.cmpi .eq (BitVec.ofNat 32 (i 0).val) 0#32) (View.ld p r1_1) (k1_pay5 (F := F))⟩]

/-- Its stores tile the buffer (checked by evaluation), so they cover it. -/
theorem cover1_10 (p0 : Vec F S1x1024 .f32) (y : S1x1024.Idx) :
    ∃ pc ∈ ([⟨r1_1, p0⟩] : List (View.Piece (Elt F) S1x1024 .f32)), y ∈ pc.1.set :=
  View.cover_of_tiled [⟨r1_1, p0⟩] S1x1024.size (by rfl) y

/-- Window 11's block after the body (the offset's gradient, summed over the points), from what the block held before, `p`: its store . -/
def out1_11 (i : grid1.Coords) (x0 : Vec F S256x1024 .f32) (p : Vec F S1x1024 .f32) : Vec F S1x1024 .f32 :=
  View.canon [⟨r1_1, k1_pay7 (BitVec.ofNat 32 (i 0).val) (View.ld x0 r1_0) (View.ld p r1_1)⟩]

/-- Its stores tile the buffer (checked by evaluation), so they cover it. -/
theorem cover1_11 (p0 : Vec F S1x1024 .f32) (y : S1x1024.Idx) :
    ∃ pc ∈ ([⟨r1_1, p0⟩] : List (View.Piece (Elt F) S1x1024 .f32)), y ∈ pc.1.set :=
  View.cover_of_tiled [⟨r1_1, p0⟩] S1x1024.size (by rfl) y

/-! ## The body's triple -/

set_option maxHeartbeats 1000000 in
/-- The kernel body on whole staging memrefs, the inputs' at read contents `xW`, the two accumulators' at `p10`, `p11` and the other outputs' at anything, runs to
    the continuation holding the inputs' as they were and each output's at `out1_W` of the inputs': the printed functions
    are their skeletons (`Gen.*_eq_skeleton`), which `sl_exec` runs , through every part call. -/
theorem sound_kernel1 (c : Dev nD) (E : Set ℕ) (i : grid1.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x5632 .bf16) (harg4 : arg4.IsWhole) (arg5 : Memref sig .tc .vmem S4x1024x1408 .bf16) (harg5 : arg5.IsWhole) (arg6 : Memref sig .tc .vmem S2x1408x1024 .bf16) (harg6 : arg6.IsWhole) (arg7 : Memref sig .tc .vmem S256x1024 .f32) (harg7 : arg7.IsWhole) (arg8 : Memref sig .tc .vmem S256x5632 .bf16) (harg8 : arg8.IsWhole) (arg9 : Memref sig .tc .vmem S256x2816 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024 .f32) (harg12 : arg12.IsWhole)
    (x0 : Vec F S256x1024 .f32) (x1 : Vec F S256x1024 .f32) (x2 : Vec F S1x1024 .f32) (x3 : Vec F S256x5632 .bf16) (x4 : Vec F S4x1024x1408 .bf16) (x5 : Vec F S2x1408x1024 .bf16) (p10 p11 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare p10 ∗ owns (c : Thread nD τ) arg12 fullShare p11
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5) ∗ owns (c : Thread nD τ) arg10 fullShare (out1_9 x0 x1 x2 x3 x4 x5) ∗ owns (c : Thread nD τ) arg11 fullShare (out1_10 i x0 x1 p10) ∗ owns (c : Thread nD τ) arg12 fullShare (out1_11 i x0 p11)) -∗ K ⟨⟩))
      ⊢ wp frame (wpE (defs₀ (F := F)) Variants.none c none) E (cc1_ffn2_bwd i arg1 harg1 arg2 harg2 arg3 harg3 arg4 harg4 arg5 harg5 arg6 harg6 arg7 harg7 arg8 harg8 arg9 harg9 arg10 harg10 arg11 harg11 arg12 harg12) K := by
  simp only [cc1_ffn2_bwd_eq_skeleton]; unfold cc1_ffn2_bwd_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, Hk⟩
  subst hf0 hf1 hf2 hf3 hf4 hf5 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _)).trans ?_
    rfl
  isplitl [H7]
  · iexists _; isplitr
    swap; · iexact H7
    ipureintro
    refine (View.read_writes_eq_canon _ _ _ (cover1_7 _ _ _ _)).trans ?_
    rfl
  isplitl [H8]
  · iexists _; isplitr
    swap; · iexact H8
    ipureintro
    refine (View.read_writes_eq_canon _ _ _ (cover1_8 _ _)).trans ?_
    rfl
  isplitl [H9]
  · iexists _; isplitr
    swap; · iexact H9
    ipureintro
    refine (View.read_writes_eq_canon _ _ _ (cover1_9 _)).trans ?_
    rfl
  isplitl [H10]
  · iexists _; isplitr
    swap; · iexact H10
    ipureintro
    refine (View.read_writes_eq_canon _ _ _ (cover1_10 _)).trans ?_
    rfl
  iexists _; isplitr
  swap; · iexact H11
  ipureintro
  refine (View.read_writes_eq_canon _ _ _ (cover1_11 _)).trans ?_
  rfl

/-! ## The two accumulated gradients, point by point -/

/-- At the first point the accumulator's earlier contents are not read. -/
theorem out1_10_first (i : grid1.Coords) (h : (i 0).val = 0) (x0 x1 : Vec F S256x1024 .f32) (p q : Vec F S1x1024 .f32) :
    out1_10 i x0 x1 p = out1_10 i x0 x1 q := by
  unfold out1_10; rw [h]; rfl
theorem out1_11_first (i : grid1.Coords) (h : (i 0).val = 0) (x0 : Vec F S256x1024 .f32) (p q : Vec F S1x1024 .f32) :
    out1_11 i x0 p = out1_11 i x0 q := by
  unfold out1_11; rw [h]; rfl

/-- Point `n` of the grid, the last one past its end. -/
def pt1 (n : ℕ) : Fin cfg1.N := ⟨min n 7, by rw [show cfg1.N = 8 from by decide]; omega⟩
theorem pt1_val (t : Fin cfg1.N) : pt1 t.val = t := Fin.ext (by
  have h := t.isLt; have hN : cfg1.N = 8 := by decide
  show min t.val 7 = t.val; omega)

/-- The gain's gradient after point `n`: the sums of the points up to it, added one by one. -/
def acc1_10 (c : Dev nD) : ℕ → Vec F S1x1024 .f32
  | 0 => out1_10 (grid1.coords (pt1 0)) (iblk1 V c 0 (pt1 0)) (iblk1 V c 1 (pt1 0)) (fun _ => FloatOps.ofBits .f32 0#32)
  | n + 1 => out1_10 (grid1.coords (pt1 (n + 1))) (iblk1 V c 0 (pt1 (n + 1))) (iblk1 V c 1 (pt1 (n + 1))) (acc1_10 c n)
/-- The offset's gradient after point `n`. -/
def acc1_11 (c : Dev nD) : ℕ → Vec F S1x1024 .f32
  | 0 => out1_11 (grid1.coords (pt1 0)) (iblk1 V c 0 (pt1 0)) (fun _ => FloatOps.ofBits .f32 0#32)
  | n + 1 => out1_11 (grid1.coords (pt1 (n + 1))) (iblk1 V c 0 (pt1 (n + 1))) (acc1_11 c n)

/-! ## The pipeline's proof data -/

/-- The proof data of pipeline 1 on core `c`: the arrays as the region finds them (`V`); after the body at
    point `t` each input's buffer at its block and each output's at `out1_W` of the input blocks; the invariant the
    class's ; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
    | ⟨9, _⟩ => out1_9 (iblk1 V c 0 t) (iblk1 V c 1 t) (iblk1 V c 2 t) (iblk1 V c 3 t) (iblk1 V c 4 t) (iblk1 V c 5 t)
    | ⟨10, _⟩ => acc1_10 V c t.val
    | ⟨11, _⟩ => acc1_11 V c t.val
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) := by dsimp only [dat1]
theorem after1_10 (c : Dev nD) (t : Fin cfg1.N) : (dat1 V c).after 10 t = acc1_10 V c t.val := by dsimp only [dat1]
theorem after1_11 (c : Dev nD) (t : Fin cfg1.N) : (dat1 V c).after 11 t = acc1_11 V c t.val := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body leaves in the gain's accumulator at point `t`, from whatever it found there: the running sum, -/
theorem step1_10 (c : Dev nD) (t : Fin cfg1.N) (d) :
    out1_10 (grid1.coords t) (iblk1 V c 0 t) (iblk1 V c 1 t) ((dat1 V c).before 10 t d) = acc1_10 V c t.val := by
  rcases t with ⟨_ | n, ht⟩
  · exact out1_10_first _ (by revert ht; decide) _ _ _ _
  · have hN : cfg1.N = 8 := by decide
    rw [(dat1 V c).before_out_kept 10 rfl ⟨n + 1, ht⟩ (Nat.succ_ne_zero n)
      (by rw [Bool.eq_false_iff, Ne, flush1_10]; dsimp only; omega) (fun _ => rfl) (fun _ _ => rfl) d, after1_10]
    show out1_10 _ _ _ (acc1_10 V c n) = out1_10 (grid1.coords (pt1 (n + 1))) (iblk1 V c 0 (pt1 (n + 1))) (iblk1 V c 1 (pt1 (n + 1))) (acc1_10 V c n)
    rw [show pt1 (n + 1) = ⟨n + 1, ht⟩ from pt1_val ⟨n + 1, ht⟩]
/-- and in the offset's. -/
theorem step1_11 (c : Dev nD) (t : Fin cfg1.N) (d) :
    out1_11 (grid1.coords t) (iblk1 V c 0 t) ((dat1 V c).before 11 t d) = acc1_11 V c t.val := by
  rcases t with ⟨_ | n, ht⟩
  · exact out1_11_first _ (by revert ht; decide) _ _ _
  · have hN : cfg1.N = 8 := by decide
    rw [(dat1 V c).before_out_kept 11 rfl ⟨n + 1, ht⟩ (Nat.succ_ne_zero n)
      (by rw [Bool.eq_false_iff, Ne, flush1_11]; dsimp only; omega) (fun _ => rfl) (fun _ _ => rfl) d, after1_11]
    show out1_11 _ _ (acc1_11 V c n) = out1_11 (grid1.coords (pt1 (n + 1))) (iblk1 V c 0 (pt1 (n + 1))) (acc1_11 V c n)
    rw [show pt1 (n + 1) = ⟨n + 1, ht⟩ from pt1_val ⟨n + 1, ht⟩]

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [step1_10 V c t d10, step1_11 V c t d11]
  isplitl [H10]; · iexact H10
  iexact H11

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.Run.DwIn.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The weight-gradient product of the input projection: its body's run. -/

@[expose] public section

-- rectangles of the full extents are compared coordinate by coordinate
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! # REGION 2 of @main: custom_call 2, `cc2_dw_ffn2_in` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x512 := Rect.unit (s := S2048x512) ![0, 0] S2048x512.size inb_S2048x512_S2048x512_0_0
abbrev r2_1 : Rect S2048x1408 := Rect.unit (s := S2048x1408) ![0, 0] S2048x1408.size inb_S2048x1408_S2048x1408_0_0
abbrev r2_2 : Rect S1x512x1408 := Rect.unit (s := S1x512x1408) ![0, 0, 0] S1x512x1408.size inb_S1x512x1408_S1x512x1408_0_0_0

/-! ## What the body leaves in each output window's buffer -/

/-- Window 2's staging buffer after the body, from the input windows' blocks: its 1 store as pieces, LAST
    FIRST . -/
def out2_2 (x0 : Vec F S2048x512 .bf16) (x1 : Vec F S2048x1408 .bf16) : Vec F S1x512x1408 .f32 :=
  View.canon [⟨r2_2, k2_pay1 (View.ld x0 r2_0) (View.ld x1 r2_1)⟩]

/-- Its stores tile the buffer (checked by evaluation), so they cover it. -/
theorem cover2_2 (p0 : Vec F S1x512x1408 .f32) (y : S1x512x1408.Idx) :
    ∃ pc ∈ ([⟨r2_2, p0⟩] : List (View.Piece (Elt F) S1x512x1408 .f32)), y ∈ pc.1.set :=
  View.cover_of_tiled [⟨r2_2, p0⟩] S1x512x1408.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs , through every part call. -/
theorem sound_kernel2 (c : Dev nD) (E : Set ℕ) (i : grid2.Coords) (arg2 : Memref sig .tc .vmem S2048x512 .bf16) (harg2 : arg2.IsWhole) (arg3 : Memref sig .tc .vmem S2048x1408 .bf16) (harg3 : arg3.IsWhole) (arg4 : Memref sig .tc .vmem S1x512x1408 .f32) (harg4 : arg4.IsWhole)
    (x0 : Vec F S2048x512 .bf16) (x1 : Vec F S2048x1408 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2_dw_ffn2_in i arg2 harg2 arg3 harg3 arg4 harg4) K := by
  simp only [cc2_dw_ffn2_in_eq_skeleton]; unfold cc2_dw_ffn2_in_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and each output's at `out2_W` of the input blocks; the invariant the
    class's ; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` , -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated . -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.Run.DwOut.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The weight-gradient product of the output projection: its body's run. -/

@[expose] public section

-- rectangles of the full extents are compared coordinate by coordinate
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! # REGION 3 of @main: custom_call 3, `cc3_dw_ffn2_out` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S2048x1408 := Rect.unit (s := S2048x1408) ![0, 0] S2048x1408.size inb_S2048x1408_S2048x1408_0_0
abbrev r3_1 : Rect S2048x1024 := Rect.unit (s := S2048x1024) ![0, 0] S2048x1024.size inb_S2048x1024_S2048x1024_0_0
abbrev r3_2 : Rect S1408x1024 := Rect.unit (s := S1408x1024) ![0, 0] S1408x1024.size inb_S1408x1024_S1408x1024_0_0

/-! ## What the body leaves in each output window's buffer -/

/-- Window 2's staging buffer after the body, from the input windows' blocks: its 1 store as pieces, LAST
    FIRST . -/
def out3_2 (x0 : Vec F S2048x1408 .bf16) (x1 : Vec F S2048x1024 .bf16) : Vec F S1408x1024 .f32 :=
  View.canon [⟨r3_2, k3_pay1 (View.ld x0 r3_0) (View.ld x1 r3_1)⟩]

/-- Its stores tile the buffer (checked by evaluation), so they cover it. -/
theorem cover3_2 (p0 : Vec F S1408x1024 .f32) (y : S1408x1024.Idx) :
    ∃ pc ∈ ([⟨r3_2, p0⟩] : List (View.Piece (Elt F) S1408x1024 .f32)), y ∈ pc.1.set :=
  View.cover_of_tiled [⟨r3_2, p0⟩] S1408x1024.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs , through every part call. -/
theorem sound_kernel3 (c : Dev nD) (E : Set ℕ) (i : grid3.Coords) (arg2 : Memref sig .tc .vmem S2048x1408 .bf16) (harg2 : arg2.IsWhole) (arg3 : Memref sig .tc .vmem S2048x1024 .bf16) (harg3 : arg3.IsWhole) (arg4 : Memref sig .tc .vmem S1408x1024 .f32) (harg4 : arg4.IsWhole)
    (x0 : Vec F S2048x1408 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3_dw_ffn2_out i arg2 harg2 arg3 harg3 arg4 harg4) K := by
  simp only [cc3_dw_ffn2_out_eq_skeleton]; unfold cc3_dw_ffn2_out_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at
    point `t` each input's buffer at its block and each output's at `out3_W` of the input blocks; the invariant the
    class's ; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` , -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated . -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Run

end
-- ==== Proof.Run.Main.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Run.Fwd
public import proofs.«01_k».proof.Proof.Run.Bwd
public import proofs.«01_k».proof.Proof.Run.DwIn
public import proofs.«01_k».proof.Proof.Run.DwOut

/-! The run: the four calls and the host code around them, from the launch to the results. -/

@[expose] public section

-- rectangles of the full extents are compared coordinate by coordinate
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v9, main_v10]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered  (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered  (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered  (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered . -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After `hostOps4`. -/
abbrev W6 : Dev nD → Valuation τ sig (Elt F) := fun c => StableHlo.after hostOps4 (W5 m ρ c)
/-- A reference `hostOps4` does not write keeps its contents across it. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
theorem W6_args (c : Dev nD) : ∀ a ∈ argRefs, W6 m ρ c (Proc.devRef .tc a) = m ((c : Thread nD τ).loc a) :=
  fun a ha => (W6_of m ρ c a (hostOps4_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution terminates without a fault, leaves every buffer at
    the last boundary's contents `W6` and every counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c => h c, funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c)⟩, h.2⟩) (run_main m ρ)

end Cert.KernelIdeal.Run

end
-- ==== Proof.Same.lean ====
module

public import proofs.«01_k».proof.Defs
public import proofs.«01_k».proof.Proof.Gen.Kernel
public import proofs.«01_k».proof.Proof.Gen.KernelIdeal

/-! The program and its idealization are one program, no operation having been replaced: their body tables are equal. -/

@[expose] public section

set_option maxHeartbeats 0
set_option maxRecDepth 65536

namespace Cert.Same

open Idealize.ShloMosaic

theorem fwd : @Cert.Kernel.cc0_ffn2_fwd Bits _ Cert.Kernel.Gen.facts = @Cert.KernelIdeal.cc0_ffn2_fwd Bits _ Cert.KernelIdeal.Gen.facts := rfl
theorem bwd : @Cert.Kernel.cc1_ffn2_bwd Bits _ Cert.Kernel.Gen.facts = @Cert.KernelIdeal.cc1_ffn2_bwd Bits _ Cert.KernelIdeal.Gen.facts := rfl
theorem dw_in : @Cert.Kernel.cc2_dw_ffn2_in Bits _ Cert.Kernel.Gen.facts = @Cert.KernelIdeal.cc2_dw_ffn2_in Bits _ Cert.KernelIdeal.Gen.facts := rfl
theorem dw_out : @Cert.Kernel.cc3_dw_ffn2_out Bits _ Cert.Kernel.Gen.facts = @Cert.KernelIdeal.cc3_dw_ffn2_out Bits _ Cert.KernelIdeal.Gen.facts := rfl

/-- The kernels' table. -/
theorem bodies : @Cert.Kernel.defs₀ Bits _ Cert.Kernel.Gen.facts = @Cert.KernelIdeal.defs₀ Bits _ Cert.KernelIdeal.Gen.facts := by
  unfold Cert.Kernel.defs₀ Cert.KernelIdeal.defs₀
  rw [fwd, bwd, dw_in, dw_out]
  refine congrArg Defs.onTc ?_
  funext l a
  match l, a with
  | 0, (t, s) => rfl
  | 1, (t, s) => rfl
  | 2, (t, s) => rfl
  | 3, (t, s) => rfl
  | ⟨n + 4, h⟩, _ => exact absurd h (Nat.not_lt.2 (Nat.le_add_left _ _))

/-- The whole table. -/
theorem table : @Cert.Kernel.defs Bits _ Cert.Kernel.Gen.facts = @Cert.KernelIdeal.defs Bits _ Cert.KernelIdeal.Gen.facts := by
  show Pipeline.defs (@Cert.Kernel.pcfgs Bits Cert.Kernel.Gen.facts) (@Cert.Kernel.defs₀ Bits _ Cert.Kernel.Gen.facts)
    = Pipeline.defs (@Cert.KernelIdeal.pcfgs Bits Cert.KernelIdeal.Gen.facts) (@Cert.KernelIdeal.defs₀ Bits _ Cert.KernelIdeal.Gen.facts)
  rw [bodies]
  rfl

set_option maxRecDepth 65536 in
set_option maxHeartbeats 0 in
/-- The program text. -/
theorem text : @Cert.Kernel.main Bits _ Cert.Kernel.Gen.facts = @Cert.KernelIdeal.main Bits _ Cert.KernelIdeal.Gen.facts := rfl

end Cert.Same
-- ==== Proof.Value.Spec.lean ====
module

public import Idealize.ShloMosaic.PureOps.Ideal
public import Idealize.ShloMosaic.Lib.Pointwise

/-! The feed-forward sublayer over the real numbers: the forward pass and the gradients, row by row, as the kernel's formulas
    state them; and how the extended reals' operations read on real numbers. -/

@[expose] public section

noncomputable section

namespace Cert.Ffn

open Idealize.ShloMosaic

/-! ## Real numbers inside the extended reals -/

/-- A finite sum of real numbers is taken among the real numbers. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- An extended real that is neither infinity is a real number. -/
theorem exists_coe_of_abs_lt {x : EReal} (h : max x (-x) < ⊤) : ∃ r : ℝ, x = (r : EReal) := by
  induction x using EReal.rec with
  | bot => simp at h
  | coe r => exact ⟨r, rfl⟩
  | top => simp at h

/-- The factor of the residual branch. -/
def α : ℝ := 9975792 * (2 ^ 23)⁻¹
/-- The number added to the variance. -/
def ε : ℝ := 10995116 * (2 ^ 40)⁻¹

theorem ε_pos : 0 < ε := by unfold ε; positivity

theorem ofBits_alpha : Ideal.ofBits .f32 0x3F9837F0#32 = ((α : ℝ) : EReal) := by
  simp [Ideal.ofBits, Ideal.ieee, α]
theorem ofBits_eps : Ideal.ofBits .f32 0x3727C5AC#32 = ((ε : ℝ) : EReal) := by
  simp [Ideal.ofBits, Ideal.ieee, ε]
theorem ofBits_half : Ideal.ofBits .f32 0x3F000000#32 = ((1 / 2 : ℝ) : EReal) := by
  have h : (1 / 2 : ℝ) = 8388608 * (2 ^ 24)⁻¹ := by norm_num
  rw [h]; simp [Ideal.ofBits, Ideal.ieee]
theorem ofBits_neg_half : Ideal.ofBits .f32 0xBF000000#32 = ((-(1 / 2) : ℝ) : EReal) := by
  have h : (1 / 2 : ℝ) = 8388608 * (2 ^ 24)⁻¹ := by norm_num
  rw [h]; simp [Ideal.ofBits, Ideal.ieee]
theorem ofBits_1024 : Ideal.ofBits .f32 0x44800000#32 = ((1024 : ℝ) : EReal) := by
  have h : (1024 : ℝ) = 8388608 * (2 ^ 13)⁻¹ := by norm_num
  rw [h]; simp [Ideal.ofBits, Ideal.ieee]
theorem ofBits_one : Ideal.ofBits .f32 0x3F800000#32 = ((1 : ℝ) : EReal) := by
  have h : (1 : ℝ) = 8388608 * (2 ^ 23)⁻¹ := by norm_num
  rw [h]; simp [Ideal.ofBits, Ideal.ieee]

/-- Division by 1024. -/
theorem div_1024 (x : ℝ) : Ideal.div (x : EReal) ((1024 : ℝ) : EReal) = ((x * (1 / 1024) : ℝ) : EReal) := by
  rw [Ideal.div_coe (by norm_num), EReal.coe_mul]

/-- The reciprocal square root of a positive number. -/
theorem rsqrt_pos {x : ℝ} (h : 0 < x) : Ideal.rsqrt (x : EReal) = (((√x)⁻¹ : ℝ) : EReal) := by
  rw [Ideal.rsqrt_coe, if_neg (not_lt.2 h.le), if_neg h.ne']

/-! ## The layer norm of a row and its gradient -/

/-- The mean of a row. -/
def mean (r : Fin 1024 → ℝ) : ℝ := (∑ k, r k) * (1 / 1024)
/-- The row less its mean. -/
def cen (r : Fin 1024 → ℝ) (d : Fin 1024) : ℝ := r d - mean r
/-- The row's variance. -/
def var (r : Fin 1024 → ℝ) : ℝ := mean fun d => cen r d * cen r d
/-- The reciprocal standard deviation. -/
def rstd (r : Fin 1024 → ℝ) : ℝ := (√(var r + ε))⁻¹
/-- The normalised row. -/
def xh (r : Fin 1024 → ℝ) (d : Fin 1024) : ℝ := cen r d * rstd r
/-- The layer norm with gain and bias. -/
def ln (r g b : Fin 1024 → ℝ) (d : Fin 1024) : ℝ := xh r d * g d + b d
/-- The gradient of the layer norm in its row, from the gradient `dy` of its result. -/
def dr (dy r g : Fin 1024 → ℝ) (d : Fin 1024) : ℝ :=
  rstd r * (dy d * g d - mean (fun k => dy k * g k) - xh r d * mean (fun k => dy k * g k * xh r k))

theorem var_eps_pos (r : Fin 1024 → ℝ) : 0 < var r + ε := by
  have : 0 ≤ var r := mul_nonneg (Finset.sum_nonneg fun d _ => mul_self_nonneg _) (by norm_num)
  linarith [ε_pos]

/-! ## The feed-forward part of a row and its gradient -/

/-- The logistic function. -/
def sg (x : ℝ) : ℝ := (1 + Real.exp (-x))⁻¹
/-- A column among the gates. -/
def gcol (j : Fin 2816) : Fin 5632 := ⟨j.val, by have := j.isLt; omega⟩
/-- Its partner among the values that the gates multiply. -/
def ucol (j : Fin 2816) : Fin 5632 := ⟨2816 + j.val, by have := j.isLt; omega⟩
/-- The first product. -/
def hid (x : Fin 1024 → ℝ) (W : Fin 1024 → Fin 5632 → ℝ) (c : Fin 5632) : ℝ := ∑ k, x k * W k c
/-- The gated activation. -/
def act (x : Fin 1024 → ℝ) (W : Fin 1024 → Fin 5632 → ℝ) (j : Fin 2816) : ℝ :=
  hid x W (gcol j) * sg (hid x W (gcol j)) * hid x W (ucol j)
/-- The residual sum, before its layer norm. -/
def res (x : Fin 1024 → ℝ) (W : Fin 1024 → Fin 5632 → ℝ) (V : Fin 2816 → Fin 1024 → ℝ) (d : Fin 1024) : ℝ :=
  α * x d + 1 / 2 * ∑ j, act x W j * V j d
/-- The gradient of the second product's result. -/
def df (dr : Fin 1024 → ℝ) (d : Fin 1024) : ℝ := 1 / 2 * dr d
/-- The gradient of the activation. -/
def da (dr : Fin 1024 → ℝ) (V : Fin 2816 → Fin 1024 → ℝ) (j : Fin 2816) : ℝ := ∑ d, df dr d * V j d
/-- The gradient of a gate. -/
def dgate (x : Fin 1024 → ℝ) (W : Fin 1024 → Fin 5632 → ℝ) (V : Fin 2816 → Fin 1024 → ℝ) (dr : Fin 1024 → ℝ) (j : Fin 2816) : ℝ :=
  da dr V j * hid x W (ucol j) * (sg (hid x W (gcol j)) * (1 + hid x W (gcol j) * (1 - sg (hid x W (gcol j)))))
/-- The gradient of the value that a gate multiplies. -/
def dval (x : Fin 1024 → ℝ) (W : Fin 1024 → Fin 5632 → ℝ) (V : Fin 2816 → Fin 1024 → ℝ) (dr : Fin 1024 → ℝ) (j : Fin 2816) : ℝ :=
  da dr V j * (hid x W (gcol j) * sg (hid x W (gcol j)))
/-- The gradient of the first product's result: the gates' columns, then the values'. -/
def dhid (x : Fin 1024 → ℝ) (W : Fin 1024 → Fin 5632 → ℝ) (V : Fin 2816 → Fin 1024 → ℝ) (dr : Fin 1024 → ℝ) (c : Fin 5632) : ℝ :=
  if h : c.val < 2816 then dgate x W V dr ⟨c.val, h⟩ else dval x W V dr ⟨c.val - 2816, by have := c.isLt; omega⟩
/-- The gradient of the sublayer's input. -/
def dx (x : Fin 1024 → ℝ) (W : Fin 1024 → Fin 5632 → ℝ) (V : Fin 2816 → Fin 1024 → ℝ) (dr : Fin 1024 → ℝ) (d : Fin 1024) : ℝ :=
  α * dr d + ∑ j, dgate x W V dr j * W d (gcol j) + ∑ j, dval x W V dr j * W d (ucol j)

theorem dhid_gcol (x : Fin 1024 → ℝ) (W : Fin 1024 → Fin 5632 → ℝ) (V : Fin 2816 → Fin 1024 → ℝ) (dr : Fin 1024 → ℝ) (j : Fin 2816) :
    dhid x W V dr (gcol j) = dgate x W V dr j := by
  rw [dhid, dif_pos (show (gcol j).val < 2816 from j.isLt)]; rfl

theorem dhid_ucol (x : Fin 1024 → ℝ) (W : Fin 1024 → Fin 5632 → ℝ) (V : Fin 2816 → Fin 1024 → ℝ) (dr : Fin 1024 → ℝ) (j : Fin 2816) :
    dhid x W V dr (ucol j) = dval x W V dr j := by
  rw [dhid, dif_neg (show ¬ (ucol j).val < 2816 by simp [ucol])]
  exact congrArg _ (Fin.ext (Nat.add_sub_cancel_left 2816 j.val))

/-- A sum over the hidden columns is the sum over its two halves. -/
theorem sum_halves {M : Type} [AddCommMonoid M] (f : Fin 2816 → M) :
    ∑ j, f j = ∑ j : Fin 1408, f ⟨j.val, by have := j.isLt; omega⟩ + ∑ j : Fin 1408, f ⟨1408 + j.val, by have := j.isLt; omega⟩ :=
  Fin.sum_univ_two_halves 1408 1408 rfl f

/-- A sum over all columns of the first product is the sum over the gates and over the values. -/
theorem sum_columns {M : Type} [AddCommMonoid M] (f : Fin 5632 → M) :
    ∑ c, f c = ∑ j, f (gcol j) + ∑ j, f (ucol j) :=
  Fin.sum_univ_two_halves 2816 2816 rfl f

end Cert.Ffn

end
-- ==== Proof.Value.Pay.lean ====
module

public import proofs.«01_k».proof.Proof.Gen.KernelIdeal.Skeleton
public import proofs.«01_k».proof.Proof.Value.Spec
public import Idealize.ShloMosaic.Lib.Pointwise

/-! What each block that the forward and backward bodies compute holds at an element, when the blocks it reads hold real
    numbers. -/

@[expose] public section

set_option maxRecDepth 16384

noncomputable section

namespace Cert.KernelIdeal.Value

open Idealize.ShloMosaic Cert.KernelIdeal.Gen Cert.Ffn

/-- A block of two axes that holds the real numbers `f`. -/
def Is2 {a b : ℕ} (v : (⟨2, ![a, b]⟩ : Shape).Idx → EReal) (f : Fin a → Fin b → ℝ) : Prop :=
  ∀ r c, v (ix2 r c) = ((f r c : ℝ) : EReal)

/-- One slab of a stack, holding the real numbers `f`. -/
def Is3 {a b : ℕ} (v : (⟨3, ![1, a, b]⟩ : Shape).Idx → EReal) (f : Fin a → Fin b → ℝ) : Prop :=
  ∀ r c, v (ix3 0 r c) = ((f r c : ℝ) : EReal)

/-! ## The layer norm -/

section LayerNorm

variable {v0 v1 : Vec Ideal S256x1024 .f32} {v2 : Vec Ideal S1x1024 .f32} {R Y : Fin 256 → Fin 1024 → ℝ} {g : Fin 1024 → ℝ}

theorem pay1_1 (h1 : Is2 v1 R) : Is2 (k1_pay1 v1) fun r => cen (R r) := fun r c => by
  pointwise [k1_pay1]
  simp only [h1 r, sum_coe, ofBits_1024, div_1024, ← EReal.coe_sub]
  rfl

theorem pay1_2 (h1 : Is2 v1 R) : Is2 (k1_pay2 v1) fun r _ => rstd (R r) := fun r c => by
  pointwise [k1_pay2]
  simp only [pay1_1 h1 r, sum_coe, ofBits_1024, div_1024, ofBits_eps, ← EReal.coe_mul, ← EReal.coe_add]
  exact rsqrt_pos (var_eps_pos (R r))

theorem pay1_3 (h1 : Is2 v1 R) : Is2 (k1_pay3 v1) fun r => xh (R r) := fun r c => by
  pointwise [k1_pay3]
  rw [pay1_1 h1 r, pay1_2 h1 r, ← EReal.coe_mul]
  rfl

theorem pay1_4 (h0 : Is2 v0 Y) (h1 : Is2 v1 R) (h2 : Is2 v2 fun _ => g) : Is2 (k1_pay4 v0 v1 v2) fun r => dr (Y r) (R r) g :=
  fun r c => by
  pointwise [k1_pay4]
  simp only [h0 r, h2 0, pay1_2 h1 r, pay1_3 h1 r, sum_coe, ofBits_1024, div_1024, ← EReal.coe_mul, ← EReal.coe_sub]
  rfl

end LayerNorm

/-! ## The forward pass of a block of rows

`X` is the block of rows, `G` and `U` the columns of the first weight for a half of the gates and of the values, `N` the rows of
the second weight for that half. -/

section Forward

variable {X : Fin 256 → Fin 1024 → ℝ} {G U : Fin 1024 → Fin 1408 → ℝ} {N : Fin 1408 → Fin 1024 → ℝ}

/-- What half of the hidden columns adds to the second product. -/
def halfOut (X : Fin 256 → Fin 1024 → ℝ) (G U : Fin 1024 → Fin 1408 → ℝ) (N : Fin 1408 → Fin 1024 → ℝ) (r : Fin 256) (d : Fin 1024) : ℝ :=
  ∑ j, (∑ k, X r k * G k j) * sg (∑ k, X r k * G k j) * (∑ k, X r k * U k j) * N j d

theorem pay0_5 {v0 : Vec Ideal S256x1024 .f32} (h0 : Is2 v0 X) : Is2 (k0_pay5 (F := Ideal) v0) X := fun r c => by
  pointwise [k0_pay5]
  exact h0 r c

theorem pay0_6 {v0 : Vec Ideal S256x1024 .f32} (h0 : Is2 v0 X) : Is2 (k0_pay6 (F := Ideal) v0) X := fun r c => by
  pointwise [k0_pay6]
  exact pay0_5 h0 r c

theorem pay0_7 {v0 : Vec Ideal S256x1024 .f32} {v7 : Vec Ideal S1x1024x1408 .bf16} (h0 : Is2 v0 X) (hg : Is3 v7 G) :
    Is2 (k0_pay7 (F := Ideal) v0 v7) fun r j => ∑ k, X r k * G k j := fun r c => by
  pointwise [k0_pay7]
  simp only [pay0_5 h0 r, hg _ c, sum_coe, ← EReal.coe_mul]

theorem pay0_8 {v0 : Vec Ideal S256x1024 .f32} {v10 : Vec Ideal S1x1024x1408 .bf16} (h0 : Is2 v0 X) (hu : Is3 v10 U) :
    Is2 (k0_pay8 (F := Ideal) v0 v10) fun r j => ∑ k, X r k * U k j := fun r c => by
  pointwise [k0_pay8]
  simp only [pay0_5 h0 r, hu _ c, sum_coe, ← EReal.coe_mul]

theorem pay0_9 {v0 : Vec Ideal S256x1024 .f32} {v7 : Vec Ideal S1x1024x1408 .bf16} (h0 : Is2 v0 X) (hg : Is3 v7 G) :
    Is2 (k0_pay9 (F := Ideal) v0 v7) fun r j => ∑ k, X r k * G k j := fun r c => by
  pointwise [k0_pay9]
  exact pay0_7 h0 hg r c

theorem pay0_10 {v0 : Vec Ideal S256x1024 .f32} {v10 : Vec Ideal S1x1024x1408 .bf16} (h0 : Is2 v0 X) (hu : Is3 v10 U) :
    Is2 (k0_pay10 (F := Ideal) v0 v10) fun r j => ∑ k, X r k * U k j := fun r c => by
  pointwise [k0_pay10]
  exact pay0_8 h0 hu r c

theorem pay0_11 {v0 : Vec Ideal S256x1024 .f32} {v7 v10 : Vec Ideal S1x1024x1408 .bf16} {v25 : Vec Ideal S1x1408x1024 .bf16}
    (h0 : Is2 v0 X) (hg : Is3 v7 G) (hu : Is3 v10 U) (hn : Is3 v25 N) :
    Is2 (k0_pay11 (F := Ideal) v0 v7 v10 v25) fun r d => α * X r d + 1 / 2 * halfOut X G U N r d := fun r c => by
  pointwise [k0_pay11]
  simp only [h0 r, pay0_7 h0 hg r, pay0_8 h0 hu r, hn _ c, Ideal.logistic_coe, ofBits_alpha, ofBits_half, sum_coe,
    ← EReal.coe_mul, ← EReal.coe_add]
  rfl

theorem pay0_12 {v1 : FVec Ideal S256x1024 .bf16} {v31 : Vec Ideal S1x1024x1408 .bf16} (h1 : Is2 v1 X) (hg : Is3 v31 G) :
    Is2 (k0_pay12 (F := Ideal) v1 v31) fun r j => ∑ k, X r k * G k j := fun r c => by
  pointwise [k0_pay12]
  simp only [h1 r, hg _ c, sum_coe, ← EReal.coe_mul]

theorem pay0_13 {v1 : FVec Ideal S256x1024 .bf16} {v34 : Vec Ideal S1x1024x1408 .bf16} (h1 : Is2 v1 X) (hu : Is3 v34 U) :
    Is2 (k0_pay13 (F := Ideal) v1 v34) fun r j => ∑ k, X r k * U k j := fun r c => by
  pointwise [k0_pay13]
  simp only [h1 r, hu _ c, sum_coe, ← EReal.coe_mul]

theorem pay0_14 {v1 : FVec Ideal S256x1024 .bf16} {v31 : Vec Ideal S1x1024x1408 .bf16} (h1 : Is2 v1 X) (hg : Is3 v31 G) :
    Is2 (k0_pay14 (F := Ideal) v1 v31) fun r j => ∑ k, X r k * G k j := fun r c => by
  pointwise [k0_pay14]
  exact pay0_12 h1 hg r c

theorem pay0_15 {v1 : FVec Ideal S256x1024 .bf16} {v34 : Vec Ideal S1x1024x1408 .bf16} (h1 : Is2 v1 X) (hu : Is3 v34 U) :
    Is2 (k0_pay15 (F := Ideal) v1 v34) fun r j => ∑ k, X r k * U k j := fun r c => by
  pointwise [k0_pay15]
  exact pay0_13 h1 hu r c

section Tail

variable {v1 : FVec Ideal S256x1024 .bf16} {v30 : FVec Ideal S256x1024 .f32} {v31 v34 : Vec Ideal S1x1024x1408 .bf16}
  {v49 : Vec Ideal S1x1408x1024 .bf16} {A : Fin 256 → Fin 1024 → ℝ}

theorem pay0_16 (h1 : Is2 v1 X) (ha : Is2 v30 A) (hg : Is3 v31 G) (hu : Is3 v34 U) (hn : Is3 v49 N) :
    Is2 (k0_pay16 (F := Ideal) v1 v30 v31 v34 v49) fun r d => A r d + 1 / 2 * halfOut X G U N r d := fun r c => by
  pointwise [k0_pay16]
  simp only [ha r, pay0_12 h1 hg r, pay0_13 h1 hu r, hn _ c, Ideal.logistic_coe, ofBits_half, sum_coe,
    ← EReal.coe_mul, ← EReal.coe_add]
  rfl

variable {R : Fin 256 → Fin 1024 → ℝ}

theorem pay0_17 (h : Is2 (k0_pay16 (F := Ideal) v1 v30 v31 v34 v49) R) :
    Is2 (k0_pay17 (F := Ideal) v1 v30 v31 v34 v49) fun r => cen (R r) := fun r c => by
  pointwise [k0_pay17]
  simp only [h r, sum_coe, ofBits_1024, div_1024, ← EReal.coe_sub]
  rfl

theorem pay0_18 (h : Is2 (k0_pay16 (F := Ideal) v1 v30 v31 v34 v49) R) :
    Is2 (k0_pay18 (F := Ideal) v1 v30 v31 v34 v49) fun r _ => rstd (R r) := fun r c => by
  pointwise [k0_pay18]
  simp only [pay0_17 h r, sum_coe, ofBits_1024, div_1024, ofBits_eps, ← EReal.coe_mul, ← EReal.coe_add]
  exact rsqrt_pos (var_eps_pos (R r))

end Tail

section Norm

variable {v60 v69 : FVec Ideal S256x1024 .f32} {v71 v74 : Vec Ideal S1x1024 .f32} {R : Fin 256 → Fin 1024 → ℝ} {g b : Fin 1024 → ℝ}

theorem pay0_1 (h60 : Is2 v60 fun r => cen (R r)) (h69 : Is2 v69 fun r _ => rstd (R r)) (h71 : Is2 v71 fun _ => g) (h74 : Is2 v74 fun _ => b) :
    Is2 (k0_pay1 (F := Ideal) v60 v69 v71 v74) fun r => ln (R r) g b := fun r c => by
  pointwise [k0_pay1]
  simp only [h60 r, h69 r, h71 0, h74 0, ← EReal.coe_mul, ← EReal.coe_add]
  rfl

theorem pay0_3 (h60 : Is2 v60 fun r => cen (R r)) (h69 : Is2 v69 fun r _ => rstd (R r)) (h71 : Is2 v71 fun _ => g) (h74 : Is2 v74 fun _ => b) :
    Is2 (k0_pay3 (F := Ideal) v60 v69 v71 v74) fun r => ln (R r) g b := fun r c => by
  pointwise [k0_pay3]
  exact pay0_1 h60 h69 h71 h74 r c

theorem pay0_2 {v54 : FVec Ideal S256x1024 .f32} (h : Is2 v54 R) : Is2 (k0_pay2 (F := Ideal) v54) R := fun r c => by
  pointwise [k0_pay2]
  exact h r c

end Norm

end Forward

/-! ## The backward pass of a block of rows

`D` is the gradient of the residual sum, `A` the gradient of the activation, `P` the gates, `Q` the values that they multiply. -/

section Backward

variable {D C E : Fin 256 → Fin 1024 → ℝ} {A P Q : Fin 256 → Fin 1408 → ℝ} {N : Fin 1408 → Fin 1024 → ℝ} {G U : Fin 1024 → Fin 1408 → ℝ}

/-- The gradient of a gate from its parts. -/
def gateOf (a p q : ℝ) : ℝ := a * q * (sg p * (1 + p * (1 - sg p)))

theorem pay1_8 {v36 : FVec Ideal S256x1024 .f32} (h : Is2 v36 D) : Is2 (k1_pay8 (F := Ideal) v36) fun r => df (D r) := fun r c => by
  pointwise [k1_pay8]
  rw [h r, ofBits_half, ← EReal.coe_mul]
  rfl

theorem pay1_9 {v36 : FVec Ideal S256x1024 .f32} (h : Is2 v36 D) : Is2 (k1_pay9 (F := Ideal) v36) fun r => df (D r) := fun r c => by
  pointwise [k1_pay9]
  exact pay1_8 h r c

theorem pay1_10 {v36 : FVec Ideal S256x1024 .f32} (h : Is2 v36 D) : Is2 (k1_pay10 (F := Ideal) v36) fun r d => α * D r d := fun r c => by
  pointwise [k1_pay10]
  rw [h r, ofBits_alpha, ← EReal.coe_mul]

theorem pay1_11 {v36 : FVec Ideal S256x1024 .f32} {v66 : Vec Ideal S1x1408x1024 .bf16} (h : Is2 v36 D) (hn : Is3 v66 N) :
    Is2 (k1_pay11 (F := Ideal) v36 v66) fun r j => ∑ d, df (D r) d * N j d := fun r c => by
  pointwise [k1_pay11]
  simp only [pay1_8 h r, hn c, sum_coe, ← EReal.coe_mul]

theorem pay1_22 {v60 : FVec Ideal S256x1024 .bf16} {v105 : Vec Ideal S1x1408x1024 .bf16} (h : Is2 v60 E) (hn : Is3 v105 N) :
    Is2 (k1_pay22 (F := Ideal) v60 v105) fun r j => ∑ d, E r d * N j d := fun r c => by
  pointwise [k1_pay22]
  simp only [h r, hn c, sum_coe, ← EReal.coe_mul]

theorem pay1_12 {v : Vec Ideal S256x1408 .bf16} (h : Is2 v P) : Is2 (k1_pay12 (F := Ideal) v) P := fun r c => by
  pointwise [k1_pay12]
  exact h r c
theorem pay1_13 {v : Vec Ideal S256x1408 .bf16} (h : Is2 v P) : Is2 (k1_pay13 (F := Ideal) v) P := fun r c => by
  pointwise [k1_pay13]
  exact h r c
theorem pay1_23 {v : Vec Ideal S256x1408 .bf16} (h : Is2 v P) : Is2 (k1_pay23 (F := Ideal) v) P := fun r c => by
  pointwise [k1_pay23]
  exact h r c
theorem pay1_24 {v : Vec Ideal S256x1408 .bf16} (h : Is2 v P) : Is2 (k1_pay24 (F := Ideal) v) P := fun r c => by
  pointwise [k1_pay24]
  exact h r c

theorem pay1_14 {v : Vec Ideal S256x1408 .bf16} (h : Is2 v P) : Is2 (k1_pay14 (F := Ideal) v) fun r j => sg (P r j) := fun r c => by
  pointwise [k1_pay14]
  rw [pay1_12 h r c, Ideal.logistic_coe]
  rfl
theorem pay1_25 {v : FVec Ideal S256x1408 .f32} (h : Is2 v P) : Is2 (k1_pay25 (F := Ideal) v) fun r j => sg (P r j) := fun r c => by
  pointwise [k1_pay25]
  rw [h r c, Ideal.logistic_coe]
  rfl

theorem pay1_15 {v : Vec Ideal S256x1408 .bf16} (h : Is2 v P) : Is2 (k1_pay15 (F := Ideal) v) fun r j => P r j * sg (P r j) := fun r c => by
  pointwise [k1_pay15]
  rw [pay1_12 h r c, pay1_14 h r c, ← EReal.coe_mul]
theorem pay1_26 {v : FVec Ideal S256x1408 .f32} (h : Is2 v P) : Is2 (k1_pay26 (F := Ideal) v) fun r j => P r j * sg (P r j) := fun r c => by
  pointwise [k1_pay26]
  rw [h r c, pay1_25 h r c, ← EReal.coe_mul]

section First

variable {v68 v70 v72 v73 v74 : FVec Ideal S256x1408 .f32}

theorem pay1_16 (ha : Is2 v68 A) (hp : Is2 v70 P) (hq : Is2 v72 Q) (hs : Is2 v73 fun r j => sg (P r j)) :
    Is2 (k1_pay16 (F := Ideal) v68 v70 v72 v73) fun r j => gateOf (A r j) (P r j) (Q r j) := fun r c => by
  pointwise [k1_pay16]
  rw [ha r c, hp r c, hq r c, hs r c, ← EReal.coe_one]
  simp only [← EReal.coe_mul, ← EReal.coe_add, ← EReal.coe_sub]
  rfl

theorem pay1_19 (ha : Is2 v68 A) (hp : Is2 v70 P) (hq : Is2 v72 Q) (hs : Is2 v73 fun r j => sg (P r j)) :
    Is2 (k1_pay19 (F := Ideal) v68 v70 v72 v73) fun r j => gateOf (A r j) (P r j) (Q r j) := fun r c => by
  pointwise [k1_pay19]
  exact pay1_16 ha hp hq hs r c

theorem pay1_17 (ha : Is2 v68 A) (hl : Is2 v74 fun r j => P r j * sg (P r j)) :
    Is2 (k1_pay17 (F := Ideal) v68 v74) fun r j => A r j * (P r j * sg (P r j)) := fun r c => by
  pointwise [k1_pay17]
  rw [ha r c, hl r c, ← EReal.coe_mul]

theorem pay1_20 (ha : Is2 v68 A) (hl : Is2 v74 fun r j => P r j * sg (P r j)) :
    Is2 (k1_pay20 (F := Ideal) v68 v74) fun r j => A r j * (P r j * sg (P r j)) := fun r c => by
  pointwise [k1_pay20]
  exact pay1_17 ha hl r c

theorem pay1_18 (hq : Is2 v72 Q) (hl : Is2 v74 fun r j => P r j * sg (P r j)) :
    Is2 (k1_pay18 (F := Ideal) v72 v74) fun r j => P r j * sg (P r j) * Q r j := fun r c => by
  pointwise [k1_pay18]
  rw [hq r c, hl r c, ← EReal.coe_mul]

theorem pay1_21 {v65 : FVec Ideal S256x1024 .f32} {v97 v101 : Vec Ideal S1x1024x1408 .bf16} (hc : Is2 v65 C)
    (ha : Is2 v68 A) (hp : Is2 v70 P) (hq : Is2 v72 Q) (hs : Is2 v73 fun r j => sg (P r j))
    (hl : Is2 v74 fun r j => P r j * sg (P r j)) (hg : Is3 v97 G) (hu : Is3 v101 U) :
    Is2 (k1_pay21 (F := Ideal) v65 v68 v70 v72 v73 v74 v97 v101) fun r d =>
      C r d + (∑ j, gateOf (A r j) (P r j) (Q r j) * G d j) + ∑ j, A r j * (P r j * sg (P r j)) * U d j := fun r c => by
  pointwise [k1_pay21]
  simp only [hc r, pay1_16 ha hp hq hs r, pay1_17 ha hl r, hg c, hu c, sum_coe, ← EReal.coe_mul, ← EReal.coe_add]

end First

section Second

variable {v107 v109 : FVec Ideal S256x1408 .f32} {v110 : Vec Ideal S256x1408 .bf16}

theorem pay1_27 (ha : Is2 v107 A) (hp : Is2 v109 P) (hq : Is2 v110 Q) :
    Is2 (k1_pay27 (F := Ideal) v107 v109 v110) fun r j => gateOf (A r j) (P r j) (Q r j) := fun r c => by
  pointwise [k1_pay27]
  rw [ha r c, hp r c, pay1_24 hq r c, pay1_25 hp r c, ← EReal.coe_one]
  simp only [← EReal.coe_mul, ← EReal.coe_add, ← EReal.coe_sub]
  rfl

theorem pay1_30 (ha : Is2 v107 A) (hp : Is2 v109 P) (hq : Is2 v110 Q) :
    Is2 (k1_pay30 (F := Ideal) v107 v109 v110) fun r j => gateOf (A r j) (P r j) (Q r j) := fun r c => by
  pointwise [k1_pay30]
  exact pay1_27 ha hp hq r c

theorem pay1_28 (ha : Is2 v107 A) (hp : Is2 v109 P) :
    Is2 (k1_pay28 (F := Ideal) v107 v109) fun r j => A r j * (P r j * sg (P r j)) := fun r c => by
  pointwise [k1_pay28]
  rw [ha r c, pay1_26 hp r c, ← EReal.coe_mul]

theorem pay1_31 (ha : Is2 v107 A) (hp : Is2 v109 P) :
    Is2 (k1_pay31 (F := Ideal) v107 v109) fun r j => A r j * (P r j * sg (P r j)) := fun r c => by
  pointwise [k1_pay31]
  exact pay1_28 ha hp r c

theorem pay1_29 (hp : Is2 v109 P) (hq : Is2 v110 Q) :
    Is2 (k1_pay29 (F := Ideal) v109 v110) fun r j => P r j * sg (P r j) * Q r j := fun r c => by
  pointwise [k1_pay29]
  rw [pay1_26 hp r c, pay1_24 hq r c, ← EReal.coe_mul]

theorem pay1_32 {v104 : FVec Ideal S256x1024 .f32} {v136 v140 : Vec Ideal S1x1024x1408 .bf16} (hc : Is2 v104 C)
    (ha : Is2 v107 A) (hp : Is2 v109 P) (hq : Is2 v110 Q) (hg : Is3 v136 G) (hu : Is3 v140 U) :
    Is2 (k1_pay32 (F := Ideal) v104 v107 v109 v110 v136 v140) fun r d =>
      C r d + (∑ j, gateOf (A r j) (P r j) (Q r j) * G d j) + ∑ j, A r j * (P r j * sg (P r j)) * U d j := fun r c => by
  pointwise [k1_pay32]
  simp only [hc r, pay1_27 ha hp hq r, pay1_28 ha hp r, hg c, hu c, sum_coe, ← EReal.coe_mul, ← EReal.coe_add]

end Second

end Backward

/-! ## The products of the weights' gradients -/

theorem pay2_1 {v0 : Vec Ideal S2048x512 .bf16} {v1 : Vec Ideal S2048x1408 .bf16} {X : Fin 2048 → Fin 512 → ℝ}
    {Y : Fin 2048 → Fin 1408 → ℝ} (h0 : Is2 v0 X) (h1 : Is2 v1 Y) :
    Is3 (k2_pay1 (F := Ideal) v0 v1) fun k j => ∑ t, X t k * Y t j := fun r c => by
  pointwise [k2_pay1]
  simp only [h0 _ r, h1 _ c, sum_coe, ← EReal.coe_mul]

theorem pay3_1 {v0 : Vec Ideal S2048x1408 .bf16} {v1 : Vec Ideal S2048x1024 .bf16} {X : Fin 2048 → Fin 1408 → ℝ}
    {Y : Fin 2048 → Fin 1024 → ℝ} (h0 : Is2 v0 X) (h1 : Is2 v1 Y) :
    Is2 (k3_pay1 (F := Ideal) v0 v1) fun k j => ∑ t, X t k * Y t j := fun r c => by
  pointwise [k3_pay1]
  simp only [h0 _ r, h1 _ c, sum_coe, ← EReal.coe_mul]

end Cert.KernelIdeal.Value

end
-- ==== Proof.Value.Fwd.lean ====
module

public import proofs.«01_k».proof.Proof.Value.Pay
public import proofs.«01_k».proof.Proof.Run.Fwd
public import Idealize.ShloMosaic.Lib.Pipeline.ValueKit

/-! The forward call: what each array it writes holds after its run, when the arrays it reads hold real numbers. -/

@[expose] public section

set_option maxRecDepth 16384

noncomputable section

namespace Cert.KernelIdeal.Value

open Idealize.ShloMosaic Idealize.ShloMosaic.TcCoe Cert.KernelIdeal.Gen Cert.KernelIdeal.Run Cert.Ffn
open Idealize.ShloMosaic.Pipeline (Dat)

/-- A stack of matrices that holds the real numbers `f`. -/
def IsStack {n a b : ℕ} (v : (⟨3, ![n, a, b]⟩ : Shape).Idx → EReal) (f : Fin n → Fin a → Fin b → ℝ) : Prop :=
  ∀ q r c, v (ix3 q r c) = ((f q r c : ℝ) : EReal)

/-- Column `j` of the `q`-th quarter of the first weight's columns. -/
def quarter (q : Fin 4) (j : Fin 1408) : Fin 5632 := ⟨q.val * 1408 + j.val, by have := q.isLt; have := j.isLt; omega⟩
/-- Row `j` of the `q`-th half of the second weight's rows. -/
def half (q : Fin 2) (j : Fin 1408) : Fin 2816 := ⟨q.val * 1408 + j.val, by have := q.isLt; have := j.isLt; omega⟩

/-- The order in which the kernel keeps the columns of the first product: a half of the gates, the values they multiply, and
    the same of the other half. -/
def lay (c : Fin 5632) : Fin 5632 :=
  ⟨if c.val < 1408 then c.val else if c.val < 2816 then c.val + 1408 else if c.val < 4224 then c.val - 1408 else c.val, by
    have := c.isLt; split_ifs <;> omega⟩

section Block

variable {x0 : Vec Ideal S256x1024 .f32} {x1 : Vec Ideal S4x1024x1408 .bf16} {x2 : Vec Ideal S2x1408x1024 .bf16}
  {x3 x4 : Vec Ideal S1x1024 .f32} {X : Fin 256 → Fin 1024 → ℝ} {W : Fin 1024 → Fin 5632 → ℝ} {V : Fin 2816 → Fin 1024 → ℝ}
  {g b : Fin 1024 → ℝ}

theorem ld_x (h : Is2 x0 X) : Is2 (View.ld x0 r0_0) X := fun r c => by
  pointwise
  exact h r c

theorem ld_row {v : Vec Ideal S1x1024 .f32} (h : Is2 v fun _ => g) : Is2 (View.ld v r0_11) fun _ => g := fun r c => by
  pointwise
  exact h 0 c

theorem ld_w0 (h : IsStack x1 fun q k j => W k (quarter q j)) : Is3 (View.ld x1 r0_1) fun k j => W k (quarter 0 j) := fun r c => by
  pointwise
  exact h 0 r c
theorem ld_w1 (h : IsStack x1 fun q k j => W k (quarter q j)) : Is3 (View.ld x1 r0_6) fun k j => W k (quarter 1 j) := fun r c => by
  pointwise
  exact h 1 r c
theorem ld_w2 (h : IsStack x1 fun q k j => W k (quarter q j)) : Is3 (View.ld x1 r0_2) fun k j => W k (quarter 2 j) := fun r c => by
  pointwise
  exact h 2 r c
theorem ld_w3 (h : IsStack x1 fun q k j => W k (quarter q j)) : Is3 (View.ld x1 r0_7) fun k j => W k (quarter 3 j) := fun r c => by
  pointwise
  exact h 3 r c
theorem ld_v0 (h : IsStack x2 fun q j d => V (half q j) d) : Is3 (View.ld x2 r0_5) fun j d => V (half 0 j) d := fun r c => by
  pointwise
  exact h 0 r c
theorem ld_v1 (h : IsStack x2 fun q j d => V (half q j) d) : Is3 (View.ld x2 r0_10) fun j d => V (half 1 j) d := fun r c => by
  pointwise
  exact h 1 r c

/-! ### The two halves of the hidden columns -/

theorem quarter_zero (j : Fin 1408) : quarter 0 j = gcol (half 0 j) := rfl
theorem quarter_one (j : Fin 1408) : quarter 1 j = gcol (half 1 j) := rfl
theorem quarter_two (j : Fin 1408) : quarter 2 j = ucol (half 0 j) := Fin.ext (by simp only [quarter, ucol, half]; omega)
theorem quarter_three (j : Fin 1408) : quarter 3 j = ucol (half 1 j) := Fin.ext (by simp only [quarter, ucol, half]; omega)

theorem sum_half (f : Fin 2816 → ℝ) : ∑ j, f j = ∑ j, f (half 0 j) + ∑ j, f (half 1 j) := by
  rw [sum_halves]
  congr 1 <;> exact Finset.sum_congr rfl fun j _ => congrArg f (Fin.ext (by simp only [half]; omega))

theorem halfOut_zero (r : Fin 256) (d : Fin 1024) :
    halfOut X (fun k j => W k (quarter 0 j)) (fun k j => W k (quarter 2 j)) (fun j d => V (half 0 j) d) r d
      = ∑ j, act (X r) W (half 0 j) * V (half 0 j) d := by
  simp only [quarter_zero, quarter_two]
  rfl

theorem halfOut_one (r : Fin 256) (d : Fin 1024) :
    halfOut X (fun k j => W k (quarter 1 j)) (fun k j => W k (quarter 3 j)) (fun j d => V (half 1 j) d) r d
      = ∑ j, act (X r) W (half 1 j) * V (half 1 j) d := by
  simp only [quarter_one, quarter_three]
  rfl

/-! ### The blocks that the body leaves -/

/-- The residual sum of the block's rows. -/
theorem blk_res (h0 : Is2 x0 X) (h1 : IsStack x1 fun q k j => W k (quarter q j)) (h2 : IsStack x2 fun q j d => V (half q j) d) :
    Is2 (k0_pay16 (F := Ideal) (k0_pay19 x0 x1 x2 x3 x4) (k0_pay20 x0 x1 x2 x3 x4) (View.ld x1 r0_6) (View.ld x1 r0_7) (View.ld x2 r0_10))
      fun r => res (X r) W V := fun r d => by
  have h := pay0_16 (pay0_5 (ld_x h0)) (pay0_11 (ld_x h0) (ld_w0 h1) (ld_w2 h1) (ld_v0 h2)) (ld_w1 h1) (ld_w3 h1) (ld_v1 h2) r d
  refine h.trans (congrArg _ ?_)
  beta_reduce
  rw [halfOut_zero, halfOut_one, res, sum_half]
  ring

theorem blk_cen (h0 : Is2 x0 X) (h1 : IsStack x1 fun q k j => W k (quarter q j)) (h2 : IsStack x2 fun q j d => V (half q j) d) :
    Is2 (k0_pay21 (F := Ideal) x0 x1 x2 x3 x4) fun r => cen (res (X r) W V) := pay0_17 (blk_res h0 h1 h2)

theorem blk_rstd (h0 : Is2 x0 X) (h1 : IsStack x1 fun q k j => W k (quarter q j)) (h2 : IsStack x2 fun q j d => V (half q j) d) :
    Is2 (k0_pay22 (F := Ideal) x0 x1 x2 x3 x4) fun r _ => rstd (res (X r) W V) := pay0_18 (blk_res h0 h1 h2)

theorem blk0_6 (h0 : Is2 x0 X) (h1 : IsStack x1 fun q k j => W k (quarter q j)) (h2 : IsStack x2 fun q j d => V (half q j) d) :
    Is2 (out0_6 (F := Ideal) x0 x1 x2 x3 x4) fun r => res (X r) W V := by
  unfold out0_6
  rw [View.canon_unit_zero (by decide)]
  exact pay0_2 (blk_res h0 h1 h2)

theorem blk0_7 (h0 : Is2 x0 X) (h1 : IsStack x1 fun q k j => W k (quarter q j)) (h2 : IsStack x2 fun q j d => V (half q j) d)
    (h3 : Is2 x3 fun _ => g) (h4 : Is2 x4 fun _ => b) :
    Is2 (out0_7 (F := Ideal) x0 x1 x2 x3 x4) fun r => ln (res (X r) W V) g b := by
  unfold out0_7
  rw [View.canon_unit_zero (by decide)]
  exact pay0_3 (blk_cen h0 h1 h2) (blk_rstd h0 h1 h2) (ld_row h3) (ld_row h4)

theorem blk0_9 (h0 : Is2 x0 X) : Is2 (out0_9 (F := Ideal) x0 x1 x2 x3 x4) X := by
  unfold out0_9
  rw [View.canon_unit_zero (by decide)]
  exact pay0_6 (ld_x h0)

/-- A block of columns of the kernel's order is a quarter of the weight's columns. -/
theorem piece_emb (o : ℕ) (inb) (q : Fin 4) (hq : ∀ j : Fin 1408, ∀ h, lay ⟨o + j.val, h⟩ = quarter q j) (a : Fin 256) (j : Fin 1408)
    (f : Fin 256 → Fin 5632 → ℝ) :
    f ((Rect.unit (s := S256x5632) ![0, o] S256x1408.size inb).emb (ix2 a j) 0)
        (lay ((Rect.unit (s := S256x5632) ![0, o] S256x1408.size inb).emb (ix2 a j) 1)) = f a (quarter q j) := by
  have e0 : (Rect.unit (s := S256x5632) ![0, o] S256x1408.size inb).emb (ix2 a j) 0 = a :=
    Fin.ext ((ValueKit.rect_emb_unit_val _ _ _ _ _).trans (Nat.zero_add _))
  have e1 : ((Rect.unit (s := S256x5632) ![0, o] S256x1408.size inb).emb (ix2 a j) 1 : Fin 5632).val = o + j.val :=
    ValueKit.rect_emb_unit_val _ _ _ _ _
  have e2 : (Rect.unit (s := S256x5632) ![0, o] S256x1408.size inb).emb (ix2 a j) 1 = ⟨o + j.val, e1 ▸ Fin.isLt _⟩ := Fin.ext e1
  rw [e0, e2]
  exact congrArg (f a) (hq j _)

theorem lay_0 (j : Fin 1408) (h) : lay ⟨0 + j.val, h⟩ = quarter 0 j := Fin.ext (by
  have := j.isLt; simp only [lay, quarter]; split_ifs <;> simp <;> omega)
theorem lay_1 (j : Fin 1408) (h) : lay ⟨1408 + j.val, h⟩ = quarter 2 j := Fin.ext (by
  have := j.isLt; simp only [lay, quarter]; split_ifs <;> simp <;> omega)
theorem lay_2 (j : Fin 1408) (h) : lay ⟨2816 + j.val, h⟩ = quarter 1 j := Fin.ext (by
  have := j.isLt; simp only [lay, quarter]; split_ifs <;> simp <;> omega)
theorem lay_3 (j : Fin 1408) (h) : lay ⟨4224 + j.val, h⟩ = quarter 3 j := Fin.ext (by
  have := j.isLt; simp only [lay, quarter]; split_ifs <;> simp <;> omega)

/-- The first product, in the kernel's order of columns. -/
theorem blk0_5 (h0 : Is2 x0 X) (h1 : IsStack x1 fun q k j => W k (quarter q j)) :
    Is2 (out0_5 (F := Ideal) x0 x1 x2 x3 x4) fun r c => hid (X r) W (lay c) := fun r c => by
  have hG := View.canon_apply_of_pieces (Val := Elt Ideal) (S := S256x5632) (e := .bf16)
    (fun y => ((hid (X (y 0)) W (lay (y 1)) : ℝ) : EReal))
    [⟨r0_9, k0_pay15 (k0_pay19 x0 x1 x2 x3 x4) (View.ld x1 r0_7)⟩,
      ⟨r0_8, k0_pay14 (k0_pay19 x0 x1 x2 x3 x4) (View.ld x1 r0_6)⟩,
      ⟨r0_4, k0_pay10 (View.ld x0 r0_0) (View.ld x1 r0_2)⟩,
      ⟨r0_3, k0_pay9 (View.ld x0 r0_0) (View.ld x1 r0_1)⟩] ?_ (ix2 r c) (cover0_5 _ _ _ _ _)
  · exact hG
  · intro p hp
    simp only [List.mem_cons, List.not_mem_nil, or_false] at hp
    rcases hp with rfl | rfl | rfl | rfl <;> intro x <;> idx_vars x
    · exact (pay0_15 (pay0_5 (ld_x h0)) (ld_w3 h1) x0 x1).trans
        (congrArg _ (piece_emb 4224 _ 3 lay_3 _ _ fun r c => hid (X r) W c).symm)
    · exact (pay0_14 (pay0_5 (ld_x h0)) (ld_w1 h1) x0 x1).trans
        (congrArg _ (piece_emb 2816 _ 1 lay_2 _ _ fun r c => hid (X r) W c).symm)
    · exact (pay0_10 (ld_x h0) (ld_w2 h1) x0 x1).trans
        (congrArg _ (piece_emb 1408 _ 2 lay_1 _ _ fun r c => hid (X r) W c).symm)
    · exact (pay0_9 (ld_x h0) (ld_w0 h1) x0 x1).trans
        (congrArg _ (piece_emb 0 _ 0 lay_0 _ _ fun r c => hid (X r) W c).symm)

end Block

/-! ## The arrays after the run -/

section Arrays

variable (V : (c : Dev nD) → (b : Ref sig .tc) → Buf (Elt Ideal) ((c : Thread nD τ).loc b)) (c : Dev nD)
variable {X : Fin 2048 → Fin 1024 → ℝ} {W : Fin 1024 → Fin 5632 → ℝ} {U : Fin 2816 → Fin 1024 → ℝ} {g b : Fin 1024 → ℝ}

/-- Row `r` of tile `t`. -/
def tileRow (t : Fin 8) (r : Fin 256) : Fin 2048 := ⟨t.val * 256 + r.val, by have := t.isLt; have := r.isLt; omega⟩

theorem index0_0 : ∀ t : Fin cfg0.N, win0_0.index t = ![(grid0.coords t 0).val, 0] := by decide +kernel
theorem index0_1 : ∀ t : Fin cfg0.N, win0_1.index t = ![0, 0, 0] := by decide +kernel
theorem index0_2 : ∀ t : Fin cfg0.N, win0_2.index t = ![0, 0, 0] := by decide +kernel
theorem index0_3 : ∀ t : Fin cfg0.N, win0_3.index t = ![0, 0] := by decide +kernel
theorem index0_4 : ∀ t : Fin cfg0.N, win0_4.index t = ![0, 0] := by decide +kernel
theorem index0_5 : ∀ t : Fin cfg0.N, win0_5.index t = ![(grid0.coords t 0).val, 0] := by decide +kernel
theorem index0_6 : ∀ t : Fin cfg0.N, win0_6.index t = ![(grid0.coords t 0).val, 0] := by decide +kernel
theorem index0_7 : ∀ t : Fin cfg0.N, win0_7.index t = ![(grid0.coords t 0).val, 0] := by decide +kernel
theorem index0_9 : ∀ t : Fin cfg0.N, win0_9.index t = ![(grid0.coords t 0).val, 0] := by decide +kernel

theorem iblk0_0 (h : Is2 (V c main_arg0) X) (t : Fin cfg0.N) :
    Is2 (iblk0 V c 0 t) fun r => X (tileRow (grid0.coords t 0) r) := fun r d => by
  blk_simp [iblk0]
  refine Eq.trans (congrArg (V c main_arg0) ?_) (h _ d)
  blk_ext [index0_0]
  rfl

theorem iblk0_1 (h : IsStack (V c main_v2) fun q k j => W k (quarter q j)) (t : Fin cfg0.N) :
    IsStack (iblk0 V c 1 t) fun q k j => W k (quarter q j) := fun q k j => by
  blk_simp [iblk0]
  refine Eq.trans (congrArg (V c main_v2) ?_) (h q k j)
  blk_ext [index0_1]

theorem iblk0_2 (h : IsStack (V c main_v4) fun q j d => U (half q j) d) (t : Fin cfg0.N) :
    IsStack (iblk0 V c 2 t) fun q j d => U (half q j) d := fun q k j => by
  blk_simp [iblk0]
  refine Eq.trans (congrArg (V c main_v4) ?_) (h q k j)
  blk_ext [index0_2]

theorem iblk0_3 (h : Is2 (V c main_arg3) fun _ => g) (t : Fin cfg0.N) : Is2 (iblk0 V c 3 t) fun _ => g := fun r d => by
  blk_simp [iblk0]
  refine Eq.trans (congrArg (V c main_arg3) ?_) (h r d)
  blk_ext [index0_3]

theorem iblk0_4 (h : Is2 (V c main_arg4) fun _ => b) (t : Fin cfg0.N) : Is2 (iblk0 V c 4 t) fun _ => b := fun r d => by
  blk_simp [iblk0]
  refine Eq.trans (congrArg (V c main_arg4) ?_) (h r d)
  blk_ext [index0_4]

theorem emb0_5 (t : Fin cfg0.N) (r : Fin 256) (d : Fin 5632) :
    ((cfg0.win 5).blk t).view.emb (ix2 r d) = ix2 (tileRow (grid0.coords t 0) r) d := by
  blk_ext [index0_5]
  rfl

theorem emb0_6 (t : Fin cfg0.N) (r : Fin 256) (d : Fin 1024) :
    ((cfg0.win 6).blk t).view.emb (ix2 r d) = ix2 (tileRow (grid0.coords t 0) r) d := by
  blk_ext [index0_6]
  rfl

theorem emb0_7 (t : Fin cfg0.N) (r : Fin 256) (d : Fin 1024) :
    ((cfg0.win 7).blk t).view.emb (ix2 r d) = ix2 (tileRow (grid0.coords t 0) r) d := by
  blk_ext [index0_7]
  rfl

theorem emb0_9 (t : Fin cfg0.N) (r : Fin 256) (d : Fin 1024) :
    ((cfg0.win 9).blk t).view.emb (ix2 r d) = ix2 (tileRow (grid0.coords t 0) r) d := by
  blk_ext [index0_9]
  rfl

/-- Window 5's array: the first product, in the kernel's order of columns. -/
theorem arr0_5 (hX : Is2 (V c main_arg0) X) (hW : IsStack (V c main_v2) fun q k j => W k (quarter q j)) : Is2 ((dat0 V c).arrAt 5 cfg0.N) (fun r c => hid (X r) W (lay c)) := fun r d => by
  refine (dat0 V c).arrAt_forall_of_covers 5 (fun i v => v = ((((fun r c => hid (X r) W (lay c)) : Fin 2048 → Fin _ → ℝ) (i 0) (i 1) : ℝ) : EReal)) (by decide +kernel) (fun t hf y => ?_) (ix2 r d)
  blk_simp
  rw [after0_5]
  idx_vars y
  refine (blk0_5 (iblk0_0 V c hX t) (iblk0_1 V c hW t) y0 y1).trans ?_
  have e := emb0_5 t y0 y1
  rw [e]
  rfl

/-- Window 6's array: the residual sum. -/
theorem arr0_6 (hX : Is2 (V c main_arg0) X) (hW : IsStack (V c main_v2) fun q k j => W k (quarter q j)) (hV : IsStack (V c main_v4) fun q j d => U (half q j) d) : Is2 ((dat0 V c).arrAt 6 cfg0.N) (fun r => res (X r) W U) := fun r d => by
  refine (dat0 V c).arrAt_forall_of_covers 6 (fun i v => v = ((((fun r => res (X r) W U) : Fin 2048 → Fin _ → ℝ) (i 0) (i 1) : ℝ) : EReal)) (by decide +kernel) (fun t hf y => ?_) (ix2 r d)
  blk_simp
  rw [after0_6]
  idx_vars y
  refine (blk0_6 (iblk0_0 V c hX t) (iblk0_1 V c hW t) (iblk0_2 V c hV t) y0 y1).trans ?_
  have e := emb0_6 t y0 y1
  rw [e]
  rfl

/-- Window 7's array: the layer norm of the residual sum. -/
theorem arr0_7 (hX : Is2 (V c main_arg0) X) (hW : IsStack (V c main_v2) fun q k j => W k (quarter q j)) (hV : IsStack (V c main_v4) fun q j d => U (half q j) d) (hg : Is2 (V c main_arg3) fun _ => g) (hb : Is2 (V c main_arg4) fun _ => b) : Is2 ((dat0 V c).arrAt 7 cfg0.N) (fun r => ln (res (X r) W U) g b) := fun r d => by
  refine (dat0 V c).arrAt_forall_of_covers 7 (fun i v => v = ((((fun r => ln (res (X r) W U) g b) : Fin 2048 → Fin _ → ℝ) (i 0) (i 1) : ℝ) : EReal)) (by decide +kernel) (fun t hf y => ?_) (ix2 r d)
  blk_simp
  rw [after0_7]
  idx_vars y
  refine (blk0_7 (iblk0_0 V c hX t) (iblk0_1 V c hW t) (iblk0_2 V c hV t) (iblk0_3 V c hg t) (iblk0_4 V c hb t) y0 y1).trans ?_
  have e := emb0_7 t y0 y1
  rw [e]
  rfl

/-- Window 9's array: the input. -/
theorem arr0_9 (hX : Is2 (V c main_arg0) X) : Is2 ((dat0 V c).arrAt 9 cfg0.N) (X) := fun r d => by
  refine (dat0 V c).arrAt_forall_of_covers 9 (fun i v => v = ((((X) : Fin 2048 → Fin _ → ℝ) (i 0) (i 1) : ℝ) : EReal)) (by decide +kernel) (fun t hf y => ?_) (ix2 r d)
  blk_simp
  rw [after0_9]
  idx_vars y
  refine (blk0_9 (iblk0_0 V c hX t) y0 y1).trans ?_
  have e := emb0_9 t y0 y1
  rw [e]
  rfl

end Arrays

end Cert.KernelIdeal.Value

end
-- ==== Proof.Value.Bwd.lean ====
module

public import proofs.«01_k».proof.Proof.Value.Fwd
public import proofs.«01_k».proof.Proof.Run.Bwd

/-! The backward call: what each array it writes holds after its run, when the arrays it reads hold real numbers. -/

@[expose] public section

set_option maxRecDepth 16384

noncomputable section

namespace Cert.KernelIdeal.Value

open Idealize.ShloMosaic Idealize.ShloMosaic.TcCoe Cert.KernelIdeal.Gen Cert.KernelIdeal.Run Cert.Ffn
open Idealize.ShloMosaic.Pipeline (Dat)

section Block

variable {x0 x1 : Vec Ideal S256x1024 .f32} {x2 : Vec Ideal S1x1024 .f32} {x3 : Vec Ideal S256x5632 .bf16}
  {x4 : Vec Ideal S4x1024x1408 .bf16} {x5 : Vec Ideal S2x1408x1024 .bf16}
  {Y R X : Fin 256 → Fin 1024 → ℝ} {W : Fin 1024 → Fin 5632 → ℝ} {V : Fin 2816 → Fin 1024 → ℝ} {g : Fin 1024 → ℝ}

/-! ### What the body loads -/

/-- A block of columns of the saved first product. -/
theorem ld_h {f : Fin 256 → Fin 5632 → ℝ} (h : Is2 x3 fun r c => f r (lay c)) (o : ℕ) (inb) (q : Fin 4)
    (hq : ∀ j : Fin 1408, ∀ h, lay ⟨o + j.val, h⟩ = quarter q j) :
    Is2 (View.ld x3 (Rect.unit (s := S256x5632) ![0, o] S256x1408.size inb)) fun r j => f r (quarter q j) := fun r j => by
  have e : View.ld x3 (Rect.unit (s := S256x5632) ![0, o] S256x1408.size inb) (ix2 r j)
      = x3 ((Rect.unit (s := S256x5632) ![0, o] S256x1408.size inb).emb (ix2 r j)) := rfl
  rw [e, eq_ix2 ((Rect.unit (s := S256x5632) ![0, o] S256x1408.size inb).emb (ix2 r j))]
  refine (h _ _).trans (congrArg _ ?_)
  exact piece_emb o inb q hq r j f

/-! ### The parts of the point's computation -/

theorem b_xh (h1 : Is2 x1 R) : Is2 (xh1 (F := Ideal) x1) fun r => xh (R r) := pay1_3 (ld_x h1)

theorem b_dr (h0 : Is2 x0 Y) (h1 : Is2 x1 R) (h2 : Is2 x2 fun _ => g) : Is2 (dr1 (F := Ideal) x0 x1 x2) fun r => dr (Y r) (R r) g :=
  pay1_4 (ld_x h0) (ld_x h1) (ld_row h2)

theorem b_da0 (h0 : Is2 x0 Y) (h1 : Is2 x1 R) (h2 : Is2 x2 fun _ => g) (h5 : IsStack x5 fun q j d => V (half q j) d) :
    Is2 (da1_0 (F := Ideal) x0 x1 x2 x5) fun r j => da (dr (Y r) (R r) g) V (half 0 j) :=
  pay1_11 (b_dr h0 h1 h2) (ld_v0 h5)

theorem b_da1 (h0 : Is2 x0 Y) (h1 : Is2 x1 R) (h2 : Is2 x2 fun _ => g) (h5 : IsStack x5 fun q j d => V (half q j) d) :
    Is2 (da1_1 (F := Ideal) x0 x1 x2 x5) fun r j => da (dr (Y r) (R r) g) V (half 1 j) :=
  pay1_22 (pay1_8 (b_dr h0 h1 h2)) (ld_v1 h5)

theorem b_gt0 (h3 : Is2 x3 fun r c => hid (X r) W (lay c)) : Is2 (gt1_0 (F := Ideal) x3) fun r j => hid (X r) W (quarter 0 j) :=
  pay1_12 (ld_h (f := fun r c => hid (X r) W c) h3 0 _ 0 lay_0)
theorem b_up0 (h3 : Is2 x3 fun r c => hid (X r) W (lay c)) : Is2 (up1_0 (F := Ideal) x3) fun r j => hid (X r) W (quarter 2 j) :=
  pay1_13 (ld_h (f := fun r c => hid (X r) W c) h3 1408 _ 2 lay_1)
theorem b_sg0 (h3 : Is2 x3 fun r c => hid (X r) W (lay c)) : Is2 (sg1_0 (F := Ideal) x3) fun r j => sg (hid (X r) W (quarter 0 j)) :=
  pay1_14 (ld_h (f := fun r c => hid (X r) W c) h3 0 _ 0 lay_0)
theorem b_sl0 (h3 : Is2 x3 fun r c => hid (X r) W (lay c)) : Is2 (sl1_0 (F := Ideal) x3) fun r j => hid (X r) W (quarter 0 j) * sg (hid (X r) W (quarter 0 j)) :=
  pay1_15 (ld_h (f := fun r c => hid (X r) W c) h3 0 _ 0 lay_0)
theorem b_gt1 (h3 : Is2 x3 fun r c => hid (X r) W (lay c)) : Is2 (gt1_1 (F := Ideal) x3) fun r j => hid (X r) W (quarter 1 j) :=
  pay1_23 (ld_h (f := fun r c => hid (X r) W c) h3 2816 _ 1 lay_2)
theorem b_up1 (h3 : Is2 x3 fun r c => hid (X r) W (lay c)) : Is2 (View.ld x3 r1_10) fun r j => hid (X r) W (quarter 3 j) :=
  ld_h (f := fun r c => hid (X r) W c) h3 4224 _ 3 lay_3

/-! ### The gradients of the first product by quarters of its columns -/

variable {x D : Fin 1024 → ℝ}

theorem gate_0 (j : Fin 1408) : gateOf (da D V (half 0 j)) (hid x W (quarter 0 j)) (hid x W (quarter 2 j)) = dgate x W V D (half 0 j) := by
  rw [quarter_zero, quarter_two]; rfl
theorem gate_1 (j : Fin 1408) : gateOf (da D V (half 1 j)) (hid x W (quarter 1 j)) (hid x W (quarter 3 j)) = dgate x W V D (half 1 j) := by
  rw [quarter_one, quarter_three]; rfl
theorem val_0 (j : Fin 1408) : da D V (half 0 j) * (hid x W (quarter 0 j) * sg (hid x W (quarter 0 j))) = dval x W V D (half 0 j) := by
  rw [quarter_zero]; rfl
theorem val_1 (j : Fin 1408) : da D V (half 1 j) * (hid x W (quarter 1 j) * sg (hid x W (quarter 1 j))) = dval x W V D (half 1 j) := by
  rw [quarter_one]; rfl
theorem dhid_0 (j : Fin 1408) : dhid x W V D (quarter 0 j) = dgate x W V D (half 0 j) := by rw [quarter_zero, dhid_gcol]
theorem dhid_1 (j : Fin 1408) : dhid x W V D (quarter 1 j) = dgate x W V D (half 1 j) := by rw [quarter_one, dhid_gcol]
theorem dhid_2 (j : Fin 1408) : dhid x W V D (quarter 2 j) = dval x W V D (half 0 j) := by rw [quarter_two, dhid_ucol]
theorem dhid_3 (j : Fin 1408) : dhid x W V D (quarter 3 j) = dval x W V D (half 1 j) := by rw [quarter_three, dhid_ucol]

/-! ### The blocks that the body leaves -/

/-- The gradient of the input. -/
theorem blk1_6 (h0 : Is2 x0 Y) (h1 : Is2 x1 R) (h2 : Is2 x2 fun _ => g) (h3 : Is2 x3 fun r c => hid (X r) W (lay c)) (h4 : IsStack x4 fun q k j => W k (quarter q j)) (h5 : IsStack x5 fun q j d => V (half q j) d) :
    Is2 (out1_6 (F := Ideal) x0 x1 x2 x3 x4 x5) fun r => dx (X r) W V (dr (Y r) (R r) g) := fun r d => by
  unfold out1_6
  rw [View.canon_unit_zero (by decide)]
  have h := pay1_32 (pay1_21 (pay1_10 (b_dr h0 h1 h2)) (b_da0 h0 h1 h2 h5) (b_gt0 h3) (b_up0 h3) (b_sg0 h3) (b_sl0 h3) (ld_w0 h4) (ld_w2 h4))
    (b_da1 h0 h1 h2 h5) (b_gt1 h3) (b_up1 h3) (ld_w1 h4) (ld_w3 h4) r d
  refine h.trans (congrArg _ ?_)
  beta_reduce
  simp only [gate_0, gate_1, val_0, val_1]
  rw [dx, sum_half, sum_half]
  simp only [quarter_zero, quarter_one, quarter_two, quarter_three]
  ring

/-- The gradient of the first product, in the kernel's order of columns. -/
theorem blk1_7 (h0 : Is2 x0 Y) (h1 : Is2 x1 R) (h2 : Is2 x2 fun _ => g) (h3 : Is2 x3 fun r c => hid (X r) W (lay c)) (h5 : IsStack x5 fun q j d => V (half q j) d) :
    Is2 (out1_7 (F := Ideal) x0 x1 x2 x3 x4 x5) fun r c => dhid (X r) W V (dr (Y r) (R r) g) (lay c) := fun r c => by
  have hG := View.canon_apply_of_pieces (Val := Elt Ideal) (S := S256x5632) (e := .bf16)
    (fun y => ((dhid (X (y 0)) W V (dr (Y (y 0)) (R (y 0)) g) (lay (y 1)) : ℝ) : EReal))
    [⟨r1_10, k1_pay31 (da1_1 x0 x1 x2 x5) (gt1_1 x3)⟩,
      ⟨r1_9, k1_pay30 (da1_1 x0 x1 x2 x5) (gt1_1 x3) (View.ld x3 r1_10)⟩,
      ⟨r1_4, k1_pay20 (da1_0 x0 x1 x2 x5) (sl1_0 x3)⟩,
      ⟨r1_3, k1_pay19 (da1_0 x0 x1 x2 x5) (gt1_0 x3) (up1_0 x3) (sg1_0 x3)⟩] ?_ (ix2 r c) (cover1_7 _ _ _ _ _)
  · exact hG
  · intro p hp
    simp only [List.mem_cons, List.not_mem_nil, or_false] at hp
    rcases hp with rfl | rfl | rfl | rfl <;> intro y <;> idx_vars y
    · refine (pay1_31 (b_da1 h0 h1 h2 h5) (b_gt1 h3) y0 y1).trans (congrArg _ ?_)
      exact ((val_1 y1).trans (dhid_3 y1).symm).trans
        (piece_emb 4224 _ 3 lay_3 y0 y1 fun r c => dhid (X r) W V (dr (Y r) (R r) g) c).symm
    · refine (pay1_30 (b_da1 h0 h1 h2 h5) (b_gt1 h3) (b_up1 h3) y0 y1).trans (congrArg _ ?_)
      exact ((gate_1 y1).trans (dhid_1 y1).symm).trans
        (piece_emb 2816 _ 1 lay_2 y0 y1 fun r c => dhid (X r) W V (dr (Y r) (R r) g) c).symm
    · refine (pay1_20 (b_da0 h0 h1 h2 h5) (b_sl0 h3) y0 y1).trans (congrArg _ ?_)
      exact ((val_0 y1).trans (dhid_2 y1).symm).trans
        (piece_emb 1408 _ 2 lay_1 y0 y1 fun r c => dhid (X r) W V (dr (Y r) (R r) g) c).symm
    · refine (pay1_19 (b_da0 h0 h1 h2 h5) (b_gt0 h3) (b_up0 h3) (b_sg0 h3) y0 y1).trans (congrArg _ ?_)
      exact ((gate_0 y1).trans (dhid_0 y1).symm).trans
        (piece_emb 0 _ 0 lay_0 y0 y1 fun r c => dhid (X r) W V (dr (Y r) (R r) g) c).symm

/-- A block of hidden columns is a half of them. -/
theorem half_emb (o : ℕ) (inb) (q : Fin 2) (hq : o = q.val * 1408) (a : Fin 256) (j : Fin 1408) (f : Fin 256 → Fin 2816 → ℝ) :
    f ((Rect.unit (s := S256x2816) ![0, o] S256x1408.size inb).emb (ix2 a j) 0)
        ((Rect.unit (s := S256x2816) ![0, o] S256x1408.size inb).emb (ix2 a j) 1) = f a (half q j) := by
  have e0 : (Rect.unit (s := S256x2816) ![0, o] S256x1408.size inb).emb (ix2 a j) 0 = a :=
    Fin.ext ((ValueKit.rect_emb_unit_val _ _ _ _ _).trans (Nat.zero_add _))
  have e1 : ((Rect.unit (s := S256x2816) ![0, o] S256x1408.size inb).emb (ix2 a j) 1 : Fin 2816).val = o + j.val :=
    ValueKit.rect_emb_unit_val _ _ _ _ _
  have e2 : (Rect.unit (s := S256x2816) ![0, o] S256x1408.size inb).emb (ix2 a j) 1 = half q j := Fin.ext (by rw [e1, hq]; rfl)
  rw [e0, e2]

/-- The activation, computed again. -/
theorem blk1_8 (h3 : Is2 x3 fun r c => hid (X r) W (lay c)) : Is2 (out1_8 (F := Ideal) x0 x1 x2 x3 x4 x5) fun r => act (X r) W := fun r c => by
  have hG := View.canon_apply_of_pieces (Val := Elt Ideal) (S := S256x2816) (e := .bf16)
    (fun y => ((act (X (y 0)) W (y 1) : ℝ) : EReal))
    [⟨r1_11, k1_pay29 (gt1_1 x3) (View.ld x3 r1_10)⟩, ⟨r1_5, k1_pay18 (up1_0 x3) (sl1_0 x3)⟩] ?_ (ix2 r c) (cover1_8 _ _ _)
  · exact hG
  · intro p hp
    simp only [List.mem_cons, List.not_mem_nil, or_false] at hp
    rcases hp with rfl | rfl <;> intro y <;> idx_vars y
    · refine (pay1_29 (b_gt1 h3) (b_up1 h3) y0 y1).trans (congrArg _ ?_)
      refine Eq.trans ?_ (half_emb 1408 _ 1 rfl y0 y1 fun r c => act (X r) W c).symm
      beta_reduce
      rw [quarter_one, quarter_three]; rfl
    · refine (pay1_18 (b_up0 h3) (b_sl0 h3) y0 y1).trans (congrArg _ ?_)
      refine Eq.trans ?_ (half_emb 0 _ 0 rfl y0 y1 fun r c => act (X r) W c).symm
      beta_reduce
      rw [quarter_zero, quarter_two]; rfl

/-- The gradient of the second product's result. -/
theorem blk1_9 (h0 : Is2 x0 Y) (h1 : Is2 x1 R) (h2 : Is2 x2 fun _ => g) : Is2 (out1_9 (F := Ideal) x0 x1 x2 x3 x4 x5) fun r => df (dr (Y r) (R r) g) := by
  unfold out1_9
  rw [View.canon_unit_zero (by decide)]
  exact pay1_9 (b_dr h0 h1 h2)

theorem cond_first : ∀ i : Fin 8, Scalar.cmpi .eq (BitVec.ofNat 32 i.val) 0#32 = if i.val = 0 then 1#1 else 0#1 := by decide

theorem select_one {a : Type} (x y : a) : Scalar.select 1#1 x y = x := rfl
theorem select_zero {a : Type} (x y : a) : Scalar.select 0#1 x y = y := rfl

/-- The gain's gradient: what the block held (nothing, at the first point) and the sum over the tile's rows. -/
theorem blk1_10 (i : grid1.Coords) (h0 : Is2 x0 Y) (h1 : Is2 x1 R) {p : Vec Ideal S1x1024 .f32} {P : Fin 1024 → ℝ} (hp : Is2 p fun _ => P) :
    Is2 (out1_10 (F := Ideal) i x0 x1 p) fun _ d => (if (i 0).val = 0 then 0 else P d) + ∑ r, Y r d * xh (R r) d := fun a d => by
  unfold out1_10
  rw [View.canon_unit_zero (by decide)]
  pointwise [k1_pay6, k1_pay5]
  simp only [h0 _ d, b_xh h1 _ d, hp 0 d, sum_coe, ← EReal.coe_mul]
  rw [cond_first (i 0)]
  split_ifs
  · rw [select_one]
    first | rw [← EReal.coe_zero, ← EReal.coe_add] | rw [Ideal.ofBits_zero_f32, ← EReal.coe_zero, ← EReal.coe_add]
  · rw [select_zero, ← EReal.coe_add]

/-- The offset's gradient, likewise. -/
theorem blk1_11 (i : grid1.Coords) (h0 : Is2 x0 Y) {p : Vec Ideal S1x1024 .f32} {P : Fin 1024 → ℝ} (hp : Is2 p fun _ => P) :
    Is2 (out1_11 (F := Ideal) i x0 p) fun _ d => (if (i 0).val = 0 then 0 else P d) + ∑ r, Y r d := fun a d => by
  unfold out1_11
  rw [View.canon_unit_zero (by decide)]
  pointwise [k1_pay7]
  simp only [h0 _ d, hp 0 d, sum_coe, ← EReal.coe_mul]
  rw [cond_first (i 0)]
  split_ifs
  · rw [select_one]
    first | rw [← EReal.coe_zero, ← EReal.coe_add] | rw [Ideal.ofBits_zero_f32, ← EReal.coe_zero, ← EReal.coe_add]
  · rw [select_zero, ← EReal.coe_add]

end Block

/-! ## The arrays after the run -/

section Arrays

variable (V : (c : Dev nD) → (b : Ref sig .tc) → Buf (Elt Ideal) ((c : Thread nD τ).loc b)) (c : Dev nD)
variable {Y R X : Fin 2048 → Fin 1024 → ℝ} {W : Fin 1024 → Fin 5632 → ℝ} {U : Fin 2816 → Fin 1024 → ℝ} {g : Fin 1024 → ℝ}

theorem index1_0 : ∀ t : Fin cfg1.N, win1_0.index t = ![(grid1.coords t 0).val, 0] := by decide +kernel
theorem index1_1 : ∀ t : Fin cfg1.N, win1_1.index t = ![(grid1.coords t 0).val, 0] := by decide +kernel
theorem index1_2 : ∀ t : Fin cfg1.N, win1_2.index t = ![0, 0] := by decide +kernel
theorem index1_3 : ∀ t : Fin cfg1.N, win1_3.index t = ![(grid1.coords t 0).val, 0] := by decide +kernel
theorem index1_4 : ∀ t : Fin cfg1.N, win1_4.index t = ![0, 0, 0] := by decide +kernel
theorem index1_5 : ∀ t : Fin cfg1.N, win1_5.index t = ![0, 0, 0] := by decide +kernel
theorem index1_6 : ∀ t : Fin cfg1.N, win1_6.index t = ![(grid1.coords t 0).val, 0] := by decide +kernel
theorem index1_7 : ∀ t : Fin cfg1.N, win1_7.index t = ![(grid1.coords t 0).val, 0] := by decide +kernel
theorem index1_8 : ∀ t : Fin cfg1.N, win1_8.index t = ![(grid1.coords t 0).val, 0] := by decide +kernel
theorem index1_9 : ∀ t : Fin cfg1.N, win1_9.index t = ![(grid1.coords t 0).val, 0] := by decide +kernel

theorem iblk1_0 (h : Is2 (V c main_arg5) Y) (t : Fin cfg1.N) :
    Is2 (iblk1 V c 0 t) fun r => Y (tileRow (grid1.coords t 0) r) := fun r d => by
  blk_simp [iblk1]
  refine Eq.trans (congrArg (V c main_arg5) ?_) (h _ d)
  blk_ext [index1_0]
  rfl

theorem iblk1_1 (h : Is2 (V c main_v5_1) R) (t : Fin cfg1.N) :
    Is2 (iblk1 V c 1 t) fun r => R (tileRow (grid1.coords t 0) r) := fun r d => by
  blk_simp [iblk1]
  refine Eq.trans (congrArg (V c main_v5_1) ?_) (h _ d)
  blk_ext [index1_1]
  rfl

theorem iblk1_2 (h : Is2 (V c main_arg3) fun _ => g) (t : Fin cfg1.N) : Is2 (iblk1 V c 2 t) fun _ => g := fun r d => by
  blk_simp [iblk1]
  refine Eq.trans (congrArg (V c main_arg3) ?_) (h r d)
  blk_ext [index1_2]

theorem iblk1_3 (h : Is2 (V c main_v5_0) fun r c => hid (X r) W (lay c)) (t : Fin cfg1.N) :
    Is2 (iblk1 V c 3 t) fun r c => hid (X (tileRow (grid1.coords t 0) r)) W (lay c) := fun r d => by
  blk_simp [iblk1]
  refine Eq.trans (congrArg (V c main_v5_0) ?_) (h _ d)
  blk_ext [index1_3]
  rfl

theorem iblk1_4 (h : IsStack (V c main_v2) fun q k j => W k (quarter q j)) (t : Fin cfg1.N) :
    IsStack (iblk1 V c 4 t) fun q k j => W k (quarter q j) := fun q k j => by
  blk_simp [iblk1]
  refine Eq.trans (congrArg (V c main_v2) ?_) (h q k j)
  blk_ext [index1_4]

theorem iblk1_5 (h : IsStack (V c main_v4) fun q j d => U (half q j) d) (t : Fin cfg1.N) :
    IsStack (iblk1 V c 5 t) fun q j d => U (half q j) d := fun q k j => by
  blk_simp [iblk1]
  refine Eq.trans (congrArg (V c main_v4) ?_) (h q k j)
  blk_ext [index1_5]

theorem emb1_6 (t : Fin cfg1.N) (r : Fin 256) (d : Fin 1024) :
    ((cfg1.win 6).blk t).view.emb (ix2 r d) = ix2 (tileRow (grid1.coords t 0) r) d := by
  blk_ext [index1_6]
  rfl

theorem emb1_7 (t : Fin cfg1.N) (r : Fin 256) (d : Fin 5632) :
    ((cfg1.win 7).blk t).view.emb (ix2 r d) = ix2 (tileRow (grid1.coords t 0) r) d := by
  blk_ext [index1_7]
  rfl

theorem emb1_8 (t : Fin cfg1.N) (r : Fin 256) (d : Fin 2816) :
    ((cfg1.win 8).blk t).view.emb (ix2 r d) = ix2 (tileRow (grid1.coords t 0) r) d := by
  blk_ext [index1_8]
  rfl

theorem emb1_9 (t : Fin cfg1.N) (r : Fin 256) (d : Fin 1024) :
    ((cfg1.win 9).blk t).view.emb (ix2 r d) = ix2 (tileRow (grid1.coords t 0) r) d := by
  blk_ext [index1_9]
  rfl

/-- Window 6's array: the gradient of the input. -/
theorem arr1_6 (hY : Is2 (V c main_arg5) Y) (hR : Is2 (V c main_v5_1) R) (hg : Is2 (V c main_arg3) fun _ => g) (hH : Is2 (V c main_v5_0) fun r c => hid (X r) W (lay c)) (hW : IsStack (V c main_v2) fun q k j => W k (quarter q j)) (hV : IsStack (V c main_v4) fun q j d => U (half q j) d) :
    Is2 ((dat1 V c).arrAt 6 cfg1.N) (fun r => dx (X r) W U (dr (Y r) (R r) g)) := fun r d => by
  refine (dat1 V c).arrAt_forall_of_covers 6 (fun i v => v = ((((fun r => dx (X r) W U (dr (Y r) (R r) g)) : Fin 2048 → Fin _ → ℝ) (i 0) (i 1) : ℝ) : EReal))
    (by decide +kernel) (fun t hf y => ?_) (ix2 r d)
  blk_simp
  rw [after1_6]
  idx_vars y
  refine (blk1_6 (iblk1_0 V c hY t) (iblk1_1 V c hR t) (iblk1_2 V c hg t) (iblk1_3 V c hH t) (iblk1_4 V c hW t) (iblk1_5 V c hV t) y0 y1).trans ?_
  have e := emb1_6 t y0 y1
  rw [e]
  rfl

/-- Window 7's array: the gradient of the first product, in the kernel's order of columns. -/
theorem arr1_7 (hY : Is2 (V c main_arg5) Y) (hR : Is2 (V c main_v5_1) R) (hg : Is2 (V c main_arg3) fun _ => g) (hH : Is2 (V c main_v5_0) fun r c => hid (X r) W (lay c)) (hV : IsStack (V c main_v4) fun q j d => U (half q j) d) :
    Is2 ((dat1 V c).arrAt 7 cfg1.N) (fun r c => dhid (X r) W U (dr (Y r) (R r) g) (lay c)) := fun r d => by
  refine (dat1 V c).arrAt_forall_of_covers 7 (fun i v => v = ((((fun r c => dhid (X r) W U (dr (Y r) (R r) g) (lay c)) : Fin 2048 → Fin _ → ℝ) (i 0) (i 1) : ℝ) : EReal))
    (by decide +kernel) (fun t hf y => ?_) (ix2 r d)
  blk_simp
  rw [after1_7]
  idx_vars y
  refine (blk1_7 (iblk1_0 V c hY t) (iblk1_1 V c hR t) (iblk1_2 V c hg t) (iblk1_3 V c hH t) (iblk1_5 V c hV t) y0 y1).trans ?_
  have e := emb1_7 t y0 y1
  rw [e]
  rfl

/-- Window 8's array: the activation. -/
theorem arr1_8 (hH : Is2 (V c main_v5_0) fun r c => hid (X r) W (lay c)) :
    Is2 ((dat1 V c).arrAt 8 cfg1.N) (fun r => act (X r) W) := fun r d => by
  refine (dat1 V c).arrAt_forall_of_covers 8 (fun i v => v = ((((fun r => act (X r) W) : Fin 2048 → Fin _ → ℝ) (i 0) (i 1) : ℝ) : EReal))
    (by decide +kernel) (fun t hf y => ?_) (ix2 r d)
  blk_simp
  rw [after1_8]
  idx_vars y
  refine (blk1_8 (iblk1_3 V c hH t) y0 y1).trans ?_
  have e := emb1_8 t y0 y1
  rw [e]
  rfl

/-- Window 9's array: the gradient of the second product's result. -/
theorem arr1_9 (hY : Is2 (V c main_arg5) Y) (hR : Is2 (V c main_v5_1) R) (hg : Is2 (V c main_arg3) fun _ => g) :
    Is2 ((dat1 V c).arrAt 9 cfg1.N) (fun r => df (dr (Y r) (R r) g)) := fun r d => by
  refine (dat1 V c).arrAt_forall_of_covers 9 (fun i v => v = ((((fun r => df (dr (Y r) (R r) g)) : Fin 2048 → Fin _ → ℝ) (i 0) (i 1) : ℝ) : EReal))
    (by decide +kernel) (fun t hf y => ?_) (ix2 r d)
  blk_simp
  rw [after1_9]
  idx_vars y
  refine (blk1_9 (iblk1_0 V c hY t) (iblk1_1 V c hR t) (iblk1_2 V c hg t) y0 y1).trans ?_
  have e := emb1_9 t y0 y1
  rw [e]
  rfl

/-! ### The two gradients summed over the tiles -/

/-- A sum over the rows is the sum over the tiles of the sums over their rows. -/
theorem sum_tiles (f : Fin 2048 → ℝ) : ∑ t : Fin 8, ∑ r : Fin 256, f (tileRow t r) = ∑ i, f i := by
  rw [← Fintype.sum_prod_type' fun t r => f (tileRow t r)]
  refine Fintype.sum_equiv (finProdFinEquiv (m := 8) (n := 256)) _ _ fun p => congrArg f (Fin.ext ?_)
  show p.1.val * 256 + p.2.val = p.2.val + 256 * p.1.val
  ring

/-- The tile of a number, the last for those that are no tile's. -/
def tile (n : ℕ) : Fin 8 := ⟨min n 7, by omega⟩

theorem sum_tile (f : Fin 8 → ℝ) : ∑ n ∈ Finset.range 8, f (tile n) = ∑ t, f t := by
  rw [Finset.sum_range]
  exact Finset.sum_congr rfl fun t _ => congrArg f (Fin.ext (by have := t.isLt; simp only [tile]; omega))

theorem coords_pt : ∀ n : Fin 8, (grid1.coords (pt1 n.val) 0).val = (tile n.val).val := by decide +kernel

theorem coords_pt_of {n : ℕ} (h : n < 8) : (grid1.coords (pt1 n) 0) = tile n := Fin.ext (coords_pt ⟨n, h⟩)

theorem zero_block : Is2 (fun _ => FloatOps.ofBits (F := Ideal) .f32 0#32 : Vec Ideal S1x1024 .f32) fun _ _ => 0 := fun _ _ =>
  Ideal.ofBits_zero_f32

theorem tile_val {n : ℕ} (h : n < 8) : (tile n).val = n := by simp only [tile]; omega

/-- The gain's gradient after point `n`. -/
theorem acc1_10_eq (hY : Is2 (V c main_arg5) Y) (hR : Is2 (V c main_v5_1) R) : ∀ n, n < 8 →
    Is2 (acc1_10 V c n) fun _ d => ∑ s ∈ Finset.range (n + 1), ∑ r, Y (tileRow (tile s) r) d * xh (R (tileRow (tile s) r)) d
  | 0, h => fun a d => by
    refine (blk1_10 _ (iblk1_0 V c hY (pt1 0)) (iblk1_1 V c hR (pt1 0)) zero_block a d).trans (congrArg _ ?_)
    beta_reduce
    rw [coords_pt_of h, tile_val h, if_pos rfl, zero_add, Finset.sum_range_one]
  | n + 1, h => fun a d => by
    refine (blk1_10 _ (iblk1_0 V c hY (pt1 (n + 1))) (iblk1_1 V c hR (pt1 (n + 1))) (acc1_10_eq hY hR n (by omega)) a d).trans (congrArg _ ?_)
    beta_reduce
    rw [coords_pt_of h, tile_val h, if_neg (by omega), Finset.sum_range_succ _ (n + 1)]

/-- The offset's gradient after point `n`. -/
theorem acc1_11_eq (hY : Is2 (V c main_arg5) Y) : ∀ n, n < 8 →
    Is2 (acc1_11 V c n) fun _ d => ∑ s ∈ Finset.range (n + 1), ∑ r, Y (tileRow (tile s) r) d
  | 0, h => fun a d => by
    refine (blk1_11 _ (iblk1_0 V c hY (pt1 0)) zero_block a d).trans (congrArg _ ?_)
    beta_reduce
    rw [coords_pt_of h, tile_val h, if_pos rfl, zero_add, Finset.sum_range_one]
  | n + 1, h => fun a d => by
    refine (blk1_11 _ (iblk1_0 V c hY (pt1 (n + 1))) (acc1_11_eq hY n (by omega)) a d).trans (congrArg _ ?_)
    beta_reduce
    rw [coords_pt_of h, tile_val h, if_neg (by omega), Finset.sum_range_succ _ (n + 1)]

theorem index1_10 : ∀ t : Fin cfg1.N, win1_10.index t = ![0, 0] := by decide +kernel

theorem last1_10 : ∀ t : Fin cfg1.N, (cfg1.win 10).flush t = true → t.val = 7 := by decide +kernel

theorem emb1_10 (t : Fin cfg1.N) (r : Fin 1) (d : Fin 1024) : ((cfg1.win 10).blk t).view.emb (ix2 r d) = ix2 r d := by
  blk_ext [index1_10]

/-- Window 10's array: the gain's gradient. -/
theorem arr1_10 (hY : Is2 (V c main_arg5) Y) (hR : Is2 (V c main_v5_1) R) :
    Is2 ((dat1 V c).arrAt 10 cfg1.N) (fun _ d => ∑ t, Y t d * xh (R t) d) := fun a d => by
  refine (dat1 V c).arrAt_forall_of_covers 10 (fun i v => v = ((((fun _ d => ∑ t, Y t d * xh (R t) d) : Fin 1 → Fin 1024 → ℝ) (i 0) (i 1) : ℝ) : EReal))
    (by decide +kernel) (fun t hf y => ?_) (ix2 a d)
  blk_simp
  rw [after1_10, last1_10 t hf]
  idx_vars y
  have e := emb1_10 t y0 y1
  rw [e]
  refine (acc1_10_eq V c hY hR 7 (by omega) y0 y1).trans (congrArg _ ?_)
  have e1 := sum_tile fun s => ∑ r, (fun i => Y i y1 * xh (R i) y1) (tileRow s r)
  have e2 := sum_tiles (fun i => Y i y1 * xh (R i) y1)
  exact (e1.trans e2)

theorem index1_11 : ∀ t : Fin cfg1.N, win1_11.index t = ![0, 0] := by decide +kernel

theorem last1_11 : ∀ t : Fin cfg1.N, (cfg1.win 11).flush t = true → t.val = 7 := by decide +kernel

theorem emb1_11 (t : Fin cfg1.N) (r : Fin 1) (d : Fin 1024) : ((cfg1.win 11).blk t).view.emb (ix2 r d) = ix2 r d := by
  blk_ext [index1_11]

/-- Window 11's array: the offset's gradient. -/
theorem arr1_11 (hY : Is2 (V c main_arg5) Y) :
    Is2 ((dat1 V c).arrAt 11 cfg1.N) (fun _ d => ∑ t, Y t d) := fun a d => by
  refine (dat1 V c).arrAt_forall_of_covers 11 (fun i v => v = ((((fun _ d => ∑ t, Y t d) : Fin 1 → Fin 1024 → ℝ) (i 0) (i 1) : ℝ) : EReal))
    (by decide +kernel) (fun t hf y => ?_) (ix2 a d)
  blk_simp
  rw [after1_11, last1_11 t hf]
  idx_vars y
  have e := emb1_11 t y0 y1
  rw [e]
  refine (acc1_11_eq V c hY 7 (by omega) y0 y1).trans (congrArg _ ?_)
  have e1 := sum_tile fun s => ∑ r, (fun i => Y i y1) (tileRow s r)
  have e2 := sum_tiles (fun i => Y i y1)
  exact (e1.trans e2)

end Arrays

end Cert.KernelIdeal.Value

end
-- ==== Proof.Value.Dw.lean ====
module

public import proofs.«01_k».proof.Proof.Value.Fwd
public import proofs.«01_k».proof.Proof.Run.DwIn
public import proofs.«01_k».proof.Proof.Run.DwOut

/-! The two weight-gradient calls: what each array they write holds after the run, when the arrays they read hold real numbers. -/

@[expose] public section

set_option maxRecDepth 16384

noncomputable section

namespace Cert.KernelIdeal.Value

open Idealize.ShloMosaic Idealize.ShloMosaic.TcCoe Cert.KernelIdeal.Gen Cert.KernelIdeal.Run Cert.Ffn
open Idealize.ShloMosaic.Pipeline (Dat)

/-- The quarter that lies at place `s` of the kernel's order. -/
def place (s : Fin 4) : Fin 4 := ⟨if s.val = 1 then 2 else if s.val = 2 then 1 else s.val, by have := s.isLt; split_ifs <;> omega⟩

theorem lay_place (s : Fin 4) (j : Fin 1408) (h) : lay ⟨s.val * 1408 + j.val, h⟩ = quarter (place s) j := by
  refine Fin.ext ?_
  have := j.isLt
  have := s.isLt
  simp only [lay, quarter, place]
  split_ifs <;> omega

/-- Row `r` of half `i` of the model's width. -/
def wide (i : Fin 2) (r : Fin 512) : Fin 1024 := ⟨i.val * 512 + r.val, by have := i.isLt; have := r.isLt; omega⟩

section Block

theorem ld_2_0 {v : Vec Ideal S2048x512 .bf16} {X : Fin 2048 → Fin 512 → ℝ} (h : Is2 v X) : Is2 (View.ld v r2_0) X := fun r c => by
  pointwise
  exact h r c
theorem ld_2_1 {v : Vec Ideal S2048x1408 .bf16} {X : Fin 2048 → Fin 1408 → ℝ} (h : Is2 v X) : Is2 (View.ld v r2_1) X := fun r c => by
  pointwise
  exact h r c
theorem ld_3_1 {v : Vec Ideal S2048x1024 .bf16} {X : Fin 2048 → Fin 1024 → ℝ} (h : Is2 v X) : Is2 (View.ld v r3_1) X := fun r c => by
  pointwise
  exact h r c

theorem blk2_2 {x0 : Vec Ideal S2048x512 .bf16} {x1 : Vec Ideal S2048x1408 .bf16} {X : Fin 2048 → Fin 512 → ℝ} {Y : Fin 2048 → Fin 1408 → ℝ}
    (h0 : Is2 x0 X) (h1 : Is2 x1 Y) : Is3 (out2_2 (F := Ideal) x0 x1) fun k j => ∑ t, X t k * Y t j := fun k j => by
  unfold out2_2
  rw [View.canon_unit_zero (by decide)]
  exact pay2_1 (ld_2_0 h0) (ld_2_1 h1) k j

theorem blk3_2 {x0 : Vec Ideal S2048x1408 .bf16} {x1 : Vec Ideal S2048x1024 .bf16} {X : Fin 2048 → Fin 1408 → ℝ} {Y : Fin 2048 → Fin 1024 → ℝ}
    (h0 : Is2 x0 X) (h1 : Is2 x1 Y) : Is2 (out3_2 (F := Ideal) x0 x1) fun k j => ∑ t, X t k * Y t j := fun k j => by
  unfold out3_2
  rw [View.canon_unit_zero (by decide)]
  exact pay3_1 (ld_2_1 h0) (ld_3_1 h1) k j

end Block

section Arrays

variable (V : (c : Dev nD) → (b : Ref sig .tc) → Buf (Elt Ideal) ((c : Thread nD τ).loc b)) (c : Dev nD)
variable {X : Fin 2048 → Fin 1024 → ℝ} {H : Fin 2048 → Fin 5632 → ℝ} {A : Fin 2048 → Fin 2816 → ℝ} {E : Fin 2048 → Fin 1024 → ℝ}

theorem index2_0 : ∀ t : Fin cfg2.N, win2_0.index t = ![0, (grid2.coords t 0).val] := by decide +kernel
theorem index2_1 : ∀ t : Fin cfg2.N, win2_1.index t = ![0, (grid2.coords t 1).val] := by decide +kernel
theorem index2_2 : ∀ t : Fin cfg2.N, win2_2.index t = ![(place (grid2.coords t 1)).val, (grid2.coords t 0).val, 0] := by decide +kernel

theorem iblk2_0 (h : Is2 (V c main_v5_4) X) (t : Fin cfg2.N) : Is2 (iblk2 V c 0 t) fun r k => X r (wide (grid2.coords t 0) k) := fun r d => by
  blk_simp [iblk2]
  refine Eq.trans (congrArg (V c main_v5_4) ?_) (h _ _)
  blk_ext [index2_0]
  rfl

theorem iblk2_1 (h : Is2 (V c main_v6_1) fun r c => H r (lay c)) (t : Fin cfg2.N) :
    Is2 (iblk2 V c 1 t) fun r j => H r (quarter (place (grid2.coords t 1)) j) := fun r d => by
  blk_simp [iblk2]
  have hb : (grid2.coords t 1).val * 1408 + d.val < 5632 := by
    have := (grid2.coords t 1).isLt
    have hd := d.isLt
    have e : grid2.bound 1 = 4 := rfl
    omega
  rw [← lay_place (grid2.coords t 1) d hb]
  refine Eq.trans (congrArg (V c main_v6_1) ?_) (h _ _)
  blk_ext [index2_1]

theorem emb2_2 (t : Fin cfg2.N) (q : Fin 1) (k : Fin 512) (j : Fin 1408) :
    ((cfg2.win 2).blk t).view.emb (ix3 q k j) = ix3 (place (grid2.coords t 1)) (wide (grid2.coords t 0) k) j := by
  have hq := q.isLt
  blk_ext [index2_2]
  all_goals first | omega | rfl

/-- The gradient of the first weight, by quarters of its columns. -/
theorem arr2_2 (hX : Is2 (V c main_v5_4) X) (hH : Is2 (V c main_v6_1) fun r c => H r (lay c)) :
    IsStack ((dat2 V c).arrAt 2 cfg2.N) fun q k j => ∑ t, X t k * H t (quarter q j) := fun q k j => by
  refine (dat2 V c).arrAt_forall_of_covers 2 (fun i v => v = (((fun q k j => ∑ t, X t k * H t (quarter q j) : Fin 4 → Fin 1024 → Fin 1408 → ℝ) (i 0) (i 1) (i 2) : ℝ) : EReal))
    (by decide +kernel) (fun t hf y => ?_) (ix3 q k j)
  blk_simp
  rw [after2_2]
  idx_vars y
  have e := emb2_2 t y0 y1 y2
  rw [e]
  have hy : y0 = 0 := Subsingleton.elim _ _
  subst hy
  exact (blk2_2 (iblk2_0 V c hX t) (iblk2_1 V c hH t) y1 y2)

theorem index3_0 : ∀ t : Fin cfg3.N, win3_0.index t = ![0, (grid3.coords t 0).val] := by decide +kernel
theorem index3_1 : ∀ t : Fin cfg3.N, win3_1.index t = ![0, 0] := by decide +kernel
theorem index3_2 : ∀ t : Fin cfg3.N, win3_2.index t = ![(grid3.coords t 0).val, 0] := by decide +kernel

theorem iblk3_0 (h : Is2 (V c main_v6_2) A) (t : Fin cfg3.N) : Is2 (iblk3 V c 0 t) fun r j => A r (half (grid3.coords t 0) j) := fun r d => by
  blk_simp [iblk3]
  refine Eq.trans (congrArg (V c main_v6_2) ?_) (h _ _)
  blk_ext [index3_0]
  rfl

theorem iblk3_1 (h : Is2 (V c main_v6_3) E) (t : Fin cfg3.N) : Is2 (iblk3 V c 1 t) E := fun r d => by
  blk_simp [iblk3]
  refine Eq.trans (congrArg (V c main_v6_3) ?_) (h r d)
  blk_ext [index3_1]

theorem emb3_2 (t : Fin cfg3.N) (j : Fin 1408) (d : Fin 1024) :
    ((cfg3.win 2).blk t).view.emb (ix2 j d) = ix2 (half (grid3.coords t 0) j) d := by
  blk_ext [index3_2]
  rfl

/-- The gradient of the second weight. -/
theorem arr3_2 (hA : Is2 (V c main_v6_2) A) (hE : Is2 (V c main_v6_3) E) :
    Is2 ((dat3 V c).arrAt 2 cfg3.N) fun j d => ∑ t, A t j * E t d := fun j d => by
  refine (dat3 V c).arrAt_forall_of_covers 2 (fun i v => v = (((fun j d => ∑ t, A t j * E t d : Fin 2816 → Fin 1024 → ℝ) (i 0) (i 1) : ℝ) : EReal))
    (by decide +kernel) (fun t hf y => ?_) (ix2 j d)
  blk_simp
  rw [after3_2]
  idx_vars y
  have e := emb3_2 t y0 y1
  rw [e]
  exact blk3_2 (iblk3_0 V c hA t) (iblk3_1 V c hE t) y0 y1

end Arrays

end Cert.KernelIdeal.Value

end
-- ==== Proof.Value.Result.lean ====
module

public import proofs.«01_k».proof.Proof.Value.Bwd
public import proofs.«01_k».proof.Proof.Value.Dw
public import proofs.«01_k».proof.Proof.Run.Main
public import Idealize.ShloMosaic.Lib.StableHlo.ReadAt

/-! The kernel's results as real numbers: the host prepares the weights, the four calls run in order, the host lays out the first
    weight's gradient. -/

@[expose] public section

set_option maxRecDepth 16384

noncomputable section

namespace Cert.KernelIdeal.Value

open Idealize.ShloMosaic Idealize.ShloMosaic.TcCoe Cert.KernelIdeal.Gen Cert.KernelIdeal.Run Cert.Ffn
open Idealize.ShloMosaic.Pipeline (Dat)

variable (m : (ℓ : Loc nD τ sig) → Buf (Elt Ideal) ℓ) (ρ : Dev nD → PrngReg) (c : Dev nD)

variable {X Y : Fin 2048 → Fin 1024 → ℝ} {W : Fin 1024 → Fin 5632 → ℝ} {U : Fin 2816 → Fin 1024 → ℝ} {g b : Fin 1024 → ℝ}

/-- The arguments hold real numbers. -/
structure Args (X : Fin 2048 → Fin 1024 → ℝ) (W : Fin 1024 → Fin 5632 → ℝ) (U : Fin 2816 → Fin 1024 → ℝ) (g b : Fin 1024 → ℝ)
    (Y : Fin 2048 → Fin 1024 → ℝ) : Prop where
  x : Is2 (m ((c : Thread nD τ).loc main_arg0)) X
  w : Is2 (m ((c : Thread nD τ).loc main_arg1)) W
  u : Is2 (m ((c : Thread nD τ).loc main_arg2)) U
  g : Is2 (m ((c : Thread nD τ).loc main_arg3)) fun _ => g
  b : Is2 (m ((c : Thread nD τ).loc main_arg4)) fun _ => b
  y : Is2 (m ((c : Thread nD τ).loc main_arg5)) Y

/-! ## What the host prepares -/

theorem prep_w (h : Is2 (m ((c : Thread nD τ).loc main_arg1)) W) : IsStack (V1 m ρ c main_v2) fun q k j => W k (quarter q j) := fun q k j => by
  show StableHlo.after hostOps0 (W0 m ρ c) (Proc.devRef .tc main_v2) (ix3 q k j) = _
  after_reads_at
  exact h k (quarter q j)

theorem prep_u (h : Is2 (m ((c : Thread nD τ).loc main_arg2)) U) : IsStack (V1 m ρ c main_v4) fun q j d => U (half q j) d := fun q j d => by
  show StableHlo.after hostOps0 (W0 m ρ c) (Proc.devRef .tc main_v4) (ix3 q j d) = _
  after_reads_at
  exact h (half q j) d

theorem quarter_div (k : Fin 5632) (h₁ h₂) : quarter ⟨k.val / 1408, h₁⟩ ⟨k.val % 1408, h₂⟩ = k :=
  Fin.ext (Nat.div_add_mod' k.val 1408)

theorem tail_w {f : Fin 1024 → Fin 5632 → ℝ} (h : IsStack (V5 m ρ c main_v7) fun q k j => f k (quarter q j)) :
    Is2 (W6 m ρ c (Proc.devRef .tc main_v10)) f := fun k s => by
  show StableHlo.after hostOps4 (W5 m ρ c) (Proc.devRef .tc main_v10) (ix2 k s) = _
  after_reads_at
  refine (h _ k _).trans ?_
  beta_reduce
  rw [quarter_div]

variable {m} {c}

section

variable (A : Args m c X W U g b Y)
include A

/-! ## The forward call -/

theorem v1_x : Is2 (V1 m ρ c main_arg0) X := by rw [show V1 m ρ c main_arg0 = _ from W1_args m ρ c main_arg0 (by decide)]; exact A.x
theorem v1_g : Is2 (V1 m ρ c main_arg3) fun _ => g := by rw [show V1 m ρ c main_arg3 = _ from W1_args m ρ c main_arg3 (by decide)]; exact A.g
theorem v1_b : Is2 (V1 m ρ c main_arg4) fun _ => b := by rw [show V1 m ρ c main_arg4 = _ from W1_args m ρ c main_arg4 (by decide)]; exact A.b

theorem v2_h : Is2 (V2 m ρ c main_v5_0) fun r s => hid (X r) W (lay s) := by
  rw [show V2 m ρ c main_v5_0 = _ from W2_arr m ρ c 5]
  exact arr0_5 (V1 m ρ) c (v1_x ρ A) (prep_w m ρ c A.w)
theorem v2_r : Is2 (V2 m ρ c main_v5_1) fun r => res (X r) W U := by
  rw [show V2 m ρ c main_v5_1 = _ from W2_arr m ρ c 6]
  exact arr0_6 (V1 m ρ) c (v1_x ρ A) (prep_w m ρ c A.w) (prep_u m ρ c A.u)
theorem v2_xo : Is2 (V2 m ρ c main_v5_2) fun r => ln (res (X r) W U) g b := by
  rw [show V2 m ρ c main_v5_2 = _ from W2_arr m ρ c 7]
  exact arr0_7 (V1 m ρ) c (v1_x ρ A) (prep_w m ρ c A.w) (prep_u m ρ c A.u) (v1_g ρ A) (v1_b ρ A)
theorem v2_xb : Is2 (V2 m ρ c main_v5_4) X := by
  rw [show V2 m ρ c main_v5_4 = _ from W2_arr m ρ c 9]
  exact arr0_9 (V1 m ρ) c (v1_x ρ A)
theorem v2_y : Is2 (V2 m ρ c main_arg5) Y := by rw [show V2 m ρ c main_arg5 = _ from W2_args m ρ c main_arg5 (by decide)]; exact A.y
theorem v2_g : Is2 (V2 m ρ c main_arg3) fun _ => g := by rw [show V2 m ρ c main_arg3 = _ from W2_args m ρ c main_arg3 (by decide)]; exact A.g
theorem v2_w : IsStack (V2 m ρ c main_v2) fun q k j => W k (quarter q j) := by
  rw [show V2 m ρ c main_v2 = V1 m ρ c main_v2 from W2_of m ρ c main_v2 (by decide)]; exact prep_w m ρ c A.w
theorem v2_u : IsStack (V2 m ρ c main_v4) fun q j d => U (half q j) d := by
  rw [show V2 m ρ c main_v4 = V1 m ρ c main_v4 from W2_of m ρ c main_v4 (by decide)]; exact prep_u m ρ c A.u

/-! ## The backward call -/

theorem v3_dx : Is2 (V3 m ρ c main_v6_0) fun r => dx (X r) W U (dr (Y r) (res (X r) W U) g) := by
  rw [show V3 m ρ c main_v6_0 = _ from W3_arr m ρ c 6]
  exact arr1_6 (V2 m ρ) c (v2_y ρ A) (v2_r ρ A) (v2_g ρ A) (v2_h ρ A) (v2_w ρ A) (v2_u ρ A)
theorem v3_dh : Is2 (V3 m ρ c main_v6_1) fun r s => dhid (X r) W U (dr (Y r) (res (X r) W U) g) (lay s) := by
  rw [show V3 m ρ c main_v6_1 = _ from W3_arr m ρ c 7]
  exact arr1_7 (V2 m ρ) c (v2_y ρ A) (v2_r ρ A) (v2_g ρ A) (v2_h ρ A) (v2_u ρ A)
theorem v3_a : Is2 (V3 m ρ c main_v6_2) fun r => act (X r) W := by
  rw [show V3 m ρ c main_v6_2 = _ from W3_arr m ρ c 8]
  exact arr1_8 (V2 m ρ) c (v2_h ρ A)
theorem v3_df : Is2 (V3 m ρ c main_v6_3) fun r => df (dr (Y r) (res (X r) W U) g) := by
  rw [show V3 m ρ c main_v6_3 = _ from W3_arr m ρ c 9]
  exact arr1_9 (V2 m ρ) c (v2_y ρ A) (v2_r ρ A) (v2_g ρ A)
theorem v3_dg : Is2 (V3 m ρ c main_v6_4) fun _ d => ∑ t, Y t d * xh (res (X t) W U) d := by
  rw [show V3 m ρ c main_v6_4 = _ from W3_arr m ρ c 10]
  exact arr1_10 (V2 m ρ) c (v2_y ρ A) (v2_r ρ A)
theorem v3_db : Is2 (V3 m ρ c main_v6_5) fun _ d => ∑ t, Y t d := by
  rw [show V3 m ρ c main_v6_5 = _ from W3_arr m ρ c 11]
  exact arr1_11 (V2 m ρ) c (v2_y ρ A)
theorem v3_xb : Is2 (V3 m ρ c main_v5_4) X := by
  rw [show V3 m ρ c main_v5_4 = V2 m ρ c main_v5_4 from W3_of m ρ c main_v5_4 (by decide)]; exact v2_xb ρ A

/-! ## The weight-gradient calls -/

theorem v4_dw : IsStack (V4 m ρ c main_v7) fun q k j => ∑ t, X t k * dhid (X t) W U (dr (Y t) (res (X t) W U) g) (quarter q j) := by
  rw [show V4 m ρ c main_v7 = _ from W4_arr m ρ c 2]
  exact arr2_2 (V3 m ρ) c (v3_xb ρ A) (v3_dh ρ A)
theorem v4_a : Is2 (V4 m ρ c main_v6_2) fun r => act (X r) W := by
  rw [show V4 m ρ c main_v6_2 = V3 m ρ c main_v6_2 from W4_of m ρ c main_v6_2 (by decide)]; exact v3_a ρ A
theorem v4_df : Is2 (V4 m ρ c main_v6_3) fun r => df (dr (Y r) (res (X r) W U) g) := by
  rw [show V4 m ρ c main_v6_3 = V3 m ρ c main_v6_3 from W4_of m ρ c main_v6_3 (by decide)]; exact v3_df ρ A
theorem v5_dw : IsStack (V5 m ρ c main_v7) fun q k j => ∑ t, X t k * dhid (X t) W U (dr (Y t) (res (X t) W U) g) (quarter q j) := by
  rw [show V5 m ρ c main_v7 = V4 m ρ c main_v7 from W5_of m ρ c main_v7 (by decide)]; exact v4_dw ρ A

/-! ## The results -/

omit A in
/-- A buffer that neither weight-gradient call nor the host's last lines write. -/
theorem w6_of_w3 (r : Ref sig .tc) (h6 : r ∉ hostOps4_W) (h5 : ∀ w : Fin cfg3.W, Pipeline.arrRef spec3 w = r → (cfg3.win w).isOut = false)
    (h4 : ∀ w : Fin cfg2.W, Pipeline.arrRef spec2 w = r → (cfg2.win w).isOut = false) :
    W6 m ρ c (Proc.devRef .tc r) = V3 m ρ c r :=
  (W6_of m ρ c r h6).trans ((W5_of m ρ c r h5).trans (W4_of m ρ c r h4))

theorem out_xo : Is2 (W6 m ρ c (Proc.devRef .tc main_v5_2)) fun r => ln (res (X r) W U) g b := by
  rw [w6_of_w3 ρ main_v5_2 (by decide) (by decide) (by decide),
    show V3 m ρ c main_v5_2 = V2 m ρ c main_v5_2 from W3_of m ρ c main_v5_2 (by decide)]
  exact v2_xo ρ A
theorem out_dx : Is2 (W6 m ρ c (Proc.devRef .tc main_v6_0)) fun r => dx (X r) W U (dr (Y r) (res (X r) W U) g) := by
  rw [w6_of_w3 ρ main_v6_0 (by decide) (by decide) (by decide)]; exact v3_dx ρ A
theorem out_dw_in : Is2 (W6 m ρ c (Proc.devRef .tc main_v10)) fun k s => ∑ t, X t k * dhid (X t) W U (dr (Y t) (res (X t) W U) g) s :=
  tail_w m ρ c (v5_dw ρ A)
theorem out_dw_out : Is2 (W6 m ρ c (Proc.devRef .tc main_v8)) fun j d => ∑ t, act (X t) W j * df (dr (Y t) (res (X t) W U) g) d := by
  rw [show W6 m ρ c (Proc.devRef .tc main_v8) = _ from (W6_of m ρ c main_v8 (by decide)).trans (W5_arr m ρ c 2)]
  exact arr3_2 (V4 m ρ) c (v4_a ρ A) (v4_df ρ A)
theorem out_dg : Is2 (W6 m ρ c (Proc.devRef .tc main_v6_4)) fun _ d => ∑ t, Y t d * xh (res (X t) W U) d := by
  rw [w6_of_w3 ρ main_v6_4 (by decide) (by decide) (by decide)]; exact v3_dg ρ A
theorem out_db : Is2 (W6 m ρ c (Proc.devRef .tc main_v6_5)) fun _ d => ∑ t, Y t d := by
  rw [w6_of_w3 ρ main_v6_5 (by decide) (by decide) (by decide)]; exact v3_db ρ A

end

end Cert.KernelIdeal.Value

end
-- ==== Proof.Value.Finite.lean ====
module

public import proofs.«01_k».proof.Proof.Value.Result
public import proofs.«01_k».proof.Proof.Gen.Pre_finite
public import proofs.«01_k».proof.Defs
public import Idealize.ShloMosaic.Lib.ReduceAll

/-! What the precondition says: every element of the six arguments is a real number. -/

@[expose] public section

set_option maxRecDepth 16384

noncomputable section

namespace Cert.KernelIdeal.Value

open Idealize.ShloMosaic Idealize.ShloMosaic.TcCoe Cert.KernelIdeal.Gen Cert.Ffn

theorem ofBits_inf : Ideal.ofBits .f32 0x7F800000#32 = (⊤ : EReal) := by simp [Ideal.ofBits, Ideal.ieee]

/-- An element whose absolute value compares below infinity is a real number. -/
theorem real_of_lt {x y : EReal} (hy : y = ⊤) (h : Ideal.cmp .olt (max x (-x)) y = 1#1) : ∃ r : ℝ, x = (r : EReal) := by
  subst hy
  refine exists_coe_of_abs_lt ?_
  by_contra hn
  simp [Ideal.cmp, hn] at h

/-- An array of real numbers, element by element, is an array of real numbers. -/
theorem is2_of {a b : ℕ} {v : (⟨2, ![a, b]⟩ : Shape).Idx → EReal} (h : ∀ i, ∃ r : ℝ, v i = (r : EReal)) :
    ∃ f : Fin a → Fin b → ℝ, Is2 v f := by
  choose f hf using h
  exact ⟨fun r c => f (ix2 r c), fun r c => hf _⟩

instance : Subsingleton (Cert.Pre_finite.S_ : Shape).Idx := ⟨fun a b => funext fun i => i.elim0⟩

theorem finite_args {x0 : FVec Ideal Cert.Pre_finite.S2048x1024 .f32} {x1 : FVec Ideal Cert.Pre_finite.S1024x5632 .f32}
    {x2 : FVec Ideal Cert.Pre_finite.S2816x1024 .f32} {x3 x4 : FVec Ideal Cert.Pre_finite.S1x1024 .f32}
    {x5 : FVec Ideal Cert.Pre_finite.S2048x1024 .f32} (h : Cert.Pre_finite.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ ∀ i, ∃ r : ℝ, x5 i = (r : EReal) := by
  have e := congrFun h (fun i => i.elim0)
  dsimp only [Cert.Pre_finite.fn, Cert.Pre_finite.fn_part1] at e
  simp only [andi_apply, IntOp.andi_eq_one] at e
  obtain ⟨⟨⟨⟨⟨e0, e1⟩, e2⟩, e3⟩, e4⟩, e5⟩ := e
  exact ⟨fun i => real_of_lt ofBits_inf (Host.reduce_andi_all _ _ _ _ _ e0 i), fun i => real_of_lt ofBits_inf (Host.reduce_andi_all _ _ _ _ _ e1 i),
    fun i => real_of_lt ofBits_inf (Host.reduce_andi_all _ _ _ _ _ e2 i), fun i => real_of_lt ofBits_inf (Host.reduce_andi_all _ _ _ _ _ e3 i),
    fun i => real_of_lt ofBits_inf (Host.reduce_andi_all _ _ _ _ _ e4 i), fun i => real_of_lt ofBits_inf (Host.reduce_andi_all _ _ _ _ _ e5 i)⟩

variable (m : (ℓ : Loc nD τ sig) → Buf (Elt Ideal) ℓ)

theorem args_of_pre (h : Cert.Pre_KernelIdeal_finite m) (c : Dev nD) : ∃ X W U g b Y, Args m c X W U g b Y := by
  obtain ⟨h0, h1, h2, h3, h4, h5⟩ := finite_args (h c)
  obtain ⟨X, hX⟩ := is2_of h0
  obtain ⟨W, hW⟩ := is2_of h1
  obtain ⟨U, hU⟩ := is2_of h2
  obtain ⟨g, hg⟩ := is2_of h3
  obtain ⟨b, hb⟩ := is2_of h4
  obtain ⟨Y, hY⟩ := is2_of h5
  have one (f : Fin 1 → Fin 1024 → ℝ) : f = fun _ => f 0 := funext fun r => congrArg f (Subsingleton.elim r 0)
  exact ⟨X, W, U, g 0, b 0, Y, hX, hW, hU, one g ▸ hg, one b ▸ hb, hY⟩

end Cert.KernelIdeal.Value

end
-- ==== Proof.Value.Reference.lean ====
module

public import proofs.«01_k».proof.Proof.Value.Spec
public import proofs.«01_k».proof.Proof.Gen.ReferenceIdeal.Read
public import proofs.«01_k».proof.Proof.Gen.ReferenceIdeal

/-! The reference's results, when its arguments hold real numbers: the sublayer and its gradients, as the reference takes them
    step by step, are those of the real formulas. -/

@[expose] public section

set_option maxRecDepth 16384

noncomputable section

namespace Cert.Ffn

/-! ## The gradient of the layer norm by way of the variance -/

theorem sum_cen (r : Fin 1024 → ℝ) : ∑ d, cen r d = 0 := by
  simp only [cen, Finset.sum_sub_distrib, Finset.sum_const, Finset.card_univ, Fintype.card_fin, mean, nsmul_eq_mul]
  push_cast
  ring

theorem rstd_sq (r : Fin 1024 → ℝ) : rstd r * rstd r = 1 / (var r + ε) := by
  rw [rstd, ← mul_inv, Real.mul_self_sqrt (var_eps_pos r).le, one_div]

/-- What the variance's gradient gives each element, as a factor of the centred row. -/
def vfac (dy r g : Fin 1024 → ℝ) : ℝ := (∑ d, cen r d * (dy d * g d)) * (-(1 / 2) * (rstd r * (1 / (var r + ε)))) * (1 / 1024)
/-- The gradient of the centred row. -/
def dcen (dy r g : Fin 1024 → ℝ) (d : Fin 1024) : ℝ := dy d * g d * rstd r + cen r d * vfac dy r g + vfac dy r g * cen r d

theorem vfac_eq (dy r g : Fin 1024 → ℝ) :
    vfac dy r g = -(1 / 2) * (rstd r * rstd r) * mean (fun k => dy k * g k * xh r k) := by
  have h : ∑ k, dy k * g k * xh r k = rstd r * ∑ k, cen r k * (dy k * g k) := by
    rw [Finset.mul_sum]
    exact Finset.sum_congr rfl fun k _ => by rw [xh]; ring
  rw [vfac, mean, h, ← rstd_sq]
  ring

theorem dr_eq (dy r g : Fin 1024 → ℝ) (d : Fin 1024) : dcen dy r g d + (∑ k, -dcen dy r g k) * (1 / 1024) = dr dy r g d := by
  have h : ∑ k, -dcen dy r g k = -(rstd r * ∑ k, dy k * g k) := by
    have e : ∀ k, -dcen dy r g k = -(rstd r * (dy k * g k)) + -(2 * vfac dy r g) * cen r k := fun k => by rw [dcen]; ring
    simp only [e, Finset.sum_add_distrib, ← Finset.mul_sum, sum_cen, Finset.sum_neg_distrib, mul_zero, add_zero]
  rw [h, dr, dcen, vfac_eq, xh]
  simp only [mean]
  ring

end Cert.Ffn

namespace Cert.ReferenceIdeal.Read

open Idealize.ShloMosaic Idealize.ShloMosaic.TcCoe Cert.ReferenceIdeal.Gen Cert.Ffn

/-- An array that holds the real numbers `f`. -/
def Holds {a b : ℕ} (v : (⟨2, ![a, b]⟩ : Shape).Idx → EReal) (f : Fin a → Fin b → ℝ) : Prop :=
  ∀ r c, v (ix2 r c) = ((f r c : ℝ) : EReal)

theorem div_real {y : ℝ} (h : y ≠ 0) (x : ℝ) : Ideal.div (x : EReal) (y : EReal) = ((x * (1 / y) : ℝ) : EReal) := by
  rw [Ideal.div_coe h, EReal.coe_mul]

variable {x0 : FVec Ideal S2048x1024 .f32} {x1 : FVec Ideal S1024x5632 .f32} {x2 : FVec Ideal S2816x1024 .f32}
  {x3 x4 : FVec Ideal S1x1024 .f32} {x5 : FVec Ideal S2048x1024 .f32}
  {X Y : Fin 2048 → Fin 1024 → ℝ} {W : Fin 1024 → Fin 5632 → ℝ} {U : Fin 2816 → Fin 1024 → ℝ} {g b : Fin 1024 → ℝ}

/-! ## The forward pass -/

theorem r2 (h0 : Holds x0 X) (h1 : Holds x1 W) : Holds (val_main_v2 (F := Ideal) x0 x1) fun r => hid (X r) W := fun r c => by
  pointwise [val_main_v2]
  simp only [h0 r, h1 _ c, sum_coe, ← EReal.coe_mul]
  rfl

theorem r3 (h0 : Holds x0 X) (h1 : Holds x1 W) : Holds (val_main_v3 (F := Ideal) x0 x1) fun r j => hid (X r) W (gcol j) := fun r c => by
  pointwise [val_main_v3]
  exact r2 h0 h1 r (gcol c)

theorem r4 (h0 : Holds x0 X) (h1 : Holds x1 W) : Holds (val_main_v4 (F := Ideal) x0 x1) fun r j => hid (X r) W (ucol j) := fun r c => by
  pointwise [val_main_v4]
  exact r2 h0 h1 r (ucol c)

theorem r5_2 (h0 : Holds x0 X) (h1 : Holds x1 W) : Holds (val_main_v5_2 (F := Ideal) x0 x1) fun r j => sg (hid (X r) W (gcol j)) := fun r c => by
  pointwise [val_main_v5_2, val_main_call0_v3, val_main_call0_v4, val_main_call0_v2, val_main_call0_v1, val_main_call0_v0, val_main_call0_cst,
    val_main_call0_cst_0]
  have hp : (1 + Real.exp (-hid (X r) W (gcol c))) ≠ 0 := by positivity
  simp only [r3 h0 h1 r c, ofBits_one, Ideal.exp_coe, ← EReal.coe_neg, ← EReal.coe_add, ← EReal.coe_one]
  rw [div_real hp, one_mul, one_div]
  rfl

theorem r5_1 (h0 : Holds x0 X) (h1 : Holds x1 W) :
    Holds (val_main_v5_1 (F := Ideal) x0 x1) fun r j => sg (hid (X r) W (gcol j)) * (1 - sg (hid (X r) W (gcol j))) := fun r c => by
  pointwise [val_main_v5_1, val_main_call0_v7, val_main_call0_v6, val_main_call0_cst_1]
  simp only [r5_2 h0 h1 r c, ofBits_one, ← EReal.coe_one, ← EReal.coe_sub, ← EReal.coe_mul]

theorem r5_0 (h0 : Holds x0 X) (h1 : Holds x1 W) :
    Holds (val_main_v5_0 (F := Ideal) x0 x1) fun r j => hid (X r) W (gcol j) * sg (hid (X r) W (gcol j)) := fun r c => by
  pointwise [val_main_v5_0]
  simp only [r5_2 h0 h1 r c, r3 h0 h1 r c, ← EReal.coe_mul]

theorem r6 (h0 : Holds x0 X) (h1 : Holds x1 W) : Holds (val_main_v6 (F := Ideal) x0 x1) fun r => act (X r) W := fun r c => by
  pointwise [val_main_v6]
  simp only [r5_0 h0 h1 r c, r4 h0 h1 r c, ← EReal.coe_mul]
  rfl

theorem r10 (h0 : Holds x0 X) (h1 : Holds x1 W) (h2 : Holds x2 U) : Holds (val_main_v10 (F := Ideal) x0 x1 x2) fun r => res (X r) W U := fun r c => by
  pointwise [val_main_v10, val_main_v9, val_main_v8, val_main_cst_0, val_main_v7, val_main_v1, val_main_v0, val_main_cst]
  simp only [r6 h0 h1 r, h0 r, h2 _ c, ofBits_alpha, ofBits_half, sum_coe, ← EReal.coe_mul, ← EReal.coe_add]
  rfl

section Norm

variable {R : Fin 2048 → Fin 1024 → ℝ}

theorem r16 (h : Holds (val_main_v10 (F := Ideal) x0 x1 x2) R) : Holds (val_main_v16 (F := Ideal) x0 x1 x2) fun r => cen (R r) := fun r c => by
  pointwise [val_main_v16, val_main_v15, val_main_v14, val_main_v13, val_main_cst_2, val_main_v12, val_main_v11, val_main_cst_1]
  simp only [h r, sum_coe, ofBits_1024, div_1024, zero_add, ← EReal.coe_sub]
  rfl

theorem r23 (h : Holds (val_main_v10 (F := Ideal) x0 x1 x2) R) : Holds (val_main_v23 (F := Ideal) x0 x1 x2) fun r _ => var (R r) + ε := fun r c => by
  pointwise [val_main_v23, val_main_v22, val_main_v21, val_main_v20, val_main_v19, val_main_v18, val_main_v17, val_main_cst_5, val_main_cst_4, val_main_cst_3]
  simp only [r16 h r, sum_coe, ofBits_1024, div_1024, ofBits_eps, zero_add, ← EReal.coe_mul, ← EReal.coe_add]
  rfl

theorem r24 (h : Holds (val_main_v10 (F := Ideal) x0 x1 x2) R) : Holds (val_main_v24 (F := Ideal) x0 x1 x2) fun r _ => rstd (R r) := fun r c => by
  have e := r23 h r c
  pointwise [val_main_v24]
  rw [e]
  exact rsqrt_pos (var_eps_pos (R r))

theorem r27 (h : Holds (val_main_v10 (F := Ideal) x0 x1 x2) R) :
    Holds (val_main_v27 (F := Ideal) x0 x1 x2) fun r _ => -(1 / 2) * (rstd (R r) * (1 / (var (R r) + ε))) := fun r c => by
  have e := r23 h r c
  have e' := r24 h r c
  pointwise [val_main_v27, val_main_v26, val_main_v25, val_main_cst_6]
  rw [e, e', div_real (var_eps_pos (R r)).ne', ofBits_neg_half, ← EReal.coe_mul]

theorem r29 (h : Holds (val_main_v10 (F := Ideal) x0 x1 x2) R) : Holds (val_main_v29 (F := Ideal) x0 x1 x2) fun r => xh (R r) := fun r c => by
  have e' := r24 h r 0
  pointwise [val_main_v29, val_main_v28]
  rw [r16 h r c, e', ← EReal.coe_mul]
  rfl

theorem r33 (h : Holds (val_main_v10 (F := Ideal) x0 x1 x2) R) (h3 : Holds x3 fun _ => g) (h4 : Holds x4 fun _ => b) :
    Holds (val_main_v33 (F := Ideal) x0 x1 x2 x3 x4) fun r => ln (R r) g b := fun r c => by
  pointwise [val_main_v33, val_main_v32, val_main_v31, val_main_v30]
  rw [r29 h r c, h3 0 c, h4 0 c, ← EReal.coe_mul, ← EReal.coe_add]
  rfl

/-! ## The backward pass -/

theorem r36 (h5 : Holds x5 Y) : Holds (val_main_v36 (F := Ideal) x5) fun _ d => ∑ t, Y t d := fun r c => by
  pointwise [val_main_v36, val_main_v35, val_main_cst_7]
  simp only [h5 _ c, sum_coe, zero_add]

theorem r39 (h : Holds (val_main_v10 (F := Ideal) x0 x1 x2) R) (h5 : Holds x5 Y) :
    Holds (val_main_v39 (F := Ideal) x0 x1 x2 x5) fun _ d => ∑ t, Y t d * xh (R t) d := fun r c => by
  pointwise [val_main_v39, val_main_v38, val_main_cst_8, val_main_v37, val_main_v34]
  simp only [h5 _ c, r29 h _ c, sum_coe, zero_add, ← EReal.coe_mul]
  exact congrArg _ (Finset.sum_congr rfl fun t _ => mul_comm _ _)

theorem r41 (h3 : Holds x3 fun _ => g) (h5 : Holds x5 Y) : Holds (val_main_v41 (F := Ideal) x3 x5) fun r d => Y r d * g d := fun r c => by
  pointwise [val_main_v41, val_main_v40, val_main_v34]
  rw [h5 r c, h3 0 c, ← EReal.coe_mul]

theorem r49 (h : Holds (val_main_v10 (F := Ideal) x0 x1 x2) R) (h3 : Holds x3 fun _ => g) (h5 : Holds x5 Y) :
    Holds (val_main_v49 (F := Ideal) x0 x1 x2 x3 x5) fun r _ => vfac (Y r) (R r) g := fun r c => by
  have e := r27 h r c
  pointwise [val_main_v49, val_main_v48, val_main_cst_10, val_main_v47, val_main_v44, val_main_v43, val_main_v42, val_main_cst_9]
  simp only [e, r16 h r, r41 h3 h5 r, sum_coe, ofBits_1024, zero_add, ← EReal.coe_mul, div_1024]
  rfl

theorem r55 (h : Holds (val_main_v10 (F := Ideal) x0 x1 x2) R) (h3 : Holds x3 fun _ => g) (h5 : Holds x5 Y) :
    Holds (val_main_v55 (F := Ideal) x0 x1 x2 x3 x5) fun r => dcen (Y r) (R r) g := fun r c => by
  have e := r49 h h3 h5 r 0
  have e' := r24 h r 0
  pointwise [val_main_v55, val_main_v54, val_main_v53, val_main_v52, val_main_v51, val_main_v50, val_main_v46, val_main_v45, val_main_cst_11]
  simp only [Fin.sum_univ_one, e, e', r16 h r, r41 h3 h5 r, zero_add, ← EReal.coe_mul, ← EReal.coe_add]
  rfl

theorem r63 (h : Holds (val_main_v10 (F := Ideal) x0 x1 x2) R) (h3 : Holds x3 fun _ => g) (h5 : Holds x5 Y) :
    Holds (val_main_v63 (F := Ideal) x0 x1 x2 x3 x5) fun r => dr (Y r) (R r) g := fun r c => by
  pointwise [val_main_v63, val_main_v62, val_main_v61, val_main_v60, val_main_v59, val_main_v58, val_main_v57, val_main_v56, val_main_cst_12,
    val_main_cst_13, val_main_cst_14]
  simp only [Fin.sum_univ_one, r55 h h3 h5 r, zero_add, ← EReal.coe_neg, sum_coe, ofBits_1024, div_1024, ← EReal.coe_add]
  exact congrArg _ (dr_eq (Y r) (R r) g c)

end Norm

section Products

variable {D : Fin 2048 → Fin 1024 → ℝ}

theorem r65 (h : Holds (val_main_v63 (F := Ideal) x0 x1 x2 x3 x5) D) : Holds (val_main_v65 (F := Ideal) x0 x1 x2 x3 x5) fun r => df (D r) := fun r c => by
  pointwise [val_main_v65, val_main_v64, val_main_cst_15]
  rw [h r c, ofBits_half, ← EReal.coe_mul]
  rfl

theorem r67 (h0 : Holds x0 X) (h1 : Holds x1 W) (h : Holds (val_main_v63 (F := Ideal) x0 x1 x2 x3 x5) D) :
    Holds (val_main_v67 (F := Ideal) x0 x1 x2 x3 x5) fun j d => ∑ t, act (X t) W j * df (D t) d := fun r c => by
  pointwise [val_main_v67, val_main_v66]
  simp only [r65 h _ c, r6 h0 h1 _ r, sum_coe, ← EReal.coe_mul]
  exact congrArg _ (Finset.sum_congr rfl fun t _ => mul_comm _ _)

theorem r68 (h2 : Holds x2 U) (h : Holds (val_main_v63 (F := Ideal) x0 x1 x2 x3 x5) D) :
    Holds (val_main_v68 (F := Ideal) x0 x1 x2 x3 x5) fun r => da (D r) U := fun r c => by
  pointwise [val_main_v68]
  simp only [r65 h r, h2 c, sum_coe, ← EReal.coe_mul]
  rfl

theorem r69 (h0 : Holds x0 X) (h1 : Holds x1 W) (h2 : Holds x2 U) (h : Holds (val_main_v63 (F := Ideal) x0 x1 x2 x3 x5) D) :
    Holds (val_main_v69 (F := Ideal) x0 x1 x2 x3 x5) fun r => dval (X r) W U (D r) := fun r c => by
  pointwise [val_main_v69]
  rw [r5_0 h0 h1 r c, r68 h2 h r c, ← EReal.coe_mul]
  exact congrArg _ (mul_comm _ _)

theorem r71 (h0 : Holds x0 X) (h1 : Holds x1 W) (h2 : Holds x2 U) (h : Holds (val_main_v63 (F := Ideal) x0 x1 x2 x3 x5) D) :
    Holds (val_main_v71 (F := Ideal) x0 x1 x2 x3 x5) fun r => dgate (X r) W U (D r) := fun r c => by
  pointwise [val_main_v71, val_main_call1_v0, val_main_call1_v1, val_main_call1_v2, val_main_v70]
  rw [r3 h0 h1 r c, r4 h0 h1 r c, r5_1 h0 h1 r c, r5_2 h0 h1 r c, r68 h2 h r c]
  simp only [← EReal.coe_mul, ← EReal.coe_add]
  refine congrArg _ ?_
  rw [dgate]
  ring

theorem r72 (h0 : Holds x0 X) (h1 : Holds x1 W) (h2 : Holds x2 U) (h : Holds (val_main_v63 (F := Ideal) x0 x1 x2 x3 x5) D) :
    Holds (val_main_v72 (F := Ideal) x0 x1 x2 x3 x5) fun r => dhid (X r) W U (D r) := fun r c => by
  pointwise [val_main_v72]
  rw [dhid]
  by_cases hc : c.val < 2816
  · rw [dif_pos hc, dif_pos hc]
    exact r71 h0 h1 h2 h r _
  · rw [dif_neg hc, dif_neg hc]
    exact r69 h0 h1 h2 h r _

theorem r74 (h0 : Holds x0 X) (h1 : Holds x1 W) (h2 : Holds x2 U) (h : Holds (val_main_v63 (F := Ideal) x0 x1 x2 x3 x5) D) :
    Holds (val_main_v74 (F := Ideal) x0 x1 x2 x3 x5) fun k c => ∑ t, X t k * dhid (X t) W U (D t) c := fun r c => by
  pointwise [val_main_v74, val_main_v73]
  simp only [r72 h0 h1 h2 h _ c, h0 _ r, sum_coe, ← EReal.coe_mul]
  exact congrArg _ (Finset.sum_congr rfl fun t _ => mul_comm _ _)

theorem r78 (h0 : Holds x0 X) (h1 : Holds x1 W) (h2 : Holds x2 U) (h : Holds (val_main_v63 (F := Ideal) x0 x1 x2 x3 x5) D) :
    Holds (val_main_v78 (F := Ideal) x0 x1 x2 x3 x5) fun r => dx (X r) W U (D r) := fun r c => by
  pointwise [val_main_v78, val_main_v77, val_main_v76, val_main_v75, val_main_cst_16]
  simp only [r72 h0 h1 h2 h r, h1 c, h r c, ofBits_alpha, sum_coe, ← EReal.coe_mul, ← EReal.coe_add]
  refine congrArg _ ?_
  rw [dx, sum_columns]
  simp only [dhid_gcol, dhid_ucol]
  ring

end Products

end Cert.ReferenceIdeal.Read

end
-- ==== Proof.Value.Equal.lean ====
module

public import proofs.«01_k».proof.Proof.Value.Finite
public import proofs.«01_k».proof.Proof.Value.Reference
public import proofs.«01_k».proof.Proof.Gen.ReferenceIdeal.Run

/-! The kernel's six results and the reference's hold the same real numbers. -/

@[expose] public section

set_option maxRecDepth 16384

noncomputable section

namespace Cert.Equal

open Idealize.ShloMosaic Idealize.ShloMosaic.TcCoe Idealize.SL.Sem Cert.Ffn
open Cert.KernelIdeal.Value (Is2 Args)
open Cert.ReferenceIdeal.Read (Holds)

/-- Two arrays that hold the same real numbers are equal. -/
theorem arrays_eq {a b : ℕ} {v w : (⟨2, ![a, b]⟩ : Shape).Idx → EReal} {f : Fin a → Fin b → ℝ} (h : Holds v f) (k : Is2 w f) : v = w :=
  funext fun i => by
    obtain ⟨r, c, rfl⟩ : ∃ r c, i = ix2 r c := ⟨i 0, i 1, eq_ix2 i⟩
    rw [h r c, k r c]

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

/-- The reference's result terms at the kernel's arguments, equal to what the kernel leaves. -/
theorem results {X Y W U g b} (A : Args m c X W U g b Y) :
    Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      = Cert.KernelIdeal.Run.W6 m ρ c (Proc.devRef .tc Cert.KernelIdeal.main_v5_2)
    ∧ Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      = Cert.KernelIdeal.Run.W6 m ρ c (Proc.devRef .tc Cert.KernelIdeal.main_v6_0)
    ∧ Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      = Cert.KernelIdeal.Run.W6 m ρ c (Proc.devRef .tc Cert.KernelIdeal.main_v10)
    ∧ Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      = Cert.KernelIdeal.Run.W6 m ρ c (Proc.devRef .tc Cert.KernelIdeal.main_v8)
    ∧ Cert.ReferenceIdeal.Read.val_main_v39 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5))
      = Cert.KernelIdeal.Run.W6 m ρ c (Proc.devRef .tc Cert.KernelIdeal.main_v6_4)
    ∧ Cert.ReferenceIdeal.Read.val_main_v36 (F := Ideal) (m ((c.tc : Thread Cert.KernelIdeal.nD Cert.KernelIdeal.τ).loc Cert.KernelIdeal.main_arg5))
      = Cert.KernelIdeal.Run.W6 m ρ c (Proc.devRef .tc Cert.KernelIdeal.main_v6_5) := by
  have hr := Cert.ReferenceIdeal.Read.r10 A.x A.w A.u
  have hd := Cert.ReferenceIdeal.Read.r63 hr A.g A.y
  exact ⟨arrays_eq (Cert.ReferenceIdeal.Read.r33 hr A.g A.b) (Cert.KernelIdeal.Value.out_xo ρ A),
    arrays_eq (Cert.ReferenceIdeal.Read.r78 A.x A.w A.u hd) (Cert.KernelIdeal.Value.out_dx ρ A),
    arrays_eq (Cert.ReferenceIdeal.Read.r74 A.x A.w A.u hd) (Cert.KernelIdeal.Value.out_dw_in ρ A),
    arrays_eq (Cert.ReferenceIdeal.Read.r67 A.x A.w hd) (Cert.KernelIdeal.Value.out_dw_out ρ A),
    arrays_eq (Cert.ReferenceIdeal.Read.r39 hr A.y) (Cert.KernelIdeal.Value.out_dg ρ A),
    arrays_eq (Cert.ReferenceIdeal.Read.r36 A.y) (Cert.KernelIdeal.Value.out_db ρ A)⟩

/-- The kernel and the reference end with equal results, their arguments unchanged. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hag
  refine ⟨fun c => Cert.KernelIdeal.Run.W6 m ρ c (Proc.devRef .tc Cert.KernelIdeal.main_v5_2),
    fun c => Cert.KernelIdeal.Run.W6 m ρ c (Proc.devRef .tc Cert.KernelIdeal.main_v6_0),
    fun c => Cert.KernelIdeal.Run.W6 m ρ c (Proc.devRef .tc Cert.KernelIdeal.main_v10),
    fun c => Cert.KernelIdeal.Run.W6 m ρ c (Proc.devRef .tc Cert.KernelIdeal.main_v8),
    fun c => Cert.KernelIdeal.Run.W6 m ρ c (Proc.devRef .tc Cert.KernelIdeal.main_v6_4),
    fun c => Cert.KernelIdeal.Run.W6 m ρ c (Proc.devRef .tc Cert.KernelIdeal.main_v6_5), ?_, ?_⟩
  · refine (θ_run Cert.KernelIdeal.defs _ _).mono (fun _ h c => ?_) (Cert.KernelIdeal.Run.run_main (F := Ideal) m ρ)
    exact ⟨h.1 c _ (Cert.KernelIdeal.Run.mem_uc Cert.KernelIdeal.main_v5_2 (by decide)),
      h.1 c _ (Cert.KernelIdeal.Run.mem_uc Cert.KernelIdeal.main_v6_0 (by decide)),
      h.1 c _ (Cert.KernelIdeal.Run.mem_uc Cert.KernelIdeal.main_v10 (by decide)),
      h.1 c _ (Cert.KernelIdeal.Run.mem_uc Cert.KernelIdeal.main_v8 (by decide)),
      h.1 c _ (Cert.KernelIdeal.Run.mem_uc Cert.KernelIdeal.main_v6_4 (by decide)),
      h.1 c _ (Cert.KernelIdeal.Run.mem_uc Cert.KernelIdeal.main_v6_5 (by decide)),
      (h.1 c _ (Cert.KernelIdeal.Run.mem_uc Cert.KernelIdeal.main_arg0 (by decide))).trans (Cert.KernelIdeal.Run.W6_main_arg0 m ρ c),
      (h.1 c _ (Cert.KernelIdeal.Run.mem_uc Cert.KernelIdeal.main_arg1 (by decide))).trans (Cert.KernelIdeal.Run.W6_main_arg1 m ρ c),
      (h.1 c _ (Cert.KernelIdeal.Run.mem_uc Cert.KernelIdeal.main_arg2 (by decide))).trans (Cert.KernelIdeal.Run.W6_main_arg2 m ρ c),
      (h.1 c _ (Cert.KernelIdeal.Run.mem_uc Cert.KernelIdeal.main_arg3 (by decide))).trans (Cert.KernelIdeal.Run.W6_main_arg3 m ρ c),
      (h.1 c _ (Cert.KernelIdeal.Run.mem_uc Cert.KernelIdeal.main_arg4 (by decide))).trans (Cert.KernelIdeal.Run.W6_main_arg4 m ρ c),
      (h.1 c _ (Cert.KernelIdeal.Run.mem_uc Cert.KernelIdeal.main_arg5 (by decide))).trans (Cert.KernelIdeal.Run.W6_main_arg5 m ρ c)⟩
  · refine (θ_run Cert.ReferenceIdeal.defs _ _).mono (fun _ h c => ?_) (Cert.ReferenceIdeal.Value.run (F := Ideal) m' ρ')
    obtain ⟨X, W, U, g, b, Y, A⟩ := Cert.KernelIdeal.Value.args_of_pre m hpre c
    obtain ⟨e0, e1, e2, e3, e4, e5⟩ := results m ρ c A
    obtain ⟨a0, a1, a2, a3, a4, a5⟩ := hag c
    replace a0 : StableHlo.launchContents m' c (Proc.devRef .tc Cert.ReferenceIdeal.main_arg0)
        = m ((c.tc : Thread Cert.KernelIdeal.nD Cert.KernelIdeal.τ).loc Cert.KernelIdeal.main_arg0) := a0
    replace a1 : StableHlo.launchContents m' c (Proc.devRef .tc Cert.ReferenceIdeal.main_arg1)
        = m ((c.tc : Thread Cert.KernelIdeal.nD Cert.KernelIdeal.τ).loc Cert.KernelIdeal.main_arg1) := a1
    replace a2 : StableHlo.launchContents m' c (Proc.devRef .tc Cert.ReferenceIdeal.main_arg2)
        = m ((c.tc : Thread Cert.KernelIdeal.nD Cert.KernelIdeal.τ).loc Cert.KernelIdeal.main_arg2) := a2
    replace a3 : StableHlo.launchContents m' c (Proc.devRef .tc Cert.ReferenceIdeal.main_arg3)
        = m ((c.tc : Thread Cert.KernelIdeal.nD Cert.KernelIdeal.τ).loc Cert.KernelIdeal.main_arg3) := a3
    replace a4 : StableHlo.launchContents m' c (Proc.devRef .tc Cert.ReferenceIdeal.main_arg4)
        = m ((c.tc : Thread Cert.KernelIdeal.nD Cert.KernelIdeal.τ).loc Cert.KernelIdeal.main_arg4) := a4
    replace a5 : StableHlo.launchContents m' c (Proc.devRef .tc Cert.ReferenceIdeal.main_arg5)
        = m ((c.tc : Thread Cert.KernelIdeal.nD Cert.KernelIdeal.τ).loc Cert.KernelIdeal.main_arg5) := a5
    obtain ⟨h0, h1, h2, h3, h4, h5, k⟩ := h c
    refine ⟨h0.trans ?_, h1.trans ?_, h2.trans ?_, h3.trans ?_, h4.trans ?_, h5.trans ?_, k⟩
    · refine (Cert.ReferenceIdeal.Read.val_main_v33_eq _).trans ?_
      rw [a0, a1, a2, a3, a4]; exact e0
    · refine (Cert.ReferenceIdeal.Read.val_main_v78_eq _).trans ?_
      rw [a0, a1, a2, a3, a5]; exact e1
    · refine (Cert.ReferenceIdeal.Read.val_main_v74_eq _).trans ?_
      rw [a0, a1, a2, a3, a5]; exact e2
    · refine (Cert.ReferenceIdeal.Read.val_main_v67_eq _).trans ?_
      rw [a0, a1, a2, a3, a5]; exact e3
    · refine (Cert.ReferenceIdeal.Read.val_main_v39_eq _).trans ?_
      rw [a0, a1, a2, a5]; exact e4
    · refine (Cert.ReferenceIdeal.Read.val_main_v36_eq _).trans ?_
      rw [a5]; exact e5

end Cert.Equal

end
-- ==== Proof.Scan.Same.lean ====
module

public import proofs.«01_k».proof.Defs
public import proofs.«01_k».proof.Proof.Gen.Kernel2
public import proofs.«01_k».proof.Proof.Gen.Kernel2Ideal

/-! The scan's program and its idealization are one program, no operation having been replaced: their body tables are equal. -/

@[expose] public section

set_option maxHeartbeats 0
set_option maxRecDepth 65536

namespace Cert.Same2

open Idealize.ShloMosaic

theorem scan : @Cert.Kernel2.cc0_s5_scan_fwd Bits _ Cert.Kernel2.Gen.facts = @Cert.Kernel2Ideal.cc0_s5_scan_fwd Bits _ Cert.Kernel2Ideal.Gen.facts := rfl

/-- The kernels' table. -/
theorem bodies : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  rw [scan]
  refine congrArg Defs.onTc ?_
  funext l a
  match l, a with
  | 0, (t, s) => rfl
  | ⟨n + 1, h⟩, _ => exact absurd h (Nat.not_lt.2 (Nat.le_add_left _ _))

/-- The whole table. -/
theorem table : @Cert.Kernel2.defs Bits _ Cert.Kernel2.Gen.facts = @Cert.Kernel2Ideal.defs Bits _ Cert.Kernel2Ideal.Gen.facts := by
  show Pipeline.defs (@Cert.Kernel2.pcfgs Bits Cert.Kernel2.Gen.facts) (@Cert.Kernel2.defs₀ Bits _ Cert.Kernel2.Gen.facts)
    = Pipeline.defs (@Cert.Kernel2Ideal.pcfgs Bits Cert.Kernel2Ideal.Gen.facts) (@Cert.Kernel2Ideal.defs₀ Bits _ Cert.Kernel2Ideal.Gen.facts)
  rw [bodies]
  rfl

/-- The program text. -/
theorem text : @Cert.Kernel2.main Bits _ Cert.Kernel2.Gen.facts = @Cert.Kernel2Ideal.main Bits _ Cert.Kernel2Ideal.Gen.facts := rfl

end Cert.Same2
-- ==== Proof.Scan.Mem.lean ====
module

public import proofs.«01_k».proof.Proof.Gen.Kernel2Ideal.Skeleton
public import Idealize.ShloMosaic.Lib.Pipeline.FrameBody
public import Idealize.ShloMosaic.Lib.WritesUnit
public import Idealize.ShloMosaic.Lib.Pointwise

/-! The scan's two scratch buffers: 2048 rows of data at rows 8 to 2055, read and written in tiles of 256 rows and in rows eight apart. -/

@[expose] public section

set_option maxRecDepth 16384

noncomputable section

namespace Cert.Kernel2Ideal.Run

open Cert.Kernel2Ideal.Gen Idealize.ShloMosaic

variable {F : FTy → Type} [FloatOps F]

/-- The `k`-th 256 rows. -/
def tile {e : EltTy} (k : ℕ) (v : Vec F S2048x128 e) : Vec F S256x128 e :=
  fun y => v (ix2 ⟨(256 * k + (y 0).val) % 2048, Nat.mod_lt _ (by decide)⟩ (y 1))
/-- Tiles of 256 rows, one below the other. -/
def untile {e : EltTy} (w : ℕ → Vec F S256x128 e) : Vec F S2048x128 e :=
  fun y => w ((y 0).val / 256) (ix2 ⟨(y 0).val % 256, Nat.mod_lt _ (by decide)⟩ (y 1))
/-- The rows `r`, `8 + r`, `16 + r`, …. -/
def edge {e : EltTy} (r : ℕ) (v : Vec F S2048x128 e) : Vec F S256x128 e :=
  fun y => v (ix2 ⟨(8 * (y 0).val + r) % 2048, Nat.mod_lt _ (by decide)⟩ (y 1))
/-- The `k`-th 32 rows. -/
def tile32 {e : EltTy} (k : ℕ) (v : Vec F S256x128 e) : Vec F S32x128 e :=
  fun y => v (ix2 ⟨(32 * k + (y 0).val) % 256, Nat.mod_lt _ (by decide)⟩ (y 1))

theorem tile_untile {e : EltTy} (k : ℕ) (hk : k < 8) (w : ℕ → Vec F S256x128 e) : tile k (untile w) = w k := by
  funext y
  have h0 : (y 0).val < 256 := (y 0).isLt
  have key : ∀ (n : ℕ) (hn : n % 256 < 256), n / 256 = k → n % 256 = (y 0).val →
      w (n / 256) (ix2 ⟨n % 256, hn⟩ (y 1)) = w k y := by
    intro n hn h1 h2
    rw [h1]
    refine congrArg (w k) (funext fun a => ?_)
    match a with
    | ⟨0, _⟩ => exact Fin.ext h2
    | ⟨1, _⟩ => rfl
  exact key ((256 * k + (y 0).val) % 2048) (Nat.mod_lt _ (by decide)) (by omega) (by omega)

/-- The data rows of a scratch buffer hold `L` in the first `k` tiles and `v` in the rest. -/
def Mix {e : EltTy} (k : ℕ) (v L : Vec F S2048x128 e) (X : Vec F S2064x128 e) : Prop :=
  ∀ (r : Fin 2048) (c : Fin 128), X (ix2 ⟨r.val + 8, by omega⟩ c) = if r.val < 256 * k then L (ix2 r c) else v (ix2 r c)

theorem Mix.load {e : EltTy} {k : ℕ} (hk : k < 8) {v L : Vec F S2048x128 e} {X : Vec F S2064x128 e} (h : Mix k v L X)
    {off : Fin 2 → ℕ} (hoff : off = ![256 * k + 8, 0]) (inb : ∀ a, off a + S256x128.size a ≤ S2064x128.size a) :
    (fun x => X ((Rect.unit (s := S2064x128) off S256x128.size inb).toLoadRect.idx x)) = tile k v := by
  subst hoff
  funext x
  have hx : (x 0).val < 256 := (x 0).isLt
  have := h ⟨256 * k + (x 0).val, by omega⟩ (x 1)
  rw [if_neg (by simp only; omega)] at this
  unfold tile
  simp only [Nat.mod_eq_of_lt (show 256 * k + (x 0).val < 2048 by omega)]
  rw [← this]
  refine congrArg X (funext fun a => Fin.ext ?_)
  match a with
  | ⟨0, _⟩ => show 256 * k + 8 + 1 * (x 0).val = 256 * k + (x 0).val + 8; omega
  | ⟨1, _⟩ => show 0 + 1 * (x 1).val = (x 1).val; omega

theorem Mix.load_done {e : EltTy} {k : ℕ} (hk : k < 8) {v L : Vec F S2048x128 e} {X : Vec F S2064x128 e} (h : Mix 8 v L X)
    {off : Fin 2 → ℕ} (hoff : off = ![256 * k + 8, 0]) (inb : ∀ a, off a + S256x128.size a ≤ S2064x128.size a) :
    (fun x => X ((Rect.unit (s := S2064x128) off S256x128.size inb).toLoadRect.idx x)) = tile k L := by
  subst hoff
  funext x
  have hx : (x 0).val < 256 := (x 0).isLt
  have := h ⟨256 * k + (x 0).val, by omega⟩ (x 1)
  rw [if_pos (by simp only; omega)] at this
  unfold tile
  simp only [Nat.mod_eq_of_lt (show 256 * k + (x 0).val < 2048 by omega)]
  rw [← this]
  refine congrArg X (funext fun a => Fin.ext ?_)
  match a with
  | ⟨0, _⟩ => show 256 * k + 8 + 1 * (x 0).val = 256 * k + (x 0).val + 8; omega
  | ⟨1, _⟩ => show 0 + 1 * (x 1).val = (x 1).val; omega

theorem Mix.edge {e : EltTy} {r : ℕ} (hr : r < 8) {v L : Vec F S2048x128 e} {X : Vec F S2064x128 e} (h : Mix 8 v L X)
    {off : Fin 2 → ℕ} (hoff : off = ![8 + r, 0]) (inb : ∀ a, S256x128.size a = 0 ∨ off a + (![8, 1] : Fin 2 → ℕ) a * (S256x128.size a - 1) < S2064x128.size a) :
    (fun x => X ((⟨off, S256x128.size, ![8, 1], inb⟩ : LoadRect S2064x128).idx x)) = Run.edge r L := by
  subst hoff
  funext x
  have hx : (x 0).val < 256 := (x 0).isLt
  have := h ⟨8 * (x 0).val + r, by omega⟩ (x 1)
  rw [if_pos (by simp only; omega)] at this
  unfold Run.edge
  simp only [Nat.mod_eq_of_lt (show 8 * (x 0).val + r < 2048 by omega)]
  rw [← this]
  refine congrArg X (funext fun a => Fin.ext ?_)
  match a with
  | ⟨0, _⟩ => show 8 + r + 8 * (x 0).val = 8 * (x 0).val + r + 8; omega
  | ⟨1, _⟩ => show 0 + 1 * (x 1).val = (x 1).val; omega

theorem Mix.init {e : EltTy} {κ : Kind} {sp : Space} (w : View sig κ sp S2064x128 e) (f : w.ty.Contents (Elt F)) {off : Fin 2 → ℕ} (hoff : off = ![8, 0])
    (inb : ∀ a, off a + S2048x128.size a ≤ S2064x128.size a) (v L : Vec F S2048x128 e) :
    Mix 0 v L (w.read (Elt F) (w.writes (Elt F) f [⟨Rect.unit (s := S2064x128) off S2048x128.size inb, v⟩])) := by
  intro r c
  rw [if_neg (by omega)]
  exact View.read_writes_cons_rows_of_mem w f inb v [] _ (ix2 r c) hoff (by show r.val + 8 = 8 + r.val; omega) rfl

theorem Mix.store {e : EltTy} {κ : Kind} {sp : Space} {k : ℕ} (hk : k < 8) {v : Vec F S2048x128 e} (W : ℕ → Vec F S256x128 e)
    (w : View sig κ sp S2064x128 e) (f : w.ty.Contents (Elt F)) (h : Mix k v (untile W) (w.read (Elt F) f))
    {off : Fin 2 → ℕ} (hoff : off = ![256 * k + 8, 0]) (inb : ∀ a, off a + S256x128.size a ≤ S2064x128.size a)
    {p : Vec F S256x128 e} (hp : p = W k) :
    Mix (k + 1) v (untile W) (w.read (Elt F) (w.writes (Elt F) f [⟨Rect.unit (s := S2064x128) off S256x128.size inb, p⟩])) := by
  subst hp
  intro r c
  by_cases h1 : r.val < 256 * k
  · rw [if_pos (by omega), View.read_writes_cons_rows_of_not_mem w f inb (W k) [] _ hoff rfl (Or.inl (by show r.val + 8 < _; omega))]
    exact (h r c).trans (if_pos h1)
  by_cases h2 : r.val < 256 * (k + 1)
  · rw [if_pos h2, View.read_writes_cons_rows_of_mem w f inb (W k) [] _ (ix2 ⟨r.val - 256 * k, by show _ < 256; omega⟩ c) hoff
      (by show r.val + 8 = 256 * k + 8 + (r.val - 256 * k); omega) rfl]
    unfold untile
    simp only [ix2_0, ix2_1, show r.val / 256 = k by omega]
    exact congrArg (fun a => W k (ix2 a c)) (Fin.ext (by show r.val - 256 * k = r.val % 256; omega))
  · rw [if_neg h2, View.read_writes_cons_rows_of_not_mem w f inb (W k) [] _ hoff rfl (Or.inr (by show _ ≤ r.val + 8; show 256 * k + 8 + 256 ≤ _; omega))]
    exact (h r c).trans (if_neg h1)

/-- The first `k` tiles of an output block hold `O`. -/
def Upto {e : EltTy} (k : ℕ) (O X : Vec F S2048x128 e) : Prop :=
  ∀ (r : Fin 2048) (c : Fin 128), r.val < 256 * k → X (ix2 r c) = O (ix2 r c)

theorem Upto.store {e : EltTy} {κ : Kind} {sp : Space} {k : ℕ} (hk : k < 8) (W : ℕ → Vec F S256x128 e)
    (w : View sig κ sp S2048x128 e) (f : w.ty.Contents (Elt F)) (h : Upto k (untile W) (w.read (Elt F) f))
    {off : Fin 2 → ℕ} (hoff : off = ![256 * k, 0]) (inb : ∀ a, off a + S256x128.size a ≤ S2048x128.size a)
    {p : Vec F S256x128 e} (hp : p = W k) :
    Upto (k + 1) (untile W) (w.read (Elt F) (w.writes (Elt F) f [⟨Rect.unit (s := S2048x128) off S256x128.size inb, p⟩])) := by
  subst hp
  intro r c h2
  by_cases h1 : r.val < 256 * k
  · rw [View.read_writes_cons_rows_of_not_mem w f inb (W k) [] _ hoff rfl (Or.inl (by show r.val < _; omega))]
    exact h r c h1
  · rw [View.read_writes_cons_rows_of_mem w f inb (W k) [] _ (ix2 ⟨r.val - 256 * k, by show _ < 256; omega⟩ c) hoff
      (by show r.val = 256 * k + (r.val - 256 * k); omega) rfl]
    unfold untile
    simp only [ix2_0, ix2_1, show r.val / 256 = k by omega]
    exact congrArg (fun a => W k (ix2 a c)) (Fin.ext (by show r.val - 256 * k = r.val % 256; omega))

theorem Upto.done {e : EltTy} {O X : Vec F S2048x128 e} (h : Upto 8 O X) : X = O := by
  funext y
  rw [eq_ix2 y]
  exact h _ _ (by have := (y 0).isLt; have : (y 0).val < 2048 := this; omega)

theorem store_all {e : EltTy} {κ : Kind} {sp : Space} (w : View sig κ sp S256x128 e) (f : w.ty.Contents (Elt F)) {off : Fin 2 → ℕ} (hoff : off = ![0, 0])
    (inb : ∀ a, off a + S256x128.size a ≤ S256x128.size a) (p : Vec F S256x128 e) :
    w.read (Elt F) (w.writes (Elt F) f [⟨Rect.unit (s := S256x128) off S256x128.size inb, p⟩]) = p := by
  funext y
  exact View.read_writes_cons_rows_of_mem w f inb p [] y y hoff (by show (y 0).val = 0 + (y 0).val; omega) rfl

theorem ld_tile {e : EltTy} {k : ℕ} (hk : k < 8) (X : Vec F S2048x128 e) {off : Fin 2 → ℕ} (hoff : off = ![256 * k, 0])
    (inb : ∀ a, off a + S256x128.size a ≤ S2048x128.size a) :
    (fun x => X ((Rect.unit (s := S2048x128) off S256x128.size inb).toLoadRect.idx x)) = tile k X := by
  subst hoff
  funext x
  have hx : (x 0).val < 256 := (x 0).isLt
  unfold tile
  refine congrArg X (funext fun a => Fin.ext ?_)
  match a with
  | ⟨0, _⟩ => show 256 * k + 1 * (x 0).val = (256 * k + (x 0).val) % 2048; omega
  | ⟨1, _⟩ => show 0 + 1 * (x 1).val = (x 1).val; omega

theorem ld_tile32 {e : EltTy} {k : ℕ} (hk : k < 8) (X : Vec F S256x128 e) {off : Fin 2 → ℕ} (hoff : off = ![32 * k, 0])
    (inb : ∀ a, off a + S32x128.size a ≤ S256x128.size a) :
    (fun x => X ((Rect.unit (s := S256x128) off S32x128.size inb).toLoadRect.idx x)) = tile32 k X := by
  subst hoff
  funext x
  have hx : (x 0).val < 32 := (x 0).isLt
  unfold tile32
  refine congrArg X (funext fun a => Fin.ext ?_)
  match a with
  | ⟨0, _⟩ => show 32 * k + 1 * (x 0).val = (32 * k + (x 0).val) % 256; omega
  | ⟨1, _⟩ => show 0 + 1 * (x 1).val = (x 1).val; omega

end Cert.Kernel2Ideal.Run

end
-- ==== Proof.Scan.Alg.lean ====
module

public import proofs.«01_k».proof.Proof.Scan.Mem
public import Idealize.ShloMosaic.Lib.Pipeline.Value

/-! The scan's arithmetic on pairs (real part, imaginary part): powers of the decay, the passes that add a neighbour `d` places away
    times a power, within eight rows and then among the last rows of the eights, and what the printed bodies compute in these terms.
    `ρ` is the direction: `false` down the rows (the forward scan), `true` up the rows (the backward one). -/

@[expose] public section

set_option maxRecDepth 16384

noncomputable section

namespace Cert.Kernel2Ideal.Run

open Cert.Kernel2Ideal.Gen Idealize.ShloMosaic

variable {F : FTy → Type} [FloatOps F]

/-- An array of complex numbers, as its real and imaginary parts. -/
abbrev Cx (F : FTy → Type) (S : Shape) := FVec F S .f32 × FVec F S .f32

def cmul {S : Shape} (p x : Cx F S) : Cx F S := (subf (mulf p.1 x.1) (mulf p.2 x.2), addf (mulf p.1 x.2) (mulf p.2 x.1))
def cadd {S : Shape} (x y : Cx F S) : Cx F S := (addf x.1 y.1, addf x.2 y.2)
/-- The square. -/
def csq (q : Cx F S1x128) : Cx F S1x128 :=
  (subf (mulf q.1 q.1) (mulf q.2 q.2), mulf (mulf (broadcast S1x128 (Scalar.ofBits .f32 0x40000000#32)) q.1) q.2)
/-- The powers `a`, `a²`, `a³`, …. -/
def pw (a : Cx F S1x128) : ℕ → Cx F S1x128
  | 0 => a
  | n + 1 => cmul a (pw a n)
def rows256 (q : Cx F S1x128) : Cx F S256x128 :=
  (broadcastTo S256x128 q.1 broadcasts_S1x128_S256x128, broadcastTo S256x128 q.2 broadcasts_S1x128_S256x128)

/-- The rows that have a neighbour `d` places back. -/
def m256 : Bool → ℕ → IVec S256x128 1
  | false, d => cmpi .sge (iota .tc S256x128 32 [0] iota_S256x128_d0_w32) (broadcast S256x128 (BitVec.ofNat 32 d))
  | true, d => cmpi .slt (iota .tc S256x128 32 [0] iota_S256x128_d0_w32) (broadcast S256x128 (BitVec.ofNat 32 (256 - d)))
def amt (n : ℕ) : Bool → ℕ → BitVec 32
  | false, d => BitVec.ofNat 32 d
  | true, d => BitVec.ofNat 32 (n - d)
/-- The neighbour `d` places back, zero where there is none. -/
def shift (ρ : Bool) (d : ℕ) (x : FVec F S256x128 .f32) : FVec F S256x128 .f32 :=
  select (m256 ρ d) (dynamicRotate 0 (amt 256 ρ d) none x rotates_S256x128_d0) (broadcast S256x128 (Scalar.ofBits .f32 0x00000000#32))
def rot (d : ℕ) (ρ : Bool) (x : FVec F S256x128 .f32) : FVec F S256x128 .f32 := dynamicRotate 0 (amt 256 ρ d) none x rotates_S256x128_d0
def sh (ρ : Bool) (d : ℕ) (x : Cx F S256x128) : Cx F S256x128 := (shift ρ d x.1, shift ρ d x.2)
/-- One pass. -/
def lev (ρ : Bool) (d : ℕ) (q : Cx F S1x128) (x : Cx F S256x128) : Cx F S256x128 := cadd x (cmul (rows256 q) (sh ρ d x))
def sqn (q : Cx F S1x128) : ℕ → Cx F S1x128
  | 0 => q
  | n + 1 => csq (sqn q n)
/-- The eight passes among the last rows of the eights, `q` the eighth power. -/
def top (ρ : Bool) (q : Cx F S1x128) (x : Cx F S256x128) : Cx F S256x128 :=
  lev ρ 128 (sqn q 7) (lev ρ 64 (sqn q 6) (lev ρ 32 (sqn q 5) (lev ρ 16 (sqn q 4) (lev ρ 8 (sqn q 3) (lev ρ 4 (sqn q 2) (lev ρ 2 (sqn q 1) (lev ρ 1 q x)))))))
/-- What each eight receives from the ones before it. -/
def carry (ρ : Bool) (q : Cx F S1x128) (x : Cx F S256x128) : Cx F S256x128 := sh ρ 1 (top ρ q x)

/-- The rows of an eight that have a neighbour `d` places back. -/
def m8 : Bool → ℕ → IVec S8x128 1
  | false, d => cmpi .sge (iota .tc S8x128 32 [0] iota_S8x128_d0_w32) (broadcast S8x128 (BitVec.ofNat 32 d))
  | true, d => cmpi .slt (iota .tc S8x128 32 [0] iota_S8x128_d0_w32) (broadcast S8x128 (BitVec.ofNat 32 (8 - d)))
/-- A power in those rows, zero in the others. -/
def msk (ρ : Bool) (d : ℕ) (p : FVec F S1x128 .f32) : FVec F S1x8x128 .f32 :=
  shapeCast S1x8x128 (select (m8 ρ d) (broadcastTo S8x128 (shapeCast S1x128 p shapeCasts_S1x128_S1x128) broadcasts_S1x128_S8x128)
    (broadcast S8x128 (Scalar.ofBits .f32 0x00000000#32))) shapeCasts_S8x128_S1x8x128
def rows8 (q : FVec F S1x8x128 .f32) : FVec F S32x8x128 .f32 := broadcastTo S32x8x128 q broadcasts_S1x8x128_S32x8x128
def rot8 (ρ : Bool) (d : ℕ) (x : FVec F S32x8x128 .f32) : FVec F S32x8x128 .f32 := dynamicRotate 1 (amt 8 ρ d) none x rotates_S32x8x128_d1
/-- One pass within the eights. -/
def lev8 (ρ : Bool) (d : ℕ) (p : Cx F S1x128) (x : Cx F S32x8x128) : Cx F S32x8x128 :=
  cadd x (cmul (rows8 (msk ρ d p.1), rows8 (msk ρ d p.2)) (rot8 ρ d x.1, rot8 ρ d x.2))
def split8 (x : FVec F S256x128 .f32) : FVec F S32x8x128 .f32 := shapeCast S32x8x128 x shapeCasts_S256x128_S32x8x128
def join8 (x : FVec F S32x8x128 .f32) : FVec F S256x128 .f32 :=
  shapeCast S256x128 (shapeCast S256x128 x shapeCasts_S32x8x128_S256x128) shapeCasts_S256x128_S256x128
/-- The three passes within the eights. -/
def in8 (ρ : Bool) (a : Cx F S1x128) (x : Cx F S32x8x128) : Cx F S32x8x128 :=
  lev8 ρ 4 (pw a 3) (lev8 ρ 2 (pw a 1) (lev8 ρ 1 (pw a 0) x))
def scan8 (ρ : Bool) (a : Cx F S1x128) (x : Cx F S256x128) : Cx F S256x128 :=
  (join8 (in8 ρ a (split8 x.1, split8 x.2)).1, join8 (in8 ρ a (split8 x.1, split8 x.2)).2)

/-- A rounded tile, widened. -/
def ext (v : FVec F S256x128 .bf16) : FVec F S256x128 .f32 :=
  extf .f32 (shapeCast S256x128 v shapeCasts_S256x128_S256x128) bitsLt_bf16_f32

/-! ## What the forward body computes -/

section

variable (a p q : Cx F S1x128) (x : Cx F S256x128)

theorem f25 : k0_pay25 a.1 a.2 = (pw a 1).1 := rfl
theorem f26 : k0_pay26 a.1 a.2 = (pw a 1).2 := rfl
theorem f27 : k0_pay27 a.1 a.2 = (pw a 2).1 := rfl
theorem f28 : k0_pay28 a.1 a.2 = (pw a 2).2 := rfl
theorem f29 : k0_pay29 a.1 a.2 = (pw a 3).1 := rfl
theorem f30 : k0_pay30 a.1 a.2 = (pw a 3).2 := rfl
theorem f31 : k0_pay31 a.1 a.2 = (pw a 4).1 := rfl
theorem f34 : k0_pay34 (k0_pay32 a.1 a.2) (k0_pay33 a.1 a.2) = (pw a 4).2 := rfl

section

variable (u v : FVec F S1x128 .f32) (h : k0_pay34 u v = p.2)
include h
theorem f35 : k0_pay35 a.1 a.2 p.1 u v = (cmul a p).1 := by unfold k0_pay35; rw [h]; rfl
theorem f36 : k0_pay36 a.1 a.2 p.1 u v = (cmul a p).2 := by unfold k0_pay36; rw [h]; rfl
theorem f37 : k0_pay37 a.1 a.2 p.1 u v = (cmul a (cmul a p)).1 := by unfold k0_pay37; rw [f35 a p u v h, f36 a p u v h]; rfl
theorem f38 : k0_pay38 a.1 a.2 p.1 u v = (cmul a (cmul a p)).2 := by unfold k0_pay38; rw [f35 a p u v h, f36 a p u v h]; rfl
theorem f39 : k0_pay39 a.1 a.2 p.1 u v = (cmul a (cmul a (cmul a p))).1 := by
  unfold k0_pay39; rw [f37 a p u v h, f38 a p u v h]; rfl
theorem f40 : k0_pay40 a.1 a.2 p.1 u v = (cmul a (cmul a (cmul a p))).2 := by
  unfold k0_pay40; rw [f37 a p u v h, f38 a p u v h]; rfl
end

theorem f44 (b : FVec F S1x128 .f32) : k0_pay44 b = msk false 1 b := rfl
theorem f45 (b : FVec F S1x128 .f32) : k0_pay45 b = msk false 1 b := rfl
theorem f46 (b : FVec F S1x128 .f32) : k0_pay46 b = msk false 2 b := rfl
theorem f47 (b : FVec F S1x128 .f32) : k0_pay47 b = msk false 2 b := rfl
theorem f48 (b : FVec F S1x128 .f32) : k0_pay48 b = msk false 4 b := rfl
theorem f49 (b : FVec F S1x128 .f32) : k0_pay49 b k0_pay43 (Scalar.ofBits .f32 0x00000000#32) = msk false 4 b := rfl

/-! The tile, pass by pass. -/
theorem f11 (y : Cx F S256x128) : k0_pay11 (msk false 1 a.1) (msk false 1 a.2) y.1 y.2 = (lev8 false 1 a (split8 y.1, split8 y.2)).1 := rfl
theorem f12 (y : Cx F S256x128) : k0_pay12 (msk false 1 a.1) (msk false 1 a.2) y.1 y.2 = (lev8 false 1 a (split8 y.1, split8 y.2)).2 := rfl
theorem f15 : k0_pay15 (msk false 1 a.1) (msk false 1 a.2) (msk false 2 p.1) (msk false 2 p.2) x.1 x.2
    = (lev8 false 2 p (lev8 false 1 a (split8 x.1, split8 x.2))).1 := by
  unfold k0_pay15 k0_pay13 k0_pay14; rw [f11, f12]; rfl
theorem f16 : k0_pay16 (msk false 1 a.1) (msk false 1 a.2) (msk false 2 p.1) (msk false 2 p.2) x.1 x.2
    = (lev8 false 2 p (lev8 false 1 a (split8 x.1, split8 x.2))).2 := by
  unfold k0_pay16 k0_pay13 k0_pay14; rw [f11, f12]; rfl
theorem f50 : k0_pay50 (k0_pay15 (msk false 1 a.1) (msk false 1 a.2) (msk false 2 p.1) (msk false 2 p.2) x.1 x.2)
      (k0_pay19 (msk false 1 a.1) (msk false 1 a.2) (msk false 2 p.1) (msk false 2 p.2) (msk false 4 q.1) (msk false 4 q.2) x.1 x.2)
    = join8 (lev8 false 4 q (lev8 false 2 p (lev8 false 1 a (split8 x.1, split8 x.2)))).1 := by
  unfold k0_pay50 k0_pay19 k0_pay17 k0_pay18; rw [f15, f16]; rfl
theorem f51 : k0_pay51 (k0_pay16 (msk false 1 a.1) (msk false 1 a.2) (msk false 2 p.1) (msk false 2 p.2) x.1 x.2)
      (k0_pay17 (msk false 1 a.1) (msk false 1 a.2) (msk false 2 p.1) (msk false 2 p.2) x.1 x.2)
      (k0_pay20 (msk false 1 a.1) (msk false 1 a.2) (msk false 2 p.1) (msk false 2 p.2) (msk false 4 q.1) x.1 x.2)
      (k0_pay21 (msk false 4 q.2))
    = join8 (lev8 false 4 q (lev8 false 2 p (lev8 false 1 a (split8 x.1, split8 x.2)))).2 := by
  unfold k0_pay51 k0_pay20 k0_pay17 k0_pay18 k0_pay21; rw [f15, f16]; rfl

/-! The last rows of the eights, pass by pass. -/
theorem f54 : k0_pay54 q.1 q.2 x.1 x.2 = (lev false 1 q x).1 := rfl
theorem f55 : k0_pay55 q.1 q.2 x.1 x.2 = (lev false 1 q x).2 := rfl
theorem f56 : k0_pay56 q.1 q.2 = (csq q).1 := rfl
theorem f57 : k0_pay57 q.1 q.2 = (csq q).2 := rfl
theorem f59 : k0_pay59 q.1 q.2 x.1 x.2 = rot 2 false (lev false 1 q x).1 := rfl
theorem f63 : k0_pay63 (iota .tc S256x128 32 [0] iota_S256x128_d0_w32) x.1 x.2 q.1 q.2 k0_pay58 (rot 2 false x.1) k0_pay60 = (lev false 2 q x).1 := rfl
theorem f64 : k0_pay64 (iota .tc S256x128 32 [0] iota_S256x128_d0_w32) x.2 q.1 q.2 k0_pay58 (rot 2 false x.1) k0_pay60 = (lev false 2 q x).2 := rfl
theorem f65 : k0_pay65 q.1 q.2 = (csq q).1 := rfl
theorem f66 : k0_pay66 q.1 q.2 = (csq q).2 := rfl
theorem f69 : k0_pay69 (iota .tc S256x128 32 [0] iota_S256x128_d0_w32) x.1 x.2 q.1 q.2 k0_pay58 (rot 2 false x.1) k0_pay60 = (lev false 4 (csq q) (lev false 2 q x)).1 := by
  unfold k0_pay69 k0_pay67 k0_pay68; rw [f63, f64, f65, f66]; rfl
theorem f70 : k0_pay70 (iota .tc S256x128 32 [0] iota_S256x128_d0_w32) x.1 x.2 q.1 q.2 k0_pay58 (rot 2 false x.1) k0_pay60 = (lev false 4 (csq q) (lev false 2 q x)).2 := by
  unfold k0_pay70 k0_pay67 k0_pay68; rw [f63, f64, f65, f66]; rfl
theorem f71 : k0_pay71 q.1 q.2 = (csq (csq q)).1 := by unfold k0_pay71; rw [f65, f66]; rfl
theorem f72 : k0_pay72 q.1 q.2 (Scalar.ofBits .f32 0x40000000#32) = (csq q).2 := rfl
theorem f75 : k0_pay75 (iota .tc S256x128 32 [0] iota_S256x128_d0_w32) p.1 p.2 x.1 x.2 (csq p).1 (Scalar.ofBits .f32 0x40000000#32) = (lev false 8 (csq p) x).1 := by unfold k0_pay75; rw [f72]; rfl
theorem f76 : k0_pay76 (iota .tc S256x128 32 [0] iota_S256x128_d0_w32) p.1 p.2 x.1 x.2 (csq p).1 (Scalar.ofBits .f32 0x40000000#32) = (lev false 8 (csq p) x).2 := by unfold k0_pay76; rw [f72]; rfl
theorem f77 : k0_pay77 p.1 p.2 (csq p).1 (Scalar.ofBits .f32 0x40000000#32) = (csq (csq p)).1 := by unfold k0_pay77; rw [f72]; rfl
theorem f78 : k0_pay78 p.1 p.2 (csq p).1 (Scalar.ofBits .f32 0x40000000#32) = (csq (csq p)).2 := by unfold k0_pay78; rw [f72]; rfl
theorem f79 : k0_pay79 (iota .tc S256x128 32 [0] iota_S256x128_d0_w32) p.1 p.2 x.1 x.2 (csq p).1 (Scalar.ofBits .f32 0x40000000#32) = (sh false 16 (lev false 8 (csq p) x)).1 := by unfold k0_pay79; rw [f75]; rfl
theorem f80 : k0_pay80 (iota .tc S256x128 32 [0] iota_S256x128_d0_w32) p.1 p.2 x.1 x.2 (csq p).1 (Scalar.ofBits .f32 0x40000000#32) = (sh false 16 (lev false 8 (csq p) x)).2 := by unfold k0_pay80; rw [f76]; rfl
theorem f81 : k0_pay81 (iota .tc S256x128 32 [0] iota_S256x128_d0_w32) p.1 p.2 x.1 x.2 (csq p).1 (Scalar.ofBits .f32 0x40000000#32)
    = (cmul (rows256 (csq (csq p))) (sh false 16 (lev false 8 (csq p) x))).1 := by unfold k0_pay81; rw [f77, f78, f79, f80]; rfl
theorem f82 : k0_pay82 p.1 p.2 (csq p).1 (Scalar.ofBits .f32 0x40000000#32) = (rows256 (csq (csq p))).1 := by unfold k0_pay82; rw [f77]; rfl
theorem f83 : k0_pay83 x.1 (cmul (rows256 q) (sh false 16 x)).1 = (lev false 16 q x).1 := rfl
theorem f84 : k0_pay84 x.2 q.2 (sh false 16 x).1 (sh false 16 x).2 (rows256 q).1 = (lev false 16 q x).2 := rfl
theorem f85 : k0_pay85 q.1 q.2 = (csq q).1 := rfl
theorem f86 : k0_pay86 q.1 q.2 = (csq q).2 := rfl
theorem f89 : k0_pay89 (iota .tc S256x128 32 [0] iota_S256x128_d0_w32) x.1 x.2 q.1 q.2 (sh false 16 x).1 (sh false 16 x).2 (cmul (rows256 q) (sh false 16 x)).1 (rows256 q).1
    = (lev false 32 (csq q) (lev false 16 q x)).1 := by
  unfold k0_pay89 k0_pay87 k0_pay88; rw [f83, f84, f85, f86]; rfl
theorem f90 : k0_pay90 (iota .tc S256x128 32 [0] iota_S256x128_d0_w32) x.1 x.2 q.1 q.2 (sh false 16 x).1 (sh false 16 x).2 (cmul (rows256 q) (sh false 16 x)).1 (rows256 q).1
    = (lev false 32 (csq q) (lev false 16 q x)).2 := by
  unfold k0_pay90 k0_pay87 k0_pay88; rw [f83, f84, f85, f86]; rfl
theorem f91 : k0_pay91 q.1 q.2 = (csq (csq q)).1 := by unfold k0_pay91; rw [f85, f86]; rfl
theorem f92 : k0_pay92 q.1 q.2 = (csq (csq q)).2 := by unfold k0_pay92; rw [f85, f86]; rfl
theorem f93 : k0_pay93 (iota .tc S256x128 32 [0] iota_S256x128_d0_w32) x.1 x.2 q.1 q.2 (sh false 16 x).1 (sh false 16 x).2 (cmul (rows256 q) (sh false 16 x)).1 (rows256 q).1
    = (sh false 64 (lev false 32 (csq q) (lev false 16 q x))).1 := by
  unfold k0_pay93; rw [f89]; rfl
theorem f94 : k0_pay94 (iota .tc S256x128 32 [0] iota_S256x128_d0_w32) = m256 false 64 := rfl
theorem f96 : k0_pay96 x.1 x.2 q.1 q.2 (sh false 64 x).1 (m256 false 64) 64#32 = (lev false 64 q x).1 := rfl
theorem f97 : k0_pay97 x.2 q.1 q.2 (sh false 64 x).1 (m256 false 64) 64#32 = (lev false 64 q x).2 := rfl
theorem f98 : k0_pay98 q.1 q.2 = (csq q).1 := rfl
theorem f99 : k0_pay99 q.1 q.2 = (csq q).2 := rfl
theorem f102 : k0_pay102 (iota .tc S256x128 32 [0] iota_S256x128_d0_w32) x.1 x.2 q.1 q.2 (sh false 64 x).1 (m256 false 64) 64#32 = (lev false 128 (csq q) (lev false 64 q x)).2 := by
  unfold k0_pay102 k0_pay100 k0_pay101; rw [f96, f97, f98, f99]; rfl
theorem f106 : k0_pay106 (iota .tc S256x128 32 [0] iota_S256x128_d0_w32) x.1 x.2 q.1 q.2 (sh false 64 x).1 (m256 false 64) 64#32
    = rot 1 false (lev false 128 (csq q) (lev false 64 q x)).1 := by
  unfold k0_pay106 k0_pay100 k0_pay101; rw [f96, f97, f98, f99]; rfl
theorem f1 : k0_pay1 (k0_pay105 (iota .tc S256x128 32 [0] iota_S256x128_d0_w32)) (rot 1 false x.1) = (sh false 1 x).1 := by
  exact shapeCast_self (sh false 1 x).1 _
theorem f2 : k0_pay2 (iota .tc S256x128 32 [0] iota_S256x128_d0_w32) x.2 = (sh false 1 x).2 := by
  exact shapeCast_self (sh false 1 x).2 _

end

end Cert.Kernel2Ideal.Run

end
-- ==== Proof.Scan.RunFwd.lean ====
module

public import proofs.«01_k».proof.Proof.Scan.Alg
public import proofs.«01_k».proof.Proof.Gen.Kernel2Ideal.Launch
public import proofs.«01_k».proof.Proof.Gen.Kernel2Ideal.Points
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The scan's forward call: what one point's body leaves in its two output blocks, and its run. -/

@[expose] public section

set_option maxRecDepth 16384

noncomputable section

namespace Cert.Kernel2Ideal.Run

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- What enters the scan, at its first power. -/
def fin0 (x0 : Vec F S2048x128 .bf16) (x1 x2 : Vec F S1x128x128 .bf16) : FVec F S2048x128 .f32 × FVec F S2048x128 .f32 :=
  (k0_pay23 x0 x1, k0_pay24 x0 x2)
/-- The scan within the eights, tile by tile. -/
def floc (a : Cx F S1x128) (b : FVec F S2048x128 .f32 × FVec F S2048x128 .f32) (k : ℕ) : Cx F S256x128 :=
  scan8 false a (tile (e := .f32) k b.1, tile (e := .f32) k b.2)
/-- What each eight receives. -/
def fcar (a : Cx F S1x128) (b : FVec F S2048x128 .f32 × FVec F S2048x128 .f32) : Cx F S256x128 :=
  carry false (pw a 7) (edge (e := .f32) 7 (untile (e := .f32) fun k => (floc a b k).1), edge (e := .f32) 7 (untile (e := .f32) fun k => (floc a b k).2))
def fpw1 (a : Cx F S1x128) : FVec F S1x8x128 .f32 :=
  k0_pay103 (pw a 0).1 (pw a 1).1 (pw a 2).1 (pw a 3).1 (pw a 4).1 (pw a 5).1 (pw a 6).1 (pw a 7).1
def fpw2 (a : Cx F S1x128) : FVec F S1x8x128 .f32 :=
  k0_pay104 (pw a 0).2 (pw a 1).2 (pw a 2).2 (pw a 3).2 (pw a 4).2 (pw a 5).2 (pw a 6).2 (pw a 7).2
def fout1 (a : Cx F S1x128) (b : FVec F S2048x128 .f32 × FVec F S2048x128 .f32) (k : ℕ) : Vec F S256x128 .bf16 :=
  k0_pay5 (fpw1 a) (fpw2 a) (tile32 k (fcar a b).1) (tile32 k (fcar a b).2) (floc a b k).1
def fout2 (a : Cx F S1x128) (b : FVec F S2048x128 .f32 × FVec F S2048x128 .f32) (k : ℕ) : Vec F S256x128 .bf16 :=
  k0_pay6 (fpw1 a) (fpw2 a) (tile32 k (fcar a b).1) (tile32 k (fcar a b).2) (floc a b k).2

/-- The passes among the last rows, put together from the body's pieces. -/
theorem carry_eq {q : Cx F S1x128} {x : Cx F S256x128} {v54 v57 v123 v126 v151 v154 v179 v207 v210 v263 v266 : FVec F S1x128 .f32}
    {v96 v97 v119 v120 v129 v175 v176 v203 v204 v215 v220 v225 v226 v259 v260 v271 v316 v323 : FVec F S256x128 .f32}
    (e54 : v54 = q.1) (e57 : v57 = q.2) (e96 : v96 = x.1) (e97 : v97 = x.2)
    (h119 : v119 = k0_pay54 v54 v57 v96 v97) (h120 : v120 = k0_pay55 v54 v57 v96 v97) (h123 : v123 = k0_pay56 v54 v57) (h126 : v126 = k0_pay57 v54 v57)
    (h129 : v129 = k0_pay59 v54 v57 v96 v97)
    (h151 : v151 = k0_pay65 v123 v126) (h154 : v154 = k0_pay66 v123 v126)
    (h175 : v175 = k0_pay69 (iota .tc S256x128 32 [0] iota_S256x128_d0_w32) v119 v120 v123 v126 k0_pay58 v129 k0_pay60) (h176 : v176 = k0_pay70 (iota .tc S256x128 32 [0] iota_S256x128_d0_w32) v119 v120 v123 v126 k0_pay58 v129 k0_pay60)
    (h179 : v179 = k0_pay71 v123 v126)
    (h203 : v203 = k0_pay75 (iota .tc S256x128 32 [0] iota_S256x128_d0_w32) v151 v154 v175 v176 v179 (Scalar.ofBits .f32 0x40000000#32)) (h204 : v204 = k0_pay76 (iota .tc S256x128 32 [0] iota_S256x128_d0_w32) v151 v154 v175 v176 v179 (Scalar.ofBits .f32 0x40000000#32))
    (h207 : v207 = k0_pay77 v151 v154 v179 (Scalar.ofBits .f32 0x40000000#32)) (h210 : v210 = k0_pay78 v151 v154 v179 (Scalar.ofBits .f32 0x40000000#32))
    (h215 : v215 = k0_pay79 (iota .tc S256x128 32 [0] iota_S256x128_d0_w32) v151 v154 v175 v176 v179 (Scalar.ofBits .f32 0x40000000#32)) (h220 : v220 = k0_pay80 (iota .tc S256x128 32 [0] iota_S256x128_d0_w32) v151 v154 v175 v176 v179 (Scalar.ofBits .f32 0x40000000#32))
    (h225 : v225 = k0_pay81 (iota .tc S256x128 32 [0] iota_S256x128_d0_w32) v151 v154 v175 v176 v179 (Scalar.ofBits .f32 0x40000000#32)) (h226 : v226 = k0_pay82 v151 v154 v179 (Scalar.ofBits .f32 0x40000000#32))
    (h259 : v259 = k0_pay89 (iota .tc S256x128 32 [0] iota_S256x128_d0_w32) v203 v204 v207 v210 v215 v220 v225 v226) (h260 : v260 = k0_pay90 (iota .tc S256x128 32 [0] iota_S256x128_d0_w32) v203 v204 v207 v210 v215 v220 v225 v226)
    (h263 : v263 = k0_pay91 v207 v210) (h266 : v266 = k0_pay92 v207 v210)
    (h271 : v271 = k0_pay93 (iota .tc S256x128 32 [0] iota_S256x128_d0_w32) v203 v204 v207 v210 v215 v220 v225 v226)
    (h316 : v316 = k0_pay102 (iota .tc S256x128 32 [0] iota_S256x128_d0_w32) v259 v260 v263 v266 v271 (k0_pay94 (iota .tc S256x128 32 [0] iota_S256x128_d0_w32)) 64#32)
    (h323 : v323 = k0_pay106 (iota .tc S256x128 32 [0] iota_S256x128_d0_w32) v259 v260 v263 v266 v271 (k0_pay94 (iota .tc S256x128 32 [0] iota_S256x128_d0_w32)) 64#32) :
    k0_pay1 (k0_pay105 (iota .tc S256x128 32 [0] iota_S256x128_d0_w32)) v323 = (carry false q x).1 ∧ k0_pay2 (iota .tc S256x128 32 [0] iota_S256x128_d0_w32) v316 = (carry false q x).2 := by
  subst e54 e57 e96 e97
  rw [f54] at h119; rw [f55] at h120; rw [f56] at h123; rw [f57] at h126; rw [f59] at h129
  subst h119 h120 h123 h126 h129
  rw [f65] at h151; rw [f66] at h154; rw [f69] at h175; rw [f70] at h176; rw [f71] at h179
  subst h151 h154 h175 h176 h179
  rw [f75] at h203; rw [f76] at h204; rw [f77] at h207; rw [f78] at h210; rw [f79] at h215; rw [f80] at h220; rw [f81] at h225; rw [f82] at h226
  subst h203 h204 h207 h210 h215 h220 h225 h226
  rw [f89] at h259; rw [f90] at h260; rw [f91] at h263; rw [f92] at h266; rw [f93] at h271
  subst h259 h260 h263 h266 h271
  rw [f94, f102] at h316; rw [f94, f106] at h323
  subst h316 h323
  rw [f1, f2]
  exact ⟨rfl, rfl⟩
theorem fpow1 {a : Cx F S1x128} {u0 u1 u2 u3 u4 u5 u6 u7 : FVec F S1x128 .f32} (h0 : u0 = (pw a 0).1) (h1 : u1 = (pw a 1).1) (h2 : u2 = (pw a 2).1)
    (h3 : u3 = (pw a 3).1) (h4 : u4 = (pw a 4).1) (h5 : u5 = (pw a 5).1) (h6 : u6 = (pw a 6).1) (h7 : u7 = (pw a 7).1) :
    k0_pay103 u0 u1 u2 u3 u4 u5 u6 u7 = fpw1 a := by subst h0 h1 h2 h3 h4 h5 h6 h7; rfl
theorem fpow2 {a : Cx F S1x128} {u0 u1 u2 u3 u4 u5 u6 u7 : FVec F S1x128 .f32} (h0 : u0 = (pw a 0).2) (h1 : u1 = (pw a 1).2) (h2 : u2 = (pw a 2).2)
    (h3 : u3 = (pw a 3).2) (h4 : u4 = (pw a 4).2) (h5 : u5 = (pw a 5).2) (h6 : u6 = (pw a 6).2) (h7 : u7 = (pw a 7).2) :
    k0_pay104 u0 u1 u2 u3 u4 u5 u6 u7 = fpw2 a := by subst h0 h1 h2 h3 h4 h5 h6 h7; rfl

theorem tile_re (a : Cx F S1x128) (t u : FVec F S256x128 .f32) :
    k0_pay50 (k0_pay15 (k0_pay44 a.1) (k0_pay45 a.2) (k0_pay46 (k0_pay25 a.1 a.2)) (k0_pay47 (k0_pay26 a.1 a.2)) t u)
      (k0_pay19 (k0_pay44 a.1) (k0_pay45 a.2) (k0_pay46 (k0_pay25 a.1 a.2)) (k0_pay47 (k0_pay26 a.1 a.2)) (k0_pay48 (k0_pay29 a.1 a.2)) (k0_pay49 (k0_pay30 a.1 a.2) k0_pay43 (Scalar.ofBits .f32 0x00000000#32)) t u)
    = (scan8 false a (t, u)).1 := f50 (pw a 0) (pw a 1) (pw a 3) (t, u)
theorem tile_im (a : Cx F S1x128) (t u : FVec F S256x128 .f32) :
    k0_pay51 (k0_pay16 (k0_pay44 a.1) (k0_pay45 a.2) (k0_pay46 (k0_pay25 a.1 a.2)) (k0_pay47 (k0_pay26 a.1 a.2)) t u)
      (k0_pay17 (k0_pay44 a.1) (k0_pay45 a.2) (k0_pay46 (k0_pay25 a.1 a.2)) (k0_pay47 (k0_pay26 a.1 a.2)) t u)
      (k0_pay20 (k0_pay44 a.1) (k0_pay45 a.2) (k0_pay46 (k0_pay25 a.1 a.2)) (k0_pay47 (k0_pay26 a.1 a.2)) (k0_pay48 (k0_pay29 a.1 a.2)) t u)
      (k0_pay21 (k0_pay49 (k0_pay30 a.1 a.2) k0_pay43 (Scalar.ofBits .f32 0x00000000#32)))
    = (scan8 false a (t, u)).2 := f51 (pw a 0) (pw a 1) (pw a 3) (t, u)
/-- Before trip `k` of the first loop: the first `k` tiles are scanned. -/
def inv1 (c : Dev nD) (arg8 arg9 : Memref sig .tc .vmem S2064x128 .f32) (a : Cx F S1x128) (b : FVec F S2048x128 .f32 × FVec F S2048x128 .f32) (k : ℕ) (_ : Unit) : sProp 𝕄 :=
  iprop(∃ f8 f9, (arg8.view.loc (c : Thread nD τ) ↦[arg8.view.set]{fullShare} f8) ∗ (arg9.view.loc (c : Thread nD τ) ↦[arg9.view.set]{fullShare} f9)
    ∗ ⌜Mix k b.1 (untile (e := .f32) fun k => (floc a b k).1) (arg8.view.read (Elt F) f8) ∧ Mix k b.2 (untile (e := .f32) fun k => (floc a b k).2) (arg9.view.read (Elt F) f9)⌝)

theorem z2_0 : (![0, 0] : Fin 2 → ℕ) = fun _ => 0 := by
  funext a
  match a with
  | ⟨0, _⟩ => rfl
  | ⟨1, _⟩ => rfl
theorem z3_0 : (![0, 0, 0] : Fin 3 → ℕ) = fun _ => 0 := by
  funext a
  match a with
  | ⟨0, _⟩ => rfl
  | ⟨1, _⟩ => rfl
  | ⟨2, _⟩ => rfl
/-- Before trip `k` of the second loop: the first `k` tiles of the two output blocks are written. -/
def inv2 (c : Dev nD) (arg6 arg7 : Memref sig .tc .vmem S2048x128 .bf16) (arg8 arg9 : Memref sig .tc .vmem S2064x128 .f32) (alloca_r0 alloca_77_r0 : Memref sig .tc .vmem S256x128 .f32)
    (a : Cx F S1x128) (b : FVec F S2048x128 .f32 × FVec F S2048x128 .f32) (f8 : arg8.view.ty.Contents (Elt F)) (f9 : arg9.view.ty.Contents (Elt F))
    (f10 : alloca_r0.view.ty.Contents (Elt F)) (f11 : alloca_77_r0.view.ty.Contents (Elt F)) (k : ℕ) (_ : BitVec 32) : sProp 𝕄 :=
  iprop(∃ f6 f7, (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (alloca_r0.view.loc (c : Thread nD τ) ↦[alloca_r0.view.set]{fullShare} f10) ∗ (alloca_77_r0.view.loc (c : Thread nD τ) ↦[alloca_77_r0.view.set]{fullShare} f11)
    ∗ ⌜Upto k (untile (fout1 a b)) (arg6.view.read (Elt F) f6) ∧ Upto k (untile (fout2 a b)) (arg7.view.read (Elt F) f7)⌝)

set_option maxHeartbeats 3000000 in
theorem sound_kernel0 (c : Dev nD) (E : Set ℕ) (i : grid0.Coords) (arg1 : Memref sig .tc .vmem S2048x128 .bf16) (harg1 : arg1.IsWhole) (arg2 : Memref sig .tc .vmem S1x128x128 .bf16) (harg2 : arg2.IsWhole) (arg3 : Memref sig .tc .vmem S1x128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2064x128 .f32) (harg8 : arg8.IsWhole) (arg9 : Memref sig .tc .vmem S2064x128 .f32) (harg9 : arg9.IsWhole) (alloca_r0 : Memref sig .tc .vmem S256x128 .f32) (halloca_r0 : alloca_r0.IsWhole) (alloca_77_r0 : Memref sig .tc .vmem S256x128 .f32) (halloca_77_r0 : alloca_77_r0.IsWhole)
    (x0 : Vec F S2048x128 .bf16) (x1 x2 : Vec F S1x128x128 .bf16) (x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) alloca_r0 fullShare d) ∗ (∃ d, owns (c : Thread nD τ) alloca_77_r0 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (untile (fout1 (x3, x4) (fin0 x0 x1 x2))) ∗ owns (c : Thread nD τ) arg7 fullShare (untile (fout2 (x3, x4) (fin0 x0 x1 x2))) ∗ (∃ d, owns (c : Thread nD τ) arg8 fullShare d) ∗ (∃ d, owns (c : Thread nD τ) arg9 fullShare d) ∗ (∃ d, owns (c : Thread nD τ) alloca_r0 fullShare d) ∗ (∃ d, owns (c : Thread nD τ) alloca_77_r0 fullShare d)) -∗ K ⟨⟩))
      ⊢ wp frame (wpE (defs₀ (F := F)) Variants.none c none) E (cc0_s5_scan_fwd i arg1 harg1 arg2 harg2 arg3 harg3 arg4 harg4 arg5 harg5 arg6 harg6 arg7 harg7 arg8 harg8 arg9 harg9 alloca_r0 halloca_r0 alloca_77_r0 halloca_77_r0) K := by
  simp only [cc0_s5_scan_fwd_eq_skeleton]; unfold cc0_s5_scan_fwd_skel
  simp only [k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec

  sl_for (inv1 (F := F) c arg8 arg9 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (fin0 (View.readAt (Elt F) arg1.view (Rect.unit (s := S2048x128) ![0, 0] S2048x128.size inb_S2048x128_S2048x128_0_0).toLoadRect f0) (View.readAt (Elt F) arg2.view (Rect.unit (s := S1x128x128) ![0, 0, 0] S1x128x128.size inb_S1x128x128_S1x128x128_0_0_0).toLoadRect f1) (View.readAt (Elt F) arg3.view (Rect.unit (s := S1x128x128) ![0, 0, 0] S1x128x128.size inb_S1x128x128_S1x128x128_0_0_0).toLoadRect f2))) $$ [H7 H8]
  case region =>
    intro k acc
    unfold inv1
    iintro ⟨%g8, %g9, H7, H8, %hm⟩
    unfold sound_kernel0.sl.prog.body_1
    sl_exec
    sl_step
    have hk : k.val < 8 := Nat.lt_of_lt_of_le k.isLt k0_t1_abs.2.1
    have e8 : View.readAt (Elt F) arg8.view (Rect.unit (s := S2064x128) (k0_off1 k) S256x128.size (k0_off1_inb k)).toLoadRect g8 = _ := Mix.load hk hm.1 (k0_off1_eq k) (k0_off1_inb k)
    have e9 : View.readAt (Elt F) arg9.view (Rect.unit (s := S2064x128) (k0_off1 k) S256x128.size (k0_off1_inb k)).toLoadRect g9 = _ := Mix.load hk hm.2 (k0_off1_eq k) (k0_off1_inb k)
    iexists _, _
    isplitl [H7]
    · iexact H7
    isplitl [H8]
    · iexact H8
    ipureintro
    refine ⟨Mix.store hk _ _ _ hm.1 (k0_off1_eq k) _ ?_, Mix.store hk _ _ _ hm.2 (k0_off1_eq k) _ ?_⟩
    · refine (tile_re ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (View.readAt (Elt F) arg8.view (Rect.unit (s := S2064x128) (k0_off1 k) S256x128.size (k0_off1_inb k)).toLoadRect g8) (View.readAt (Elt F) arg9.view (Rect.unit (s := S2064x128) (k0_off1 k) S256x128.size (k0_off1_inb k)).toLoadRect g9)).trans ?_
      rw [e8, e9]; rfl
    · refine (tile_im ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (View.readAt (Elt F) arg8.view (Rect.unit (s := S2064x128) (k0_off1 k) S256x128.size (k0_off1_inb k)).toLoadRect g8) (View.readAt (Elt F) arg9.view (Rect.unit (s := S2064x128) (k0_off1 k) S256x128.size (k0_off1_inb k)).toLoadRect g9)).trans ?_
      rw [e8, e9]; rfl
  · unfold inv1
    iexists _, _
    isplitl [H7]
    · iexact H7
    isplitl [H8]
    · iexact H8
    ipureintro
    exact ⟨Mix.init _ _ rfl _ _ _, Mix.init _ _ rfl _ _ _⟩
  unfold inv1
  iintro %_ ⟨%g8, %g9, H7, H8, %hm⟩
  sl_exec
  have s8 := Mix.edge (r := 7) (by decide) hm.1 (off := ![15, 0]) rfl
  have s9 := Mix.edge (r := 7) (by decide) hm.2 (off := ![15, 0]) rfl
  have z2 : (sound_kernel0.sl.r_2 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 1).1 := by unfold sound_kernel0.sl.r_2; exact f25 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4))
  have z3 : (sound_kernel0.sl.r_3 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 1).2 := by unfold sound_kernel0.sl.r_3; exact f26 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4))
  have z4 : (sound_kernel0.sl.r_4 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 2).1 := by unfold sound_kernel0.sl.r_4; exact f27 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4))
  have z5 : (sound_kernel0.sl.r_5 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 2).2 := by unfold sound_kernel0.sl.r_5; exact f28 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4))
  have z6 : (sound_kernel0.sl.r_6 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 3).1 := by unfold sound_kernel0.sl.r_6; exact f29 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4))
  have z7 : (sound_kernel0.sl.r_7 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 3).2 := by unfold sound_kernel0.sl.r_7; exact f30 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4))
  have z8 : (sound_kernel0.sl.r_8 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 4).1 := by unfold sound_kernel0.sl.r_8; exact f31 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4))
  have z34 : k0_pay34 (sound_kernel0.sl.r_9 c arg4 arg5 f3 f4) (sound_kernel0.sl.r_10 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 4).2 := by unfold sound_kernel0.sl.r_9 sound_kernel0.sl.r_10; exact f34 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4))
  have z11 : (sound_kernel0.sl.r_11 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 4).2 := by unfold sound_kernel0.sl.r_11; exact z34
  have z12 : (sound_kernel0.sl.r_12 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 5).1 := by unfold sound_kernel0.sl.r_12 sound_kernel0.sl.r sound_kernel0.sl.r_1; rw [z8]; exact f35 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 4) _ _ z34
  have z13 : (sound_kernel0.sl.r_13 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 5).2 := by unfold sound_kernel0.sl.r_13 sound_kernel0.sl.r sound_kernel0.sl.r_1; rw [z8]; exact f36 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 4) _ _ z34
  have z14 : (sound_kernel0.sl.r_14 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 6).1 := by unfold sound_kernel0.sl.r_14 sound_kernel0.sl.r sound_kernel0.sl.r_1; rw [z8]; exact f37 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 4) _ _ z34
  have z15 : (sound_kernel0.sl.r_15 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 6).2 := by unfold sound_kernel0.sl.r_15 sound_kernel0.sl.r sound_kernel0.sl.r_1; rw [z8]; exact f38 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 4) _ _ z34
  have z16 : (sound_kernel0.sl.r_16 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 7).1 := by unfold sound_kernel0.sl.r_16 sound_kernel0.sl.r sound_kernel0.sl.r_1; rw [z8]; exact f39 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 4) _ _ z34
  have z17 : (sound_kernel0.sl.r_17 c arg4 arg5 f3 f4) = (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 7).2 := by unfold sound_kernel0.sl.r_17 sound_kernel0.sl.r sound_kernel0.sl.r_1; rw [z8]; exact f40 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (pw ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) 4) _ _ z34
  have hc := carry_eq (x := (edge (e := .f32) 7 (untile (e := .f32) fun k => (floc ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (fin0 (View.readAt (Elt F) arg1.view (Rect.unit (s := S2048x128) ![0, 0] S2048x128.size inb_S2048x128_S2048x128_0_0).toLoadRect f0) (View.readAt (Elt F) arg2.view (Rect.unit (s := S1x128x128) ![0, 0, 0] S1x128x128.size inb_S1x128x128_S1x128x128_0_0_0).toLoadRect f1) (View.readAt (Elt F) arg3.view (Rect.unit (s := S1x128x128) ![0, 0, 0] S1x128x128.size inb_S1x128x128_S1x128x128_0_0_0).toLoadRect f2)) k).1), edge (e := .f32) 7 (untile (e := .f32) fun k => (floc ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (fin0 (View.readAt (Elt F) arg1.view (Rect.unit (s := S2048x128) ![0, 0] S2048x128.size inb_S2048x128_S2048x128_0_0).toLoadRect f0) (View.readAt (Elt F) arg2.view (Rect.unit (s := S1x128x128) ![0, 0, 0] S1x128x128.size inb_S1x128x128_S1x128x128_0_0_0).toLoadRect f1) (View.readAt (Elt F) arg3.view (Rect.unit (s := S1x128x128) ![0, 0, 0] S1x128x128.size inb_S1x128x128_S1x128x128_0_0_0).toLoadRect f2)) k).2))) (v54 := (sound_kernel0.sl.r_16 c arg4 arg5 f3 f4)) (v57 := (sound_kernel0.sl.r_17 c arg4 arg5 f3 f4)) (v119 := (sound_kernel0.sl.r_29 c arg4 arg5 arg8 arg9 f3 f4 g8 g9)) (v120 := (sound_kernel0.sl.r_30 c arg4 arg5 arg8 arg9 f3 f4 g8 g9)) (v123 := (sound_kernel0.sl.r_31 c arg4 arg5 f3 f4)) (v126 := (sound_kernel0.sl.r_32 c arg4 arg5 f3 f4)) (v129 := (sound_kernel0.sl.r_33 c arg4 arg5 arg8 arg9 f3 f4 g8 g9)) (v151 := (sound_kernel0.sl.r_34 c arg4 arg5 f3 f4)) (v154 := (sound_kernel0.sl.r_35 c arg4 arg5 f3 f4)) (v175 := (sound_kernel0.sl.r_36 c arg4 arg5 arg8 arg9 f3 f4 g8 g9)) (v176 := (sound_kernel0.sl.r_37 c arg4 arg5 arg8 arg9 f3 f4 g8 g9)) (v179 := (sound_kernel0.sl.r_38 c arg4 arg5 f3 f4)) (v203 := (sound_kernel0.sl.r_39 c arg4 arg5 arg8 arg9 f3 f4 g8 g9)) (v204 := (sound_kernel0.sl.r_40 c arg4 arg5 arg8 arg9 f3 f4 g8 g9)) (v207 := (sound_kernel0.sl.r_41 c arg4 arg5 f3 f4)) (v210 := (sound_kernel0.sl.r_42 c arg4 arg5 f3 f4)) (v215 := (sound_kernel0.sl.r_43 c arg4 arg5 arg8 arg9 f3 f4 g8 g9)) (v220 := (sound_kernel0.sl.r_44 c arg4 arg5 arg8 arg9 f3 f4 g8 g9)) (v225 := (sound_kernel0.sl.r_45 c arg4 arg5 arg8 arg9 f3 f4 g8 g9)) (v226 := (sound_kernel0.sl.r_46 c arg4 arg5 f3 f4)) (v259 := (sound_kernel0.sl.r_47 c arg4 arg5 arg8 arg9 f3 f4 g8 g9)) (v260 := (sound_kernel0.sl.r_48 c arg4 arg5 arg8 arg9 f3 f4 g8 g9)) (v263 := (sound_kernel0.sl.r_49 c arg4 arg5 f3 f4)) (v266 := (sound_kernel0.sl.r_50 c arg4 arg5 f3 f4)) (v271 := (sound_kernel0.sl.r_51 c arg4 arg5 arg8 arg9 f3 f4 g8 g9)) (v316 := (sound_kernel0.sl.r_52 c arg4 arg5 arg8 arg9 f3 f4 g8 g9)) (v323 := (sound_kernel0.sl.r_55 c arg4 arg5 arg8 arg9 f3 f4 g8 g9)) (v96 := (View.readAt (Elt F) arg8.view ⟨![15, 0], S256x128.size, ![8, 1], inb_S2064x128_S256x128_15_0_s_8_1⟩ g8)) (v97 := (View.readAt (Elt F) arg9.view ⟨![15, 0], S256x128.size, ![8, 1], inb_S2064x128_S256x128_15_0_s_8_1⟩ g9)) z16 z17 (s8 _) (s9 _) (by unfold sound_kernel0.sl.r_29; rfl) (by unfold sound_kernel0.sl.r_30; rfl) (by unfold sound_kernel0.sl.r_31; rfl) (by unfold sound_kernel0.sl.r_32; rfl) (by unfold sound_kernel0.sl.r_33; rfl) (by unfold sound_kernel0.sl.r_34; rfl) (by unfold sound_kernel0.sl.r_35; rfl) (by unfold sound_kernel0.sl.r_36; rfl) (by unfold sound_kernel0.sl.r_37; rfl) (by unfold sound_kernel0.sl.r_38; rfl) (by unfold sound_kernel0.sl.r_39; rfl) (by unfold sound_kernel0.sl.r_40; rfl) (by unfold sound_kernel0.sl.r_41; rfl) (by unfold sound_kernel0.sl.r_42; rfl) (by unfold sound_kernel0.sl.r_43; rfl) (by unfold sound_kernel0.sl.r_44; rfl) (by unfold sound_kernel0.sl.r_45; rfl) (by unfold sound_kernel0.sl.r_46; rfl) (by unfold sound_kernel0.sl.r_47; rfl) (by unfold sound_kernel0.sl.r_48; rfl) (by unfold sound_kernel0.sl.r_49; rfl) (by unfold sound_kernel0.sl.r_50; rfl) (by unfold sound_kernel0.sl.r_51; rfl) (by unfold sound_kernel0.sl.r_52; rfl) (by unfold sound_kernel0.sl.r_55; rfl)
  have hp1 : (sound_kernel0.sl.r_53 c arg4 arg5 f3 f4) = fpw1 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) := by unfold sound_kernel0.sl.r_53 sound_kernel0.sl.r; rw [z2, z4, z6, z8, z12, z14, z16]; rfl
  have hp2 : (sound_kernel0.sl.r_54 c arg4 arg5 f3 f4) = fpw2 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) := by unfold sound_kernel0.sl.r_54 sound_kernel0.sl.r_1; rw [z3, z5, z7, z11, z13, z15, z17]; rfl
  have c9 : alloca_r0.view.read (Elt F) (alloca_r0.view.writes (Elt F) alloca_r0.view.junk (sound_kernel0.sl.H9_1 c arg4 arg5 arg8 arg9 f3 f4 g8 g9)) = (fcar ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (fin0 (View.readAt (Elt F) arg1.view (Rect.unit (s := S2048x128) ![0, 0] S2048x128.size inb_S2048x128_S2048x128_0_0).toLoadRect f0) (View.readAt (Elt F) arg2.view (Rect.unit (s := S1x128x128) ![0, 0, 0] S1x128x128.size inb_S1x128x128_S1x128x128_0_0_0).toLoadRect f1) (View.readAt (Elt F) arg3.view (Rect.unit (s := S1x128x128) ![0, 0, 0] S1x128x128.size inb_S1x128x128_S1x128x128_0_0_0).toLoadRect f2))).1 := (store_all _ _ rfl _ _).trans hc.1
  have c10 : alloca_77_r0.view.read (Elt F) (alloca_77_r0.view.writes (Elt F) alloca_77_r0.view.junk (sound_kernel0.sl.H10_1 c arg4 arg5 arg8 arg9 f3 f4 g8 g9)) = (fcar ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (fin0 (View.readAt (Elt F) arg1.view (Rect.unit (s := S2048x128) ![0, 0] S2048x128.size inb_S2048x128_S2048x128_0_0).toLoadRect f0) (View.readAt (Elt F) arg2.view (Rect.unit (s := S1x128x128) ![0, 0, 0] S1x128x128.size inb_S1x128x128_S1x128x128_0_0_0).toLoadRect f1) (View.readAt (Elt F) arg3.view (Rect.unit (s := S1x128x128) ![0, 0, 0] S1x128x128.size inb_S1x128x128_S1x128x128_0_0_0).toLoadRect f2))).2 := (store_all _ _ rfl _ _).trans hc.2
  have hm8 := hm.1
  have hm9 := hm.2
  sl_for (inv2 (F := F) c arg6 arg7 arg8 arg9 alloca_r0 alloca_77_r0 ((View.readAt (Elt F) arg4.view (Rect.unit (s := S1x128) ![0, 0] S1x128.size inb_S1x128_S1x128_0_0).toLoadRect f3), (View.readAt (Elt F) arg5.view (Rect.unit (s := S1x128) ![0, 0] S1x128.size inb_S1x128_S1x128_0_0).toLoadRect f4)) (fin0 (View.readAt (Elt F) arg1.view (Rect.unit (s := S2048x128) ![0, 0] S2048x128.size inb_S2048x128_S2048x128_0_0).toLoadRect f0) (View.readAt (Elt F) arg2.view (Rect.unit (s := S1x128x128) ![0, 0, 0] S1x128x128.size inb_S1x128x128_S1x128x128_0_0_0).toLoadRect f1) (View.readAt (Elt F) arg3.view (Rect.unit (s := S1x128x128) ![0, 0, 0] S1x128x128.size inb_S1x128x128_S1x128x128_0_0_0).toLoadRect f2)) g8 g9 (alloca_r0.view.writes (Elt F) alloca_r0.view.junk (sound_kernel0.sl.H9_1 c arg4 arg5 arg8 arg9 f3 f4 g8 g9)) (alloca_77_r0.view.writes (Elt F) alloca_77_r0.view.junk (sound_kernel0.sl.H10_1 c arg4 arg5 arg8 arg9 f3 f4 g8 g9))) $$ [H5 H6 H7 H8 H9 H10]
  case region =>
    intro k acc
    unfold inv2
    iintro ⟨%g5, %g6, H5, H6, H7, H8, H9, H10, %hu⟩
    unfold sound_kernel0.sl.prog.body_2
    sl_exec
    sl_step
    have hk : k.val < 8 := Nat.lt_of_lt_of_le k.isLt k0_t2_abs.2.1
    have e8 : View.readAt (Elt F) arg8.view (Rect.unit (s := S2064x128) (k0_off3 k) S256x128.size (k0_off3_inb k)).toLoadRect g8 = _ := (Mix.load_done hk hm8 (k0_off3_eq k) (k0_off3_inb k)).trans (tile_untile k hk _)
    have e9 : View.readAt (Elt F) arg9.view (Rect.unit (s := S2064x128) (k0_off3 k) S256x128.size (k0_off3_inb k)).toLoadRect g9 = _ := (Mix.load_done hk hm9 (k0_off3_eq k) (k0_off3_inb k)).trans (tile_untile k hk _)
    have l9 := (ld_tile32 hk (alloca_r0.view.read (Elt F) (alloca_r0.view.writes (Elt F) alloca_r0.view.junk (sound_kernel0.sl.H9_1 c arg4 arg5 arg8 arg9 f3 f4 g8 g9))) (k0_off2_eq k) (k0_off2_inb k)).trans (congrArg (tile32 k.val) c9)
    have l10 := (ld_tile32 hk (alloca_77_r0.view.read (Elt F) (alloca_77_r0.view.writes (Elt F) alloca_77_r0.view.junk (sound_kernel0.sl.H10_1 c arg4 arg5 arg8 arg9 f3 f4 g8 g9))) (k0_off2_eq k) (k0_off2_inb k)).trans (congrArg (tile32 k.val) c10)
    iexists _, _
    isplitl [H5]
    · iexact H5
    isplitl [H6]
    · iexact H6
    isplitl [H7]
    · iexact H7
    isplitl [H8]
    · iexact H8
    isplitl [H9]
    · iexact H9
    isplitl [H10]
    · iexact H10
    ipureintro
    refine ⟨Upto.store hk _ _ _ hu.1 (k0_off4_eq k) _ ?_, Upto.store hk _ _ _ hu.2 (k0_off4_eq k) _ ?_⟩
    · rw [hp1, hp2, e8]
      exact congrArg₂ (fun x y => k0_pay5 _ _ x y _) l9 l10
    · rw [hp1, hp2, e9]
      exact congrArg₂ (fun x y => k0_pay6 _ _ x y _) l9 l10
  · unfold inv2
    iexists f5, f6
    isplitl [H5]
    · iexact H5
    isplitl [H6]
    · iexact H6
    isplitl [H7]
    · iexact H7
    isplitl [H8]
    · iexact H8
    isplitl [H9]
    · iexact H9
    isplitl [H10]
    · iexact H10
    ipureintro
    exact ⟨fun r c h => absurd h (by omega), fun r c h => absurd h (by omega)⟩
  unfold inv2
  iintro %_ ⟨%g5, %g6, H5, H6, H7, H8, H9, H10, %hu⟩
  sl_exec
  sl_step
  have w0 : View.readAt (Elt F) arg1.view (Rect.unit (s := S2048x128) ![0, 0] S2048x128.size inb_S2048x128_S2048x128_0_0).toLoadRect f0 = arg1.view.read (Elt F) f0 := View.ld_unit_zero z2_0 _ _
  have w1 : View.readAt (Elt F) arg2.view (Rect.unit (s := S1x128x128) ![0, 0, 0] S1x128x128.size inb_S1x128x128_S1x128x128_0_0_0).toLoadRect f1 = arg2.view.read (Elt F) f1 := View.ld_unit_zero z3_0 _ _
  have w2 : View.readAt (Elt F) arg3.view (Rect.unit (s := S1x128x128) ![0, 0, 0] S1x128x128.size inb_S1x128x128_S1x128x128_0_0_0).toLoadRect f2 = arg3.view.read (Elt F) f2 := View.ld_unit_zero z3_0 _ _
  have w3 : View.readAt (Elt F) arg4.view (Rect.unit (s := S1x128) ![0, 0] S1x128.size inb_S1x128_S1x128_0_0).toLoadRect f3 = arg4.view.read (Elt F) f3 := View.ld_unit_zero z2_0 _ _
  have w4 : View.readAt (Elt F) arg5.view (Rect.unit (s := S1x128) ![0, 0] S1x128.size inb_S1x128_S1x128_0_0).toLoadRect f4 = arg5.view.read (Elt F) f4 := View.ld_unit_zero z2_0 _ _
  have hu1 := Upto.done hu.1
  have hu2 := Upto.done hu.2
  rw [w0, w1, w2, w3, w4] at hu1 hu2
  iapply Hk
  isplitl [H0]
  · iexists _
    isplitr
    · ipureintro; rfl
    · iexact H0
  isplitl [H1]
  · iexists _
    isplitr
    · ipureintro; rfl
    · iexact H1
  isplitl [H2]
  · iexists _
    isplitr
    · ipureintro; rfl
    · iexact H2
  isplitl [H3]
  · iexists _
    isplitr
    · ipureintro; rfl
    · iexact H3
  isplitl [H4]
  · iexists _
    isplitr
    · ipureintro; rfl
    · iexact H4
  isplitl [H5]
  · iexists _
    isplitr
    · ipureintro; exact hu1
    · iexact H5
  isplitl [H6]
  · iexists _
    isplitr
    · ipureintro; exact hu2
    · iexact H6
  isplitl [H7]
  · iexists (arg8.view.read (Elt F) g8), g8
    isplitr
    · ipureintro; rfl
    · iexact H7
  isplitl [H8]
  · iexists (arg9.view.read (Elt F) g9), g9
    isplitr
    · ipureintro; rfl
    · iexact H8
  isplitl [H9]
  · iexists (alloca_r0.view.read (Elt F) (alloca_r0.view.writes (Elt F) alloca_r0.view.junk (sound_kernel0.sl.H9_1 c arg4 arg5 arg8 arg9 f3 f4 g8 g9))), (alloca_r0.view.writes (Elt F) alloca_r0.view.junk (sound_kernel0.sl.H9_1 c arg4 arg5 arg8 arg9 f3 f4 g8 g9))
    isplitr
    · ipureintro; rfl
    · iexact H9
  iexists (alloca_77_r0.view.read (Elt F) (alloca_77_r0.view.writes (Elt F) alloca_77_r0.view.junk (sound_kernel0.sl.H10_1 c arg4 arg5 arg8 arg9 f3 f4 g8 g9))), (alloca_77_r0.view.writes (Elt F) alloca_77_r0.view.junk (sound_kernel0.sl.H10_1 c arg4 arg5 arg8 arg9 f3 f4 g8 g9))
  isplitr
  · ipureintro; rfl
  · iexact H10

end Cert.Kernel2Ideal.Run

end
-- ==== Proof.Scan.Sum.lean ====
module

public import Mathlib.Data.Complex.Basic
public import Mathlib.Tactic.Ring

/-! The recurrence `x ↦ w x + b` over the complex numbers, and the two facts that the scan uses: prefixes differ by a power times an
    earlier prefix, and the prefixes at every eighth row are themselves a recurrence. -/

@[expose] public section

noncomputable section

namespace Cert.Scan

/-- What the recurrence holds after the first `n` rows. -/
def pre (w : ℂ) (b : ℕ → ℂ) : ℕ → ℂ
  | 0 => 0
  | n + 1 => w * pre w b n + b n

theorem pre_add (w : ℂ) (b : ℕ → ℂ) (m n : ℕ) : pre w b (m + n) = pre w (fun r => b (m + r)) n + w ^ n * pre w b m := by
  induction n with
  | zero => simp [pre]
  | succ n ih => rw [← Nat.add_assoc]; simp only [pre, ih, pow_succ]; ring

/-- A row's own and its `n - 1` predecessors' share of the prefix. -/
def win (w : ℂ) (b : ℕ → ℂ) (n r : ℕ) : ℂ := pre w b (r + 1) - w ^ n * pre w b (r + 1 - n)

theorem win_one (w : ℂ) (b : ℕ → ℂ) (r : ℕ) : win w b 1 r = b r := by
  simp only [win, Nat.add_sub_cancel, pre, pow_one]; ring

/-- One pass doubles the share. -/
theorem win_double (w : ℂ) (b : ℕ → ℂ) (n r : ℕ) :
    win w b n r + w ^ n * (if n ≤ r then win w b n (r - n) else 0) = win w b (n + n) r := by
  split
  case isTrue h =>
    have e : r - n + 1 = r + 1 - n := by omega
    have e' : r + 1 - n - n = r + 1 - (n + n) := by omega
    simp only [win, e, e', pow_add]; ring
  case isFalse h =>
    have e : r + 1 - n = 0 := by omega
    have e' : r + 1 - (n + n) = 0 := by omega
    simp only [win, e, e', pre]; ring

theorem win_all (w : ℂ) (b : ℕ → ℂ) (n r : ℕ) (h : r < n) : win w b n r = pre w b (r + 1) := by
  have e : r + 1 - n = 0 := by omega
  simp only [win, e, pre]; ring

theorem pre_eighth (w : ℂ) (b : ℕ → ℂ) (g : ℕ) : pre (w ^ 8) (fun g => pre w (fun r => b (8 * g + r)) 8) g = pre w b (8 * g) := by
  induction g with
  | zero => rfl
  | succ g ih => rw [Nat.mul_succ, pre_add w b (8 * g) 8, ← ih]; exact add_comm _ _

/-- The row `r` of the eight `g`, from the eight's own rows and what comes from before it. -/
theorem pre_row (w : ℂ) (b : ℕ → ℂ) (g r : ℕ) :
    pre w (fun r => b (8 * g + r)) (r + 1) + w ^ (r + 1) * pre (w ^ 8) (fun g => pre w (fun r => b (8 * g + r)) 8) g
      = pre w b (8 * g + r + 1) := by
  rw [pre_eighth, Nat.add_assoc, pre_add w b (8 * g) (r + 1)]

/-- The values depend on the first rows only. -/
theorem pre_congr {w : ℂ} {b b' : ℕ → ℂ} {n : ℕ} (h : ∀ r < n, b r = b' r) : pre w b n = pre w b' n := by
  induction n with
  | zero => rfl
  | succ n ih => simp only [pre]; rw [ih fun r hr => h r (by omega), h n (by omega)]

end Cert.Scan

end
-- ==== Proof.Scan.Spec.lean ====
module

public import proofs.«01_k».proof.Proof.Scan.Sum
public import Idealize.ShloMosaic.Lib.Pointwise

/-! The state-space layer's forward scan over the real numbers: each of the 2048 lanes is driven by 128 columns of the input and
    follows `x ↦ a x + b` over the complex numbers. -/

@[expose] public section

noncomputable section

namespace Cert.Scan

open Idealize.ShloMosaic

theorem sum_real {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem ofBits_zero : Ideal.ofBits .f32 0x00000000#32 = ((0 : ℝ) : EReal) := by
  simp [Ideal.ofBits, Ideal.ieee]

/-- A block of two axes that holds the real numbers `f`. -/
def R2 {a b : ℕ} (v : (⟨2, ![a, b]⟩ : Shape).Idx → EReal) (f : Fin a → Fin b → ℝ) : Prop :=
  ∀ r c, v (ix2 r c) = ((f r c : ℝ) : EReal)
/-- The same of three axes. -/
def R3 {a b d : ℕ} (v : (⟨3, ![a, b, d]⟩ : Shape).Idx → EReal) (f : Fin a → Fin b → Fin d → ℝ) : Prop :=
  ∀ g r c, v (ix3 g r c) = ((f g r c : ℝ) : EReal)

/-- The column of the input that is the `k`-th to drive lane `q`. -/
def col (q : Fin 2048) (k : Fin 128) : Fin 512 := ⟨q.val / 512 * 128 + k.val, by omega⟩
/-- The group and the place in it of lane `q`. -/
def grp (q : Fin 2048) : Fin 4 := ⟨q.val / 512, by omega⟩
def plc (q : Fin 2048) : Fin 512 := ⟨q.val % 512, by omega⟩

/-- What drives lane `q` at row `t`, one of the two parts. -/
def drive (U : Fin 2048 → Fin 512 → ℝ) (B : Fin 4 → Fin 128 → Fin 512 → ℝ) (t q : Fin 2048) : ℝ :=
  ∑ k, U t (col q k) * B (grp q) k (plc q)

/-- Both parts. -/
def bu (U : Fin 2048 → Fin 512 → ℝ) (P Q : Fin 4 → Fin 128 → Fin 512 → ℝ) (q : Fin 2048) (t : ℕ) : ℂ :=
  if h : t < 2048 then ⟨drive U P ⟨t, h⟩ q, drive U Q ⟨t, h⟩ q⟩ else 0

theorem bu_of (U : Fin 2048 → Fin 512 → ℝ) (P Q : Fin 4 → Fin 128 → Fin 512 → ℝ) (q t : Fin 2048) :
    bu U P Q q t.val = ⟨drive U P t q, drive U Q t q⟩ := dif_pos t.isLt

/-- Lane `q`'s state after `n` rows. -/
def st (U : Fin 2048 → Fin 512 → ℝ) (P Q : Fin 4 → Fin 128 → Fin 512 → ℝ) (A B : Fin 2048 → ℝ) (q : Fin 2048) (n : ℕ) : ℂ :=
  pre ⟨A q, B q⟩ (bu U P Q q) n

end Cert.Scan

end
-- ==== Proof.Scan.Pass.lean ====
module

public import proofs.«01_k».proof.Proof.Scan.RunFwd
public import proofs.«01_k».proof.Proof.Scan.Spec
public import Idealize.ShloMosaic.Lib.Pointwise

/-! What the forward scan's passes hold at a row, when the blocks they read hold complex numbers as pairs of real ones. -/

@[expose] public section

set_option maxRecDepth 16384

noncomputable section

namespace Cert.Kernel2Ideal.Run

open Cert.Kernel2Ideal.Gen Idealize.ShloMosaic Cert.Scan

/-- Two blocks that hold the real and imaginary parts of `z`. -/
def H2 {n : ℕ} (x y : (⟨2, ![n, 128]⟩ : Shape).Idx → EReal) (z : ℕ → Fin 128 → ℂ) : Prop :=
  ∀ (r : Fin n) (l : Fin 128), x (ix2 r l) = (((z r.val l).re : ℝ) : EReal) ∧ y (ix2 r l) = (((z r.val l).im : ℝ) : EReal)

/-- The same of stacks of eights. -/
def H3 {n : ℕ} (x y : (⟨3, ![n, 8, 128]⟩ : Shape).Idx → EReal) (z : ℕ → ℕ → Fin 128 → ℂ) : Prop :=
  ∀ (g : Fin n) (r : Fin 8) (l : Fin 128), x (ix3 g r l) = (((z g.val r.val l).re : ℝ) : EReal) ∧ y (ix3 g r l) = (((z g.val r.val l).im : ℝ) : EReal)

theorem cmul_H {n : ℕ} {p x : Cx Ideal ⟨2, ![n, 128]⟩} {w z : ℕ → Fin 128 → ℂ} (hp : H2 p.1 p.2 w) (hx : H2 x.1 x.2 z) :
    H2 (cmul p x).1 (cmul p x).2 fun r l => w r l * z r l := fun r l => by
  constructor
  · pointwise [cmul]
    rw [(hp r l).1, (hp r l).2, (hx r l).1, (hx r l).2, Complex.mul_re, EReal.coe_sub, EReal.coe_mul, EReal.coe_mul]
  · pointwise [cmul]
    rw [(hp r l).1, (hp r l).2, (hx r l).1, (hx r l).2, Complex.mul_im, EReal.coe_add, EReal.coe_mul, EReal.coe_mul]

theorem pw_H {a : Cx Ideal S1x128} {w : ℕ → Fin 128 → ℂ} (h : H2 a.1 a.2 w) (n : ℕ) : H2 (pw a n).1 (pw a n).2 fun r l => w r l ^ (n + 1) := by
  induction n with
  | zero => simpa [pw] using h
  | succ n ih =>
    have := cmul_H h ih
    simpa only [pw, pow_succ'] using this

theorem ofBits_two : Ideal.ofBits .f32 0x40000000#32 = ((2 : ℝ) : EReal) := by
  have h : (2 : ℝ) = 8388608 * (2 ^ 22)⁻¹ := by norm_num
  rw [h]; simp [Ideal.ofBits, Ideal.ieee]

theorem csq_H {q : Cx Ideal S1x128} {w : Fin 128 → ℂ} (h : H2 q.1 q.2 fun _ => w) : H2 (csq q).1 (csq q).2 fun _ l => w l ^ 2 := fun r l => by
  obtain rfl : r = 0 := Subsingleton.elim _ _
  constructor
  · pointwise [csq]
    rw [(h 0 l).1, (h 0 l).2, ← EReal.coe_mul, ← EReal.coe_mul, ← EReal.coe_sub, pow_two, Complex.mul_re]
  · pointwise [csq]
    rw [(h 0 l).1, (h 0 l).2, ofBits_two, ← EReal.coe_mul, ← EReal.coe_mul, pow_two, Complex.mul_im]
    congr 1; ring

theorem ge_at (r d : ℕ) (hr : r < 256) (hd : d < 256) :
    IntOp.cmpi CmpIPredicate.sge (BitVec.ofNat 32 r) (BitVec.ofNat 32 d) = if d ≤ r then 1#1 else 0#1 := by
  have e : ∀ n : ℕ, n < 256 → (BitVec.ofNat 32 n).toInt = n := fun n hn => by
    rw [BitVec.toInt_eq_toNat_of_lt] <;> rw [BitVec.toNat_ofNat, Nat.mod_eq_of_lt (by omega)]
    omega
  show BitVec.ofBool (BitVec.sle (BitVec.ofNat 32 d) (BitVec.ofNat 32 r)) = _
  rw [BitVec.sle_eq_decide, e r hr, e d hd]
  by_cases h : d ≤ r
  · simp [h]
  · simp [h]

theorem shift_at (d : ℕ) (hd : d < 256) (x : FVec Ideal S256x128 .f32) (r : Fin 256) (l : Fin 128) :
    shift false d x (ix2 r l) = if h : d ≤ r.val then x (ix2 ⟨r.val - d, by omega⟩ l) else ((0 : ℝ) : EReal) := by
  pointwise [shift, m256, amt]
  rw [ge_at r d r.isLt hd]
  by_cases h : d ≤ r.val
  · rw [if_pos h, dif_pos h]
    have e : (⟨(r.val + 256 - (BitVec.ofNat 32 d).toNat % 256) % 256, by omega⟩ : Fin 256) = ⟨r.val - d, by omega⟩ := by
      apply Fin.ext
      show (r.val + 256 - (BitVec.ofNat 32 d).toNat % 256) % 256 = r.val - d
      rw [BitVec.toNat_ofNat]; omega
    rw [e]; rfl
  · rw [if_neg h, dif_neg h]; rfl

theorem split8_at (x : FVec Ideal S256x128 .f32) (g : Fin 32) (r : Fin 8) (l : Fin 128) :
    split8 x (ix3 g r l) = x (ix2 ⟨8 * g.val + r.val, by omega⟩ l) := by
  pointwise [split8]
  have e : (⟨g.val * 8 + r.val, by omega⟩ : Fin 256) = ⟨8 * g.val + r.val, by omega⟩ := Fin.ext (by show g.val * 8 + r.val = 8 * g.val + r.val; omega)
  rw [e]

theorem join8_at (x : FVec Ideal S32x8x128 .f32) (r : Fin 256) (l : Fin 128) :
    join8 x (ix2 r l) = x (ix3 ⟨r.val / 8, by omega⟩ ⟨r.val % 8, by omega⟩ l) := by
  pointwise [join8]

theorem msk_at (d : ℕ) (hd : d < 8) (p : FVec Ideal S1x128 .f32) (g : Fin 1) (r : Fin 8) (l : Fin 128) :
    msk false d p (ix3 g r l) = if d ≤ r.val then p (ix2 0 l) else ((0 : ℝ) : EReal) := by
  pointwise [msk, m8]
  rw [ge_at r d (by omega) (by omega)]
  by_cases h : d ≤ r.val
  · rw [if_pos h, if_pos h]; rfl
  · rw [if_neg h, if_neg h]; rfl

theorem rot8_at (d : ℕ) (hd : d < 8) (x : FVec Ideal S32x8x128 .f32) (g : Fin 32) (r : Fin 8) (l : Fin 128) :
    rot8 false d x (ix3 g r l) = x (ix3 g ⟨(r.val + 8 - d) % 8, by omega⟩ l) := by
  pointwise [rot8, amt]
  have e : (⟨(r.val + 8 - (BitVec.ofNat 32 d).toNat % 8) % 8, by omega⟩ : Fin 8) = ⟨(r.val + 8 - d) % 8, by omega⟩ := by
    apply Fin.ext
    show (r.val + 8 - (BitVec.ofNat 32 d).toNat % 8) % 8 = (r.val + 8 - d) % 8
    rw [BitVec.toNat_ofNat]; omega
  rw [e]

/-! ## One pass -/

theorem lev_H {d : ℕ} (hd : d < 256) {q : Cx Ideal S1x128} {x : Cx Ideal S256x128} {w : Fin 128 → ℂ} {z : ℕ → Fin 128 → ℂ}
    (hq : H2 q.1 q.2 fun _ => w) (hx : H2 x.1 x.2 z) :
    H2 (lev false d q x).1 (lev false d q x).2 fun r l => z r l + w l * (if d ≤ r then z (r - d) l else 0) := fun r l => by
  have h1 : shift false d x.1 (ix2 r l) = (((if d ≤ r.val then z (r.val - d) l else 0).re : ℝ) : EReal) := by
    rw [shift_at d hd]
    by_cases h : d ≤ r.val
    · rw [dif_pos h, if_pos h]; exact (hx _ l).1
    · rw [dif_neg h, if_neg h]; rfl
  have h2 : shift false d x.2 (ix2 r l) = (((if d ≤ r.val then z (r.val - d) l else 0).im : ℝ) : EReal) := by
    rw [shift_at d hd]
    by_cases h : d ≤ r.val
    · rw [dif_pos h, if_pos h]; exact (hx _ l).2
    · rw [dif_neg h, if_neg h]; rfl
  constructor
  · pointwise [lev, cadd, cmul, rows256, sh]
    rw [h1, h2, (hx r l).1, (hq 0 l).1, (hq 0 l).2, ← EReal.coe_mul, ← EReal.coe_mul, ← EReal.coe_sub, ← EReal.coe_add, Complex.add_re, Complex.mul_re]
  · pointwise [lev, cadd, cmul, rows256, sh]
    rw [h1, h2, (hx r l).2, (hq 0 l).1, (hq 0 l).2, ← EReal.coe_mul, ← EReal.coe_mul, ← EReal.coe_add, ← EReal.coe_add, Complex.add_im, Complex.mul_im]

theorem lev8_H {d : ℕ} (hd : d < 8) {q : Cx Ideal S1x128} {x : Cx Ideal S32x8x128} {w : Fin 128 → ℂ} {z : ℕ → ℕ → Fin 128 → ℂ}
    (hq : H2 q.1 q.2 fun _ => w) (hx : H3 x.1 x.2 z) :
    H3 (lev8 false d q x).1 (lev8 false d q x).2 fun g r l => z g r l + w l * (if d ≤ r then z g (r - d) l else 0) := fun g r l => by
  by_cases h : d ≤ r.val
  · have e : (⟨(r.val + 8 - d) % 8, by omega⟩ : Fin 8) = ⟨r.val - d, by omega⟩ := Fin.ext (by show (r.val + 8 - d) % 8 = r.val - d; omega)
    have h1 := hx g ⟨r.val - d, by omega⟩ l
    constructor
    · pointwise [lev8, cadd, cmul, rows8]
      rw [msk_at d hd, msk_at d hd, rot8_at d hd, rot8_at d hd, e, if_pos h, if_pos h, if_pos h, h1.1, h1.2, (hx g r l).1, (hq 0 l).1, (hq 0 l).2,
        ← EReal.coe_mul, ← EReal.coe_mul, ← EReal.coe_sub, ← EReal.coe_add, Complex.add_re, Complex.mul_re]
    · pointwise [lev8, cadd, cmul, rows8]
      rw [msk_at d hd, msk_at d hd, rot8_at d hd, rot8_at d hd, e, if_pos h, if_pos h, if_pos h, h1.1, h1.2, (hx g r l).2, (hq 0 l).1, (hq 0 l).2,
        ← EReal.coe_mul, ← EReal.coe_mul, ← EReal.coe_add, ← EReal.coe_add, Complex.add_im, Complex.mul_im]
  · have h1 := hx g ⟨(r.val + 8 - d) % 8, by omega⟩ l
    constructor
    · pointwise [lev8, cadd, cmul, rows8]
      rw [msk_at d hd, msk_at d hd, rot8_at d hd, rot8_at d hd, if_neg h, if_neg h, if_neg h, h1.1, h1.2, (hx g r l).1,
        ← EReal.coe_mul, ← EReal.coe_mul, ← EReal.coe_sub, ← EReal.coe_add]
      simp
    · pointwise [lev8, cadd, cmul, rows8]
      rw [msk_at d hd, msk_at d hd, rot8_at d hd, rot8_at d hd, if_neg h, if_neg h, if_neg h, h1.1, h1.2, (hx g r l).2,
        ← EReal.coe_mul, ← EReal.coe_mul, ← EReal.coe_add, ← EReal.coe_add]
      simp

/-! ## The passes together -/

section

variable {a : Cx Ideal S1x128} {w : Fin 128 → ℂ} (ha : H2 a.1 a.2 fun _ => w)
include ha

theorem sqn_H (n : ℕ) : H2 (sqn a n).1 (sqn a n).2 fun _ l => w l ^ 2 ^ n := by
  induction n with
  | zero => simpa [sqn] using ha
  | succ n ih =>
    have := csq_H ih
    simpa only [sqn, ← pow_mul, ← pow_succ] using this

/-- One pass doubles the share of the prefix that a row holds. -/
theorem lev_win {n : ℕ} (hn : n < 256) {q : Cx Ideal S1x128} {x : Cx Ideal S256x128} {z : ℕ → Fin 128 → ℂ} (hq : H2 q.1 q.2 fun _ l => w l ^ n)
    (hx : H2 x.1 x.2 fun r l => win (w l) (fun r => z r l) n r) :
    H2 (lev false n q x).1 (lev false n q x).2 fun r l => win (w l) (fun r => z r l) (n + n) r := by
  have := lev_H hn hq hx
  simpa only [win_double] using this

theorem lev8_win {n : ℕ} (hn : n < 8) {q : Cx Ideal S1x128} {x : Cx Ideal S32x8x128} {z : ℕ → ℕ → Fin 128 → ℂ} (hq : H2 q.1 q.2 fun _ l => w l ^ n)
    (hx : H3 x.1 x.2 fun g r l => win (w l) (fun r => z g r l) n r) :
    H3 (lev8 false n q x).1 (lev8 false n q x).2 fun g r l => win (w l) (fun r => z g r l) (n + n) r := by
  have := lev8_H hn hq hx
  simpa only [win_double] using this

theorem top_H {x : Cx Ideal S256x128} {z : ℕ → Fin 128 → ℂ} (hx : H2 x.1 x.2 z) :
    H2 (top false a x).1 (top false a x).2 fun r l => win (w l) (fun r => z r l) 256 r := by
  have h0 : H2 x.1 x.2 fun r l => win (w l) (fun r => z r l) 1 r := by simpa only [win_one] using hx
  have s := sqn_H ha
  have e0 : H2 a.1 a.2 fun _ l => w l ^ 1 := by simpa only [pow_one] using ha
  exact lev_win ha (n := 128) (by decide) (s 7) (lev_win ha (n := 64) (by decide) (s 6) (lev_win ha (n := 32) (by decide) (s 5)
    (lev_win ha (n := 16) (by decide) (s 4) (lev_win ha (n := 8) (by decide) (s 3) (lev_win ha (n := 4) (by decide) (s 2)
    (lev_win ha (n := 2) (by decide) (s 1) (lev_win ha (n := 1) (by decide) e0 h0)))))))

/-- What each eight receives: the recurrence over the eights before it. -/
theorem carry_H {x : Cx Ideal S256x128} {z : ℕ → Fin 128 → ℂ} (hx : H2 x.1 x.2 z) :
    H2 (carry false a x).1 (carry false a x).2 fun r l => pre (w l) (fun r => z r l) r := fun r l => by
  have ht := top_H ha hx
  have e : ∀ h : 1 ≤ r.val, win (w l) (fun r => z r l) 256 (r.val - 1) = pre (w l) (fun r => z r l) r.val := fun h => by
    rw [win_all _ _ _ _ (by omega), Nat.sub_add_cancel h]
  by_cases h : 1 ≤ r.val
  · have := ht ⟨r.val - 1, by omega⟩ l
    refine ⟨(shift_at 1 (by decide) _ r l).trans ?_, (shift_at 1 (by decide) _ r l).trans ?_⟩
    · rw [dif_pos h, this.1]; exact congrArg (fun z : ℂ => ((z.re : ℝ) : EReal)) (e h)
    · rw [dif_pos h, this.2]; exact congrArg (fun z : ℂ => ((z.im : ℝ) : EReal)) (e h)
  · have e0 : r.val = 0 := by omega
    refine ⟨(shift_at 1 (by decide) _ r l).trans ?_, (shift_at 1 (by decide) _ r l).trans ?_⟩
    · rw [dif_neg h, e0]; rfl
    · rw [dif_neg h, e0]; rfl

theorem in8_H {x : Cx Ideal S32x8x128} {z : ℕ → ℕ → Fin 128 → ℂ} (hx : H3 x.1 x.2 z) :
    H3 (in8 false a x).1 (in8 false a x).2 fun g r l => win (w l) (fun r => z g r l) 8 r := by
  have h0 : H3 x.1 x.2 fun g r l => win (w l) (fun r => z g r l) 1 r := by simpa only [win_one] using hx
  have p := pw_H ha
  exact lev8_win ha (n := 4) (by decide) (p 3) (lev8_win ha (n := 2) (by decide) (p 1) (lev8_win ha (n := 1) (by decide) (p 0) h0))

/-- The recurrence within the eights. -/
theorem scan8_H {x : Cx Ideal S256x128} {z : ℕ → Fin 128 → ℂ} (hx : H2 x.1 x.2 z) :
    H2 (scan8 false a x).1 (scan8 false a x).2 fun r l => pre (w l) (fun i => z (8 * (r / 8) + i) l) (r % 8 + 1) := fun r l => by
  have h3 : H3 (split8 x.1) (split8 x.2) fun g r l => z (8 * g + r) l := fun g r l => by
    rw [split8_at, split8_at]; exact hx _ l
  have := in8_H ha (x := (split8 x.1, split8 x.2)) h3 ⟨r.val / 8, by omega⟩ ⟨r.val % 8, by omega⟩ l
  have e := win_all (w l) (fun i => z (8 * (r.val / 8) + i) l) 8 (r.val % 8) (by omega)
  exact ⟨((join8_at _ r l).trans this.1).trans (congrArg (fun z : ℂ => ((z.re : ℝ) : EReal)) e),
    ((join8_at _ r l).trans this.2).trans (congrArg (fun z : ℂ => ((z.im : ℝ) : EReal)) e)⟩

end

end Cert.Kernel2Ideal.Run

end
-- ==== Proof.Scan.Out.lean ====
module

public import proofs.«01_k».proof.Proof.Scan.Pass

/-! What the forward body leaves in its two output blocks: the recurrence's prefixes. -/

@[expose] public section

set_option maxRecDepth 16384

noncomputable section

namespace Cert.Kernel2Ideal.Run

open Cert.Kernel2Ideal.Gen Idealize.ShloMosaic Cert.Scan

theorem H2.congr {n : ℕ} {x y : (⟨2, ![n, 128]⟩ : Shape).Idx → EReal} {z z' : ℕ → Fin 128 → ℂ} (h : H2 x y z) (e : ∀ r < n, ∀ l, z r l = z' r l) :
    H2 x y z' := fun r l => by rw [← e r.val r.isLt l]; exact h r l

section

variable {a : Cx Ideal S1x128} {w : Fin 128 → ℂ} (ha : H2 a.1 a.2 fun _ => w)
  {b : FVec Ideal S2048x128 .f32 × FVec Ideal S2048x128 .f32} {β : ℕ → Fin 128 → ℂ} (hb : H2 b.1 b.2 β)
include ha hb

/-- The rows of a tile: the recurrence within each eight. -/
theorem floc_H {k : ℕ} (hk : k < 8) : H2 (floc a b k).1 (floc a b k).2 fun r l => pre (w l) (fun i => β (8 * (32 * k + r / 8) + i) l) (r % 8 + 1) := by
  have ht : H2 (tile (F := Ideal) (e := .f32) k b.1) (tile (F := Ideal) (e := .f32) k b.2) fun r l => β (256 * k + r) l := fun r l => by
    have h := hb ⟨(256 * k + r.val) % 2048, by omega⟩ l
    have e : (256 * k + r.val) % 2048 = 256 * k + r.val := Nat.mod_eq_of_lt (by omega)
    simp only [e] at h
    have e' : (⟨(256 * k + r.val) % 2048, Nat.mod_lt _ (by decide)⟩ : Fin 2048) = ⟨256 * k + r.val, by omega⟩ := Fin.ext e
    exact ⟨(congrArg (fun q => b.1 (ix2 q l)) e').trans h.1, (congrArg (fun q => b.2 (ix2 q l)) e').trans h.2⟩
  refine (scan8_H ha (x := (tile (F := Ideal) (e := .f32) k b.1, tile (F := Ideal) (e := .f32) k b.2)) ht).congr fun r _ l => pre_congr fun i _ => ?_
  show β (256 * k + (8 * (r / 8) + i)) l = _
  congr 1; omega

theorem edge_H : H2 (edge (F := Ideal) (e := .f32) 7 (untile (F := Ideal) (e := .f32) fun k => (floc a b k).1))
    (edge (F := Ideal) (e := .f32) 7 (untile (F := Ideal) (e := .f32) fun k => (floc a b k).2))
    fun g l => pre (w l) (fun i => β (8 * g + i) l) 8 := fun g l => by
  have e0 : (8 * g.val + 7) % 2048 = 8 * g.val + 7 := Nat.mod_eq_of_lt (by omega)
  have h := floc_H ha hb (k := (8 * g.val + 7) % 2048 / 256) (by omega) ⟨(8 * g.val + 7) % 2048 % 256, by omega⟩ l
  have e1 : 32 * ((8 * g.val + 7) % 2048 / 256) + (8 * g.val + 7) % 2048 % 256 / 8 = g.val := by omega
  have e2 : (8 * g.val + 7) % 2048 % 256 % 8 + 1 = 8 := by omega
  simp only [e1, e2] at h
  exact h

theorem fcar_H : H2 (fcar a b).1 (fcar a b).2 fun g l => pre (w l) (fun i => β i l) (8 * g) := by
  have h8 : H2 (pw a 7).1 (pw a 7).2 fun _ l => w l ^ 8 := pw_H ha 7
  exact (carry_H h8 (edge_H ha hb)).congr fun g _ l => pre_eighth (w l) (fun i => β i l) g

omit hb in
theorem fpw_at (r : Fin 8) (l : Fin 128) : fpw1 a (ix3 0 r l) = (((w l ^ (r.val + 1)).re : ℝ) : EReal) ∧ fpw2 a (ix3 0 r l) = (((w l ^ (r.val + 1)).im : ℝ) : EReal) := by
  have p := pw_H ha
  constructor
  · pointwise [fpw1, k0_pay103]
    fin_cases r
    exacts [(p 0 0 l).1, (p 1 0 l).1, (p 2 0 l).1, (p 3 0 l).1, (p 4 0 l).1, (p 5 0 l).1, (p 6 0 l).1, (p 7 0 l).1]
  · pointwise [fpw2, k0_pay104]
    fin_cases r
    exacts [(p 0 0 l).2, (p 1 0 l).2, (p 2 0 l).2, (p 3 0 l).2, (p 4 0 l).2, (p 5 0 l).2, (p 6 0 l).2, (p 7 0 l).2]

theorem fout_H {k : ℕ} (hk : k < 8) : H2 (fout1 a b k) (fout2 a b k) fun r l => pre (w l) (fun i => β i l) (256 * k + r + 1) := fun r l => by
  have h := floc_H ha hb hk r l
  have p := fpw_at ha ⟨r.val % 8, by omega⟩ l
  have c := fcar_H ha hb ⟨(32 * k + r.val / 8) % 256, by omega⟩ l
  have e0 : (32 * k + r.val / 8) % 256 = 32 * k + r.val / 8 := Nat.mod_eq_of_lt (by omega)
  have c1 : tile32 (F := Ideal) (e := .f32) k (fcar a b).1 (ix2 ⟨r.val / 8, by omega⟩ l) = (((pre (w l) (fun i => β i l) (8 * (32 * k + r.val / 8))).re : ℝ) : EReal) :=
    c.1.trans (congrArg (fun n => (((pre (w l) (fun i => β i l) (8 * n)).re : ℝ) : EReal)) e0)
  have c2 : tile32 (F := Ideal) (e := .f32) k (fcar a b).2 (ix2 ⟨r.val / 8, by omega⟩ l) = (((pre (w l) (fun i => β i l) (8 * (32 * k + r.val / 8))).im : ℝ) : EReal) :=
    c.2.trans (congrArg (fun n => (((pre (w l) (fun i => β i l) (8 * n)).im : ℝ) : EReal)) e0)
  have e : pre (w l) (fun i => β i l) (256 * k + r.val + 1) = pre (w l) (fun i => β (8 * (32 * k + r.val / 8) + i) l) (r.val % 8 + 1)
      + w l ^ (r.val % 8 + 1) * pre (w l) (fun i => β i l) (8 * (32 * k + r.val / 8)) :=
    (congrArg (pre (w l) fun i => β i l) (by omega)).trans (pre_add (w l) (fun i => β i l) (8 * (32 * k + r.val / 8)) (r.val % 8 + 1))
  simp only [e]
  constructor
  · pointwise [fout1, k0_pay5, k0_pay3, k0_pay4]
    rw [h.1, p.1, p.2, c1, c2, ← EReal.coe_mul, ← EReal.coe_mul, ← EReal.coe_sub, ← EReal.coe_add, Complex.add_re, Complex.mul_re]
  · pointwise [fout2, k0_pay6, k0_pay3, k0_pay4]
    rw [h.2, p.1, p.2, c1, c2, ← EReal.coe_mul, ← EReal.coe_mul, ← EReal.coe_add, ← EReal.coe_add, Complex.add_im, Complex.mul_im]

/-- The two output blocks hold the recurrence. -/
theorem out_H : H2 (untile (F := Ideal) (e := .bf16) (fout1 a b)) (untile (F := Ideal) (e := .bf16) (fout2 a b)) fun r l => pre (w l) (fun i => β i l) (r + 1) := fun r l => by
  have h := fout_H ha hb (k := r.val / 256) (by omega) ⟨r.val % 256, by omega⟩ l
  have e : 256 * (r.val / 256) + r.val % 256 = r.val := by omega
  simp only [e] at h
  exact h

end

end Cert.Kernel2Ideal.Run

end
-- ==== Proof.Scan.Launch.lean ====
module

public import proofs.«01_k».proof.Proof.Scan.RunFwd
public import proofs.«01_k».proof.Proof.Gen.Kernel2Ideal.Frame
public import Idealize.ShloMosaic.Lib.Claim
public import proofs.«01_k».proof.Proof.Gen.Kernel2Ideal.Launch
public import proofs.«01_k».proof.Proof.Gen.Kernel2Ideal.Points
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The scan's forward call: its run. -/

@[expose] public section

set_option maxRecDepth 16384

noncomputable section

namespace Cert.Kernel2Ideal.Run

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs' blocks stay; the two output blocks are the scan's states. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => untile (fout1 (iblk m c 3 t, iblk m c 4 t) (fin0 (iblk m c 0 t) (iblk m c 1 t) (iblk m c 2 t)))
    | ⟨6, _⟩ => untile (fout2 (iblk m c 3 t, iblk m c 4 t) (fin0 (iblk m c 0 t) (iblk m c 1 t) (iblk m c 2 t)))
  Φ _ := Pipeline.ΦA spec0 c
  q _ := fullShare
  owed _ := 0

theorem A_eq0 (c : Dev nD) (w : Fin cfg0.W) : (dat0 m c).A w = V m c (Pipeline.arrRef spec0 w) := by
  dsimp only [dat0]

theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = iblk m c 3 t := by dsimp only [dat0]
theorem after0_4 (c : Dev nD) (t : Fin cfg0.N) : (dat0 m c).after 4 t = iblk m c 4 t := by dsimp only [dat0]
theorem after0_5 (c : Dev nD) (t : Fin cfg0.N) : (dat0 m c).after 5 t = untile (fout1 (iblk m c 3 t, iblk m c 4 t) (fin0 (iblk m c 0 t) (iblk m c 1 t) (iblk m c 2 t))) := by dsimp only [dat0]
theorem after0_6 (c : Dev nD) (t : Fin cfg0.N) : (dat0 m c).after 6 t = untile (fout2 (iblk m c 3 t, iblk m c 4 t) (fin0 (iblk m c 0 t) (iblk m c 1 t) (iblk m c 2 t))) := by dsimp only [dat0]
theorem before0_0 (c : Dev nD) (t : Fin cfg0.N) (d) : (dat0 m c).before 0 t d = iblk m c 0 t :=
  before0_0_of m (dat0 m c) (A_eq0 m c 0) (after0_0 m c) t d
theorem before0_1 (c : Dev nD) (t : Fin cfg0.N) (d) : (dat0 m c).before 1 t d = iblk m c 1 t :=
  before0_1_of m (dat0 m c) (A_eq0 m c 1) (after0_1 m c) t d
theorem before0_2 (c : Dev nD) (t : Fin cfg0.N) (d) : (dat0 m c).before 2 t d = iblk m c 2 t :=
  before0_2_of m (dat0 m c) (A_eq0 m c 2) (after0_2 m c) t d
theorem before0_3 (c : Dev nD) (t : Fin cfg0.N) (d) : (dat0 m c).before 3 t d = iblk m c 3 t :=
  before0_3_of m (dat0 m c) (A_eq0 m c 3) (after0_3 m c) t d
theorem before0_4 (c : Dev nD) (t : Fin cfg0.N) (d) : (dat0 m c).before 4 t d = iblk m c 4 t :=
  before0_4_of m (dat0 m c) (A_eq0 m c 4) (after0_4 m c) t d

/-- The two scratch buffers and the two scoped ones, each owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scoped0) fullShare d) ∗ (∃ d, owns (c : Thread nD τ) (Memref.whole cc0_scoped1) fullShare d)) ∗ (∃ r, prngReg c r)) := by
  unfold Pipeline.ΦA; rw [scopedRest0_eq]; simp only [owns_whole]; try rfl

/-- What the body is called with at point `t`, -/
def bodyPre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d))
    ∗ (∃ d, owns (c : Thread nD τ) (st0_5 t) fullShare ((dat0 m c).before 5 t d))
    ∗ (∃ d, owns (c : Thread nD τ) (st0_6 t) fullShare ((dat0 m c).before 6 t d)))
/-- and what it returns. -/
def bodyPost0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t)
    ∗ owns (c : Thread nD τ) (st0_4 t) fullShare ((dat0 m c).after 4 t)
    ∗ owns (c : Thread nD τ) (st0_5 t) fullShare ((dat0 m c).after 5 t)
    ∗ owns (c : Thread nD τ) (st0_6 t) fullShare ((dat0 m c).after 6 t))

theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1, before0_2, before0_3, before0_4]
  rw [show (dat0 m c).Φ t.succ = Pipeline.ΦA spec0 c from rfl, show (dat0 m c).Φ t.castSucc = Pipeline.ΦA spec0 c from rfl, PhiA0_eq,
    show (dat0 m c).owesAt () t.succ = (dat0 m c).owesAt () t.castSucc from rfl,
    after0_0, after0_1, after0_2, after0_3, after0_4, after0_5, after0_6]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) m c) (defs₀ (F := F)) Variants.none () Set.univ := fun t => by
  rw [bigSep_W0, bigSep_W0, defs₀_row0]
  exact triple_restated (sound_body0 m c t) rfl .rfl fun _ => .rfl

/-- The one region's proof data. -/
def dats (p : Fin 1) (c : Dev nD) : Dat τ (Elt F) Unit ℕ (UR sig nD τ) ℕ (cfgs p) c :=
  match p with
  | ⟨0, _⟩ => dat0 m c

set_option backward.isDefEq.respectTransparency.types false in
/-- From any memory with zero counters every weakly fair execution terminates without a fault, at the region's arrays and the lines after it, every counter zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation0 m c).loose) (hshare := fun c => (dat0 m c).share_full fun _ => rfl)
    (howed := fun _ _ => rfl) (V₀ := V0 m) (opss := [hostOps1]) (hsub := sfx_sub) (hfresh := sfx_fresh) (hkeep := sfx_keeps)
    (hmain := hmain m Variants.none) (hA := A_eq0 m) (hΦ := fun _ _ => rfl)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq0 m) ((θ_run defs _ _).mono (fun _ h => h.1) (run_main m ρ)))
    ((θ_run defs _ _).mono (fun _ h => h.2) (run_main m ρ))

end Cert.Kernel2Ideal.Run

end
-- ==== Proof.Scan.Kernel.lean ====
module

public import proofs.«01_k».proof.Proof.Scan.Out
public import proofs.«01_k».proof.Proof.Scan.Launch
public import Idealize.ShloMosaic.Lib.Pipeline.ValueKit
public import Idealize.ShloMosaic.Lib.StableHlo.ReadAt

/-! The scan kernel's results as complex numbers: the host rounds and lays out the weights, the call runs, the host widens its two
    results. -/

@[expose] public section

set_option maxRecDepth 16384

noncomputable section

namespace Cert.Kernel2Ideal.Run

open Idealize.ShloMosaic Idealize.ShloMosaic.TcCoe Cert.Kernel2Ideal.Gen Cert.Scan
open Idealize.ShloMosaic.Pipeline (Dat)

variable (m : (ℓ : Loc nD τ sig) → Buf (Elt Ideal) ℓ) (c : Dev nD)

/-- The arguments hold real numbers. -/
structure Args (U : Fin 2048 → Fin 512 → ℝ) (P Q : Fin 4 → Fin 128 → Fin 512 → ℝ) (A B : Fin 2048 → ℝ) : Prop where
  u : R2 (m ((c : Thread nD τ).loc main_arg0)) U
  p : R3 (m ((c : Thread nD τ).loc main_arg1)) P
  q : R3 (m ((c : Thread nD τ).loc main_arg2)) Q
  a : R2 (m ((c : Thread nD τ).loc main_arg3)) fun _ => A
  b : R2 (m ((c : Thread nD τ).loc main_arg4)) fun _ => B

variable {U : Fin 2048 → Fin 512 → ℝ} {P Q : Fin 4 → Fin 128 → Fin 512 → ℝ} {A B : Fin 2048 → ℝ}

/-- The lane that column `l` of block `j` is. -/
def lane (j : Fin 16) (l : Fin 128) : Fin 2048 := ⟨j.val * 128 + l.val, by omega⟩

theorem prep_u (h : R2 (m ((c : Thread nD τ).loc main_arg0)) U) : R2 (V m c main_v8) U := fun r k => by
  show StableHlo.after (List.flatten [hostOps0]) (fun b => m (c, b)) (Proc.devRef .tc main_v8) (ix2 r k) = _
  after_reads_at
  exact h r k
theorem grp_lane (j : Fin 16) (l : Fin 128) : grp (lane j l) = ⟨j.val / 4, by omega⟩ := Fin.ext (by show (j.val * 128 + l.val) / 512 = j.val / 4; omega)
theorem plc_lane (j : Fin 16) (l : Fin 128) : plc (lane j l) = ⟨j.val % 4 * 128 + l.val, by omega⟩ :=
  Fin.ext (by show (j.val * 128 + l.val) % 512 = j.val % 4 * 128 + l.val; omega)

theorem at_lane (P : Fin 4 → Fin 128 → Fin 512 → ℝ) (j : Fin 16) (k l : Fin 128) :
    ((P ⟨j.val / 4, by omega⟩ k ⟨j.val % 4 * 128 + l.val, by omega⟩ : ℝ) : EReal) = ((P (grp (lane j l)) k (plc (lane j l)) : ℝ) : EReal) := by
  rw [grp_lane, plc_lane]

theorem prep_p (h : R3 (m ((c : Thread nD τ).loc main_arg1)) P) : R3 (V m c main_v3) fun j k l => P (grp (lane j l)) k (plc (lane j l)) := fun j k l => by
  show StableHlo.after (List.flatten [hostOps0]) (fun b => m (c, b)) (Proc.devRef .tc main_v3) (ix3 j k l) = _
  after_reads_at
  exact (h _ k _).trans (at_lane P j k l)
theorem prep_q (h : R3 (m ((c : Thread nD τ).loc main_arg2)) Q) : R3 (V m c main_v7) fun j k l => Q (grp (lane j l)) k (plc (lane j l)) := fun j k l => by
  show StableHlo.after (List.flatten [hostOps0]) (fun b => m (c, b)) (Proc.devRef .tc main_v7) (ix3 j k l) = _
  after_reads_at
  exact (h _ k _).trans (at_lane Q j k l)

theorem index0_0 : ∀ t : Fin cfg0.N, win0_0.index t = ![0, (grid0.coords t 0).val / 4] := by decide +kernel
theorem index0_1 : ∀ t : Fin cfg0.N, win0_1.index t = ![(grid0.coords t 0).val, 0, 0] := by decide +kernel
theorem index0_2 : ∀ t : Fin cfg0.N, win0_2.index t = ![(grid0.coords t 0).val, 0, 0] := by decide +kernel
theorem index0_3 : ∀ t : Fin cfg0.N, win0_3.index t = ![0, (grid0.coords t 0).val] := by decide +kernel
theorem index0_4 : ∀ t : Fin cfg0.N, win0_4.index t = ![0, (grid0.coords t 0).val] := by decide +kernel
theorem index0_5 : ∀ t : Fin cfg0.N, win0_5.index t = ![0, (grid0.coords t 0).val] := by decide +kernel
theorem index0_6 : ∀ t : Fin cfg0.N, win0_6.index t = ![0, (grid0.coords t 0).val] := by decide +kernel

theorem iblk_0 (h : R2 (V m c main_v8) U) (t : Fin cfg0.N) (l : Fin 128) :
    R2 (iblk m c 0 t) fun r k => U r (col (lane (grid0.coords t 0) l) k) := fun r k => by
  blk_simp [iblk]
  refine Eq.trans (congrArg (V m c main_v8) ?_) (h _ _)
  blk_ext [index0_0]
  show (grid0.coords t 0).val / 4 * 128 + k.val = ((grid0.coords t 0).val * 128 + l.val) / 512 * 128 + k.val
  omega
theorem iblk_1 {f : Fin 16 → Fin 128 → Fin 128 → ℝ} (h : R3 (V m c main_v3) f) (t : Fin cfg0.N) :
    R3 (iblk m c 1 t) fun _ k l => f (grid0.coords t 0) k l := fun g k l => by
  blk_simp [iblk]
  refine Eq.trans (congrArg (V m c main_v3) ?_) (h _ _ _)
  blk_ext [index0_1]
theorem iblk_2 {f : Fin 16 → Fin 128 → Fin 128 → ℝ} (h : R3 (V m c main_v7) f) (t : Fin cfg0.N) :
    R3 (iblk m c 2 t) fun _ k l => f (grid0.coords t 0) k l := fun g k l => by
  blk_simp [iblk]
  refine Eq.trans (congrArg (V m c main_v7) ?_) (h _ _ _)
  blk_ext [index0_2]
theorem iblk_3 (h : R2 (V m c main_arg3) fun _ => A) (t : Fin cfg0.N) :
    R2 (iblk m c 3 t) fun _ l => A (lane (grid0.coords t 0) l) := fun r l => by
  blk_simp [iblk]
  refine Eq.trans (congrArg (V m c main_arg3) ?_) (h 0 _)
  blk_ext [index0_3]
  rfl
theorem iblk_4 (h : R2 (V m c main_arg4) fun _ => A) (t : Fin cfg0.N) :
    R2 (iblk m c 4 t) fun _ l => A (lane (grid0.coords t 0) l) := fun r l => by
  blk_simp [iblk]
  refine Eq.trans (congrArg (V m c main_arg4) ?_) (h 0 _)
  blk_ext [index0_4]
  rfl
theorem emb_5 (t : Fin cfg0.N) (r : Fin 2048) (l : Fin 128) : ((cfg0.win 5).blk t).view.emb (ix2 r l) = ix2 r (lane (grid0.coords t 0) l) := by
  blk_ext [index0_5]
  rfl
theorem emb_6 (t : Fin cfg0.N) (r : Fin 2048) (l : Fin 128) : ((cfg0.win 6).blk t).view.emb (ix2 r l) = ix2 r (lane (grid0.coords t 0) l) := by
  blk_ext [index0_6]
  rfl

theorem pay23_at {x0 : Vec Ideal S2048x128 .bf16} {x1 : Vec Ideal S1x128x128 .bf16} (r : Fin 2048) (l : Fin 128) {f g : Fin 128 → ℝ}
    (h0 : ∀ k, x0 (ix2 r k) = ((f k : ℝ) : EReal)) (h1 : ∀ k, x1 (ix3 0 k l) = ((g k : ℝ) : EReal)) :
    k0_pay23 (F := Ideal) x0 x1 (ix2 r l) = ((∑ k, f k * g k : ℝ) : EReal) := by
  pointwise [k0_pay23, k0_pay22]
  simp only [h0, h1, sum_real, ← EReal.coe_mul]
theorem pay24_at {x0 : Vec Ideal S2048x128 .bf16} {x1 : Vec Ideal S1x128x128 .bf16} (r : Fin 2048) (l : Fin 128) {f g : Fin 128 → ℝ}
    (h0 : ∀ k, x0 (ix2 r k) = ((f k : ℝ) : EReal)) (h1 : ∀ k, x1 (ix3 0 k l) = ((g k : ℝ) : EReal)) :
    k0_pay24 (F := Ideal) x0 x1 (ix2 r l) = ((∑ k, f k * g k : ℝ) : EReal) := by
  pointwise [k0_pay24, k0_pay22]
  simp only [h0, h1, sum_real, ← EReal.coe_mul]

section

variable {m} (h : Args m c U P Q A B)
include h

/-- The two output blocks of grid point `t`. -/
theorem blk (t : Fin cfg0.N) : H2 (untile (F := Ideal) (e := .bf16) (fout1 (iblk m c 3 t, iblk m c 4 t) (fin0 (iblk m c 0 t) (iblk m c 1 t) (iblk m c 2 t))))
    (untile (F := Ideal) (e := .bf16) (fout2 (iblk m c 3 t, iblk m c 4 t) (fin0 (iblk m c 0 t) (iblk m c 1 t) (iblk m c 2 t))))
    fun r l => st U P Q A B (lane (grid0.coords t 0) l) (r + 1) := by
  have ha : H2 (iblk m c 3 t) (iblk m c 4 t) fun _ l => ⟨A (lane (grid0.coords t 0) l), B (lane (grid0.coords t 0) l)⟩ := fun r l =>
    ⟨iblk_3 m c (by rw [V_main_arg3]; exact h.a) t r l, iblk_4 m c (by rw [V_main_arg4]; exact h.b) t r l⟩
  have hb : H2 (fin0 (F := Ideal) (iblk m c 0 t) (iblk m c 1 t) (iblk m c 2 t)).1 (fin0 (F := Ideal) (iblk m c 0 t) (iblk m c 1 t) (iblk m c 2 t)).2
      fun r l => bu U P Q (lane (grid0.coords t 0) l) r := fun r l => by
    have e := (bu_of U P Q (lane (grid0.coords t 0) l) r).symm
    exact ⟨(pay23_at r l (iblk_0 m c (prep_u m c h.u) t l r) fun k => iblk_1 m c (prep_p m c h.p) t 0 k l).trans
        (congrArg (fun z : ℂ => ((z.re : ℝ) : EReal)) e),
      (pay24_at r l (iblk_0 m c (prep_u m c h.u) t l r) fun k => iblk_2 m c (prep_q m c h.q) t 0 k l).trans
        (congrArg (fun z : ℂ => ((z.im : ℝ) : EReal)) e)⟩
  exact out_H (a := (iblk m c 3 t, iblk m c 4 t)) ha hb

theorem arr_5 : R2 ((dat0 m c).arrAt 5 cfg0.N) fun r q => (st U P Q A B q (r.val + 1)).re := fun r q => by
  refine (dat0 m c).arrAt_forall_of_covers 5 (fun i v => v = (((fun r q => (st U P Q A B q (r.val + 1)).re : Fin 2048 → Fin 2048 → ℝ) (i 0) (i 1) : ℝ) : EReal))
    (by decide +kernel) (fun t hf y => ?_) (ix2 r q)
  blk_simp
  rw [after0_5]
  idx_vars y
  rw [emb_5 t y0 y1]
  have e : y0.val = win0_5.index t 0 * 2048 + y0.val := by rw [index0_5]; simp
  exact (blk c h t y0 y1).1.trans (congrArg (fun n : ℕ => (((st U P Q A B (lane (grid0.coords t 0) y1) (n + 1)).re : ℝ) : EReal)) e)
theorem arr_6 : R2 ((dat0 m c).arrAt 6 cfg0.N) fun r q => (st U P Q A B q (r.val + 1)).im := fun r q => by
  refine (dat0 m c).arrAt_forall_of_covers 6 (fun i v => v = (((fun r q => (st U P Q A B q (r.val + 1)).im : Fin 2048 → Fin 2048 → ℝ) (i 0) (i 1) : ℝ) : EReal))
    (by decide +kernel) (fun t hf y => ?_) (ix2 r q)
  blk_simp
  rw [after0_6]
  idx_vars y
  rw [emb_6 t y0 y1]
  have e : y0.val = win0_6.index t 0 * 2048 + y0.val := by rw [index0_6]; simp
  exact (blk c h t y0 y1).2.trans (congrArg (fun n : ℕ => (((st U P Q A B (lane (grid0.coords t 0) y1) (n + 1)).im : ℝ) : EReal)) e)

/-! ## The results -/

theorem out_re : R2 (Pipeline.afterTail₀ cfgs (dats m) 0 (V0 m) [hostOps1] c main_v10) fun r q => (st U P Q A B q (r.val + 1)).re := fun r q => by
  show StableHlo.after (List.flatten [hostOps1]) (Pipeline.withArrays spec0 c (V0 m c) fun w => (dats m 0 c).arrAt w cfg0.N) (Proc.devRef .tc main_v10) (ix2 r q) = _
  after_reads_at
  exact (congrFun (Pipeline.withArrays_arr spec0 (by decide) c (V0 m c) (fun w => (dats m 0 c).arrAt w cfg0.N) 5) (ix2 r q)).trans (arr_5 c h r q)
theorem out_im : R2 (Pipeline.afterTail₀ cfgs (dats m) 0 (V0 m) [hostOps1] c main_v11) fun r q => (st U P Q A B q (r.val + 1)).im := fun r q => by
  show StableHlo.after (List.flatten [hostOps1]) (Pipeline.withArrays spec0 c (V0 m c) fun w => (dats m 0 c).arrAt w cfg0.N) (Proc.devRef .tc main_v11) (ix2 r q) = _
  after_reads_at
  exact (congrFun (Pipeline.withArrays_arr spec0 (by decide) c (V0 m c) (fun w => (dats m 0 c).arrAt w cfg0.N) 6) (ix2 r q)).trans (arr_6 c h r q)

end

end Cert.Kernel2Ideal.Run

end
-- ==== Proof.Scan.Finite.lean ====
module

public import proofs.«01_k».proof.Proof.Scan.Kernel
public import proofs.«01_k».proof.Proof.Value.Finite
public import proofs.«01_k».proof.Proof.Gen.Pre_finite2

/-! What the scan's precondition says: every element of the five arguments is a real number. -/

@[expose] public section

set_option maxRecDepth 16384

noncomputable section

namespace Cert.Kernel2Ideal.Run

open Idealize.ShloMosaic Idealize.ShloMosaic.TcCoe Cert.Kernel2Ideal.Gen Cert.Scan
open Cert.KernelIdeal.Value (real_of_lt ofBits_inf)

instance : Subsingleton (Cert.Pre_finite2.S_ : Shape).Idx := ⟨fun _ _ => funext fun i => i.elim0⟩

theorem finite_args {x0 : FVec Ideal Cert.Pre_finite2.S2048x512 .f32} {x1 x2 : FVec Ideal Cert.Pre_finite2.S4x128x512 .f32}
    {x3 x4 : FVec Ideal Cert.Pre_finite2.S1x2048 .f32} (h : Cert.Pre_finite2.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x4 i = (r : EReal) := by
  have e := congrFun h (fun i => i.elim0)
  dsimp only [Cert.Pre_finite2.fn, Cert.Pre_finite2.fn_part1] at e
  simp only [andi_apply, IntOp.andi_eq_one] at e
  obtain ⟨⟨⟨⟨e0, e1⟩, e2⟩, e3⟩, e4⟩ := e
  exact ⟨fun i => real_of_lt ofBits_inf (Host.reduce_andi_all _ _ _ _ _ e0 i), fun i => real_of_lt ofBits_inf (Host.reduce_andi_all _ _ _ _ _ e1 i),
    fun i => real_of_lt ofBits_inf (Host.reduce_andi_all _ _ _ _ _ e2 i), fun i => real_of_lt ofBits_inf (Host.reduce_andi_all _ _ _ _ _ e3 i),
    fun i => real_of_lt ofBits_inf (Host.reduce_andi_all _ _ _ _ _ e4 i)⟩

variable (m : (ℓ : Loc nD τ sig) → Buf (Elt Ideal) ℓ)

theorem args_of_pre (h : Cert.Pre_Kernel2Ideal_finite2 m) (c : Dev nD) : ∃ U P Q A B, Args m c U P Q A B := by
  obtain ⟨h0, h1, h2, h3, h4⟩ := finite_args (h c)
  choose U hU using h0
  choose P hP using h1
  choose Q hQ using h2
  choose A hA using h3
  choose B hB using h4
  have one (r : Fin 1) : r = 0 := Subsingleton.elim r 0
  exact ⟨fun r k => U (ix2 r k), fun j k l => P (ix3 j k l), fun j k l => Q (ix3 j k l), fun q => A (ix2 0 q), fun q => B (ix2 0 q),
    fun r k => hU _, fun j k l => hP _, fun j k l => hQ _, fun r q => by rw [one r]; exact hA _, fun r q => by rw [one r]; exact hB _⟩

end Cert.Kernel2Ideal.Run

end
-- ==== Proof.Scan.Reference.lean ====
module

public import proofs.«01_k».proof.Proof.Scan.Spec
public import proofs.«01_k».proof.Proof.Gen.Reference2Ideal.Run
public import Idealize.ShloMosaic.Lib.StableHlo.ReadAt

/-! The reference's loop: after `n` trips the carried pair holds every lane's state after `n` rows, and the rows written so far
    hold the states. -/

@[expose] public section

set_option maxRecDepth 16384

noncomputable section

namespace Cert.Reference2Ideal.Value

open Idealize.ShloMosaic Idealize.ShloMosaic.TcCoe Cert.Reference2Ideal.Gen Cert.Scan Idealize.ShloMosaic.StableHlo

variable {U : Fin 2048 → Fin 512 → ℝ} {P Q : Fin 4 → Fin 128 → Fin 512 → ℝ} {A B : Fin 2048 → ℝ}

variable (U P Q A B) in
/-- What the loop carries after `n` trips. -/
structure Inv (n : ℕ) (V : Valuation τ sig (Elt Ideal)) : Prop where
  bre : R2 (V (Proc.devRef .tc main_v10_0)) (drive U P)
  bim : R2 (V (Proc.devRef .tc main_v10_1)) (drive U Q)
  are : R2 (V (Proc.devRef .tc main_v10_2)) fun _ => A
  aim : R2 (V (Proc.devRef .tc main_v10_3)) fun _ => B
  cnt : V (Proc.devRef .tc main_v10_4) = fun _ => BitVec.ofNat 32 n
  xre : ∀ q : Fin 2048, (V (Proc.devRef .tc main_v10_5) : S2048.Idx → EReal) (ix1 q) = (((st U P Q A B q n).re : ℝ) : EReal)
  xim : ∀ q : Fin 2048, (V (Proc.devRef .tc main_v10_6) : S2048.Idx → EReal) (ix1 q) = (((st U P Q A B q n).im : ℝ) : EReal)
  ore : ∀ r q : Fin 2048, r.val < n → (V (Proc.devRef .tc main_v10_7) : S2048x2048.Idx → EReal) (ix2 r q) = (((st U P Q A B q (r.val + 1)).re : ℝ) : EReal)
  oim : ∀ r q : Fin 2048, r.val < n → (V (Proc.devRef .tc main_v10_8) : S2048x2048.Idx → EReal) (ix2 r q) = (((st U P Q A B q (r.val + 1)).im : ℝ) : EReal)

theorem toInt_small {n : ℕ} (hn : n < 2048) : (BitVec.ofNat 32 n).toInt = n := by
  rw [BitVec.toInt_eq_toNat_of_lt] <;> rw [BitVec.toNat_ofNat, Nat.mod_eq_of_lt (by omega)]
  omega

/-- Where the trip reads and writes: at the row that the counter tells. -/
abbrev at' (V : Valuation τ sig (Elt Ideal)) (k : Fin 2) : Int :=
  ((![V (Proc.devRef .tc main_v10_4), constantI S_ 32 0#32] : Fin 2 → (⟨S_, .i32⟩ : BufTy).Contents (Elt Ideal)) k (Shape.Idx.first h_S_)).toInt

section

variable {n : ℕ} (hn : n < 2048) {V : Valuation τ sig (Elt Ideal)} (h : Inv U P Q A B n V)
include hn h

theorem row0 : Host.clampedStart S2048x2048 S1x2048 rfl (at' V) 0 = n := by
  show (min (max (BitVec.toInt ((V (Proc.devRef .tc main_v10_4) : S_.Idx → BitVec 32) (Shape.Idx.first h_S_))) 0) ((2048 - 1 : ℕ) : ℤ)).toNat = n
  rw [h.cnt, toInt_small hn]
  omega
omit hn h in
theorem row1 : Host.clampedStart S2048x2048 S1x2048 rfl (at' V) 1 = 0 := by
  show (min (max (BitVec.toInt (0#32)) 0) ((2048 - 2048 : ℕ) : ℤ)).toNat = 0
  decide

theorem st_succ (q : Fin 2048) : st U P Q A B q (n + 1)
    = ⟨A q * (st U P Q A B q n).re - B q * (st U P Q A B q n).im + drive U P ⟨n, hn⟩ q,
       A q * (st U P Q A B q n).im + B q * (st U P Q A B q n).re + drive U Q ⟨n, hn⟩ q⟩ := by
  have e : bu U P Q q n = ⟨drive U P ⟨n, hn⟩ q, drive U Q ⟨n, hn⟩ q⟩ := bu_of U P Q q ⟨n, hn⟩
  unfold st
  simp only [pre, e]
  apply Complex.ext
  · simp only [Complex.add_re, Complex.mul_re]
  · simp only [Complex.add_im, Complex.mul_im]

theorem next_re (q : Fin 2048) : (res_main_while0b_v18 V : S2048.Idx → EReal) (ix1 q) = (((st U P Q A B q (n + 1)).re : ℝ) : EReal) := by
  pointwise [res_main_while0b_v18]
  rw [st_succ hn h q, EReal.coe_add, EReal.coe_sub, EReal.coe_mul, EReal.coe_mul]
  refine congrArg₂ (· + ·) (congrArg₂ (· - ·) (congrArg₂ (· * ·) (h.are 0 q) (h.xre q)) (congrArg₂ (· * ·) (h.aim 0 q) (h.xim q))) ?_
  refine (congrArg (V (Proc.devRef .tc main_v10_0) : S2048x2048.Idx → EReal) ?_).trans (h.bre ⟨n, hn⟩ q)
  exact congrArg₂ ix2 (Fin.ext (row0 hn h)) (Fin.ext ((congrArg (· + q.val) (row1 (V := V))).trans (Nat.zero_add _)))

theorem next_im (q : Fin 2048) : (res_main_while0b_v24 V : S2048.Idx → EReal) (ix1 q) = (((st U P Q A B q (n + 1)).im : ℝ) : EReal) := by
  pointwise [res_main_while0b_v24]
  rw [st_succ hn h q, EReal.coe_add, EReal.coe_add, EReal.coe_mul, EReal.coe_mul]
  refine congrArg₂ (· + ·) (congrArg₂ (· + ·) (congrArg₂ (· * ·) (h.are 0 q) (h.xim q)) (congrArg₂ (· * ·) (h.aim 0 q) (h.xre q))) ?_
  refine (congrArg (V (Proc.devRef .tc main_v10_1) : S2048x2048.Idx → EReal) ?_).trans (h.bim ⟨n, hn⟩ q)
  exact congrArg₂ ix2 (Fin.ext (row0 hn h)) (Fin.ext ((congrArg (· + q.val) (row1 (V := V))).trans (Nat.zero_add _)))

/-- A row put at the counter's place. -/
theorem put (x : S2048.Idx → EReal) (y : S2048x2048.Idx → EReal) (r q : Fin 2048) :
    Host.dynamicUpdateSlice y (broadcastInDim S1x2048 ![1] bcast_S2048_S1x2048_1 x) (at' V) updateFits_S2048x2048_S1x2048 (ix2 r q)
      = if r.val = n then x (ix1 q) else y (ix2 r q) := by
  have e0 := row0 hn h
  have e1 := row1 (V := V)
  pointwise []
  by_cases hr : r.val = n
  · rw [if_pos hr, dif_pos ⟨⟨by omega, by omega⟩, by omega⟩]
    exact congrArg (fun i : Fin 2048 => x (ix1 i)) (Fin.ext (by show q.val - _ = q.val; rw [e1]; omega))
  · rw [if_neg hr, dif_neg]
    rintro ⟨⟨h1, h2⟩, _⟩
    omega

theorem step : Inv U P Q A B (n + 1) (STEP V) where
  bre := by rw [STEP_main_v10_0]; exact h.bre
  bim := by rw [STEP_main_v10_1]; exact h.bim
  are := by rw [STEP_main_v10_2]; exact h.are
  aim := by rw [STEP_main_v10_3]; exact h.aim
  cnt := by
    rw [STEP_main_v10_4]
    funext i
    show IntOp.addi ((V (Proc.devRef .tc main_v10_4) : S_.Idx → BitVec 32) i) 1#32 = _
    rw [h.cnt]
    exact (BitVec.ofNat_add n 1).symm
  xre := fun q => by rw [STEP_main_v10_5]; exact next_re hn h q
  xim := fun q => by rw [STEP_main_v10_6]; exact next_im hn h q
  ore := fun r q hr => by
    rw [STEP_main_v10_7]
    refine (put hn h (res_main_while0b_v18 V) (V (Proc.devRef .tc main_v10_7)) r q).trans ?_
    by_cases e : r.val = n
    · rw [if_pos e, e]; exact next_re hn h q
    · rw [if_neg e]; exact h.ore r q (by omega)
  oim := fun r q hr => by
    rw [STEP_main_v10_8]
    refine (put hn h (res_main_while0b_v24 V) (V (Proc.devRef .tc main_v10_8)) r q).trans ?_
    by_cases e : r.val = n
    · rw [if_pos e, e]; exact next_im hn h q
    · rw [if_neg e]; exact h.oim r q (by omega)

end

theorem loop {V : Valuation τ sig (Elt Ideal)} (h : Inv U P Q A B 0 V) (n : ℕ) (hn : n ≤ 2048) : Inv U P Q A B n (STEP^[n] V) := by
  induction n with
  | zero => exact h
  | succ n ih => rw [Function.iterate_succ_apply']; exact step (by omega) (ih (by omega))

theorem start (m : (ℓ : Loc nD τ sig) → Buf (Elt Ideal) ℓ) (c : Dev nD)
    (hU : R2 (m ((c : Thread nD τ).loc main_arg0)) U) (hP : R3 (m ((c : Thread nD τ).loc main_arg1)) P) (hQ : R3 (m ((c : Thread nD τ).loc main_arg2)) Q)
    (hA : R2 (m ((c : Thread nD τ).loc main_arg3)) fun _ => A) (hB : R2 (m ((c : Thread nD τ).loc main_arg4)) fun _ => B) :
    Inv U P Q A B 0 (entryContents preI m c) where
  bre := fun r q => by
    simp only [entryContents, afterL_cons, afterL_nil]
    after_reads_at
    refine (Finset.sum_congr rfl fun k _ => ?_).trans (sum_real Finset.univ fun k => U r (col q k) * P (grp q) k (plc q))
    exact (congrArg₂ (· * ·) (hP (grp q) k (plc q)) (hU r (col q k))).trans (by rw [← EReal.coe_mul, mul_comm])
  bim := fun r q => by
    simp only [entryContents, afterL_cons, afterL_nil]
    after_reads_at
    refine (Finset.sum_congr rfl fun k _ => ?_).trans (sum_real Finset.univ fun k => U r (col q k) * Q (grp q) k (plc q))
    exact (congrArg₂ (· * ·) (hQ (grp q) k (plc q)) (hU r (col q k))).trans (by rw [← EReal.coe_mul, mul_comm])
  are := fun r q => by
    simp only [entryContents, afterL_cons, afterL_nil]
    after_reads_at
    exact hA r q
  aim := fun r q => by
    simp only [entryContents, afterL_cons, afterL_nil]
    after_reads_at
    exact hB r q
  cnt := by
    simp only [entryContents, afterL_cons, afterL_nil]
    funext i
    after_reads_at
    rfl
  xre := fun q => by
    simp only [entryContents, afterL_cons, afterL_nil]
    after_reads_at
    exact ofBits_zero
  xim := fun q => by
    simp only [entryContents, afterL_cons, afterL_nil]
    after_reads_at
    exact ofBits_zero
  ore := fun r q h => absurd h (by omega)
  oim := fun r q h => absurd h (by omega)

end Cert.Reference2Ideal.Value

end
-- ==== Proof.Scan.Equal.lean ====
module

public import proofs.«01_k».proof.Proof.Scan.Finite
public import proofs.«01_k».proof.Proof.Scan.Reference

/-! The states that the scan's kernel leaves and the reference's hold the same real numbers. -/

@[expose] public section

set_option maxRecDepth 16384

noncomputable section

namespace Cert.Equal2

open Idealize.ShloMosaic Idealize.ShloMosaic.TcCoe Idealize.SL.Sem Cert.Scan

/-- Two arrays that hold the same real numbers are equal. -/
theorem arrays_eq {a b : ℕ} {v w : (⟨2, ![a, b]⟩ : Shape).Idx → EReal} {f : Fin a → Fin b → ℝ} (h : R2 v f) (k : R2 w f) : v = w :=
  funext fun i => by
    rw [eq_ix2 i]
    exact (h _ _).trans (k _ _).symm

/-- The kernel and the reference end with equal states, their arguments unchanged. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m ρ m' ρ' hpre hag
  refine ⟨fun c => Pipeline.afterTail₀ Cert.Kernel2Ideal.cfgs (Cert.Kernel2Ideal.Run.dats m) 0 (Cert.Kernel2Ideal.Gen.V0 m) [Cert.Kernel2Ideal.Gen.hostOps1] c Cert.Kernel2Ideal.main_v10,
    fun c => Pipeline.afterTail₀ Cert.Kernel2Ideal.cfgs (Cert.Kernel2Ideal.Run.dats m) 0 (Cert.Kernel2Ideal.Gen.V0 m) [Cert.Kernel2Ideal.Gen.hostOps1] c Cert.Kernel2Ideal.main_v11, ?_, ?_⟩
  · refine (θ_run Cert.Kernel2Ideal.defs _ _).mono (fun _ h c => ?_)
      (θ_run_and (Cert.Kernel2Ideal.Run.run_main (F := Ideal) m ρ) (Cert.Kernel2Ideal.Run.frame (F := Ideal) m ρ))
    exact ⟨(h.1.1 c).2 Cert.Kernel2Ideal.main_v10 (Pipeline.mem_restRefs_of Cert.Kernel2Ideal.main_v10 (by decide) (by decide)),
      (h.1.1 c).2 Cert.Kernel2Ideal.main_v11 (Pipeline.mem_restRefs_of Cert.Kernel2Ideal.main_v11 (by decide) (by decide)), h.2.1 c⟩
  · refine (θ_run Cert.Reference2Ideal.defs _ _).mono (fun _ h c => ?_) (Cert.Reference2Ideal.Value.run (F := Ideal) m' ρ')
    obtain ⟨U, P, Q, A, B, K⟩ := Cert.Kernel2Ideal.Run.args_of_pre m hpre c
    obtain ⟨a0, a1, a2, a3, a4⟩ := hag c
    obtain ⟨h0, h1, k⟩ := h c
    have I := Cert.Reference2Ideal.Value.loop (Cert.Reference2Ideal.Value.start (U := U) (P := P) (Q := Q) (A := A) (B := B) m' c
      (fun r q => (congrFun a0 _).trans (K.u r q)) (fun j r q => (congrFun a1 _).trans (K.p j r q)) (fun j r q => (congrFun a2 _).trans (K.q j r q))
      (fun r q => (congrFun a3 _).trans (K.a r q)) (fun r q => (congrFun a4 _).trans (K.b r q))) 2048 le_rfl
    exact ⟨h0.trans (arrays_eq (fun r q => I.ore r q r.isLt) (Cert.Kernel2Ideal.Run.out_re c K)),
      h1.trans (arrays_eq (fun r q => I.oim r q r.isLt) (Cert.Kernel2Ideal.Run.out_im c K)), k⟩

end Cert.Equal2

end
-- ==== Proof.Weights.Same.lean ====
module

public import proofs.«01_k».proof.Defs
public import proofs.«01_k».proof.Proof.Gen.Kernel3
public import proofs.«01_k».proof.Proof.Gen.Kernel3Ideal

/-! The six products' program and its idealization are one program, no operation having been replaced: their body tables are equal. -/

@[expose] public section

set_option maxHeartbeats 0
set_option maxRecDepth 65536

namespace Cert.Same3

open Idealize.ShloMosaic

theorem ple_gate : @Cert.Kernel3.cc0_dw_ple_gate Bits _ Cert.Kernel3.Gen.facts = @Cert.Kernel3Ideal.cc0_dw_ple_gate Bits _ Cert.Kernel3Ideal.Gen.facts := rfl
theorem ple_in : @Cert.Kernel3.cc1_dw_ple_in Bits _ Cert.Kernel3.Gen.facts = @Cert.Kernel3Ideal.cc1_dw_ple_in Bits _ Cert.Kernel3Ideal.Gen.facts := rfl
theorem mix_out : @Cert.Kernel3.cc2_dw_mix_out Bits _ Cert.Kernel3.Gen.facts = @Cert.Kernel3Ideal.cc2_dw_mix_out Bits _ Cert.Kernel3Ideal.Gen.facts := rfl
theorem glu : @Cert.Kernel3.cc3_dw_glu Bits _ Cert.Kernel3.Gen.facts = @Cert.Kernel3Ideal.cc3_dw_glu Bits _ Cert.Kernel3Ideal.Gen.facts := rfl
theorem conv_out : @Cert.Kernel3.cc4_dw_conv_out Bits _ Cert.Kernel3.Gen.facts = @Cert.Kernel3Ideal.cc4_dw_conv_out Bits _ Cert.Kernel3Ideal.Gen.facts := rfl
theorem mix_in : @Cert.Kernel3.cc5_dw_mix_in Bits _ Cert.Kernel3.Gen.facts = @Cert.Kernel3Ideal.cc5_dw_mix_in Bits _ Cert.Kernel3Ideal.Gen.facts := rfl

/-- The kernels' table. -/
theorem bodies : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  rw [ple_gate, ple_in, mix_out, glu, conv_out, mix_in]
  refine congrArg Defs.onTc ?_
  funext l a
  match l, a with
  | 0, (t, s) => rfl
  | 1, (t, s) => rfl
  | 2, (t, s) => rfl
  | 3, (t, s) => rfl
  | 4, (t, s) => rfl
  | 5, (t, s) => rfl
  | ⟨n + 6, h⟩, _ => exact absurd h (Nat.not_lt.2 (Nat.le_add_left _ _))

/-- The whole table. -/
theorem table : @Cert.Kernel3.defs Bits _ Cert.Kernel3.Gen.facts = @Cert.Kernel3Ideal.defs Bits _ Cert.Kernel3Ideal.Gen.facts := by
  show Pipeline.defs (@Cert.Kernel3.pcfgs Bits Cert.Kernel3.Gen.facts) (@Cert.Kernel3.defs₀ Bits _ Cert.Kernel3.Gen.facts)
    = Pipeline.defs (@Cert.Kernel3Ideal.pcfgs Bits Cert.Kernel3Ideal.Gen.facts) (@Cert.Kernel3Ideal.defs₀ Bits _ Cert.Kernel3Ideal.Gen.facts)
  rw [bodies]
  rfl

set_option maxRecDepth 65536 in
set_option maxHeartbeats 0 in
/-- The program text. -/
theorem text : @Cert.Kernel3.main Bits _ Cert.Kernel3.Gen.facts = @Cert.Kernel3Ideal.main Bits _ Cert.Kernel3Ideal.Gen.facts := rfl

end Cert.Same3
-- ==== Proof.Weights.Launch.lean ====
module

public import proofs.«01_k».proof.Proof.Gen.Kernel3Ideal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The whole run of the six products: what every array holds at the end, and that the arguments end as they started. -/

@[expose] public section

set_option maxRecDepth 16384

noncomputable section

namespace Cert.Kernel3Ideal.Weights

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every array ends at what the host steps and the calls leave in it, and every counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨fun c => h c, funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c =>
      ⟨(h.1 c _ (mem_uc main_arg0 (by decide))).trans (W8_main_arg0 m ρ c),
       (h.1 c _ (mem_uc main_arg1 (by decide))).trans (W8_main_arg1 m ρ c),
       (h.1 c _ (mem_uc main_arg2 (by decide))).trans (W8_main_arg2 m ρ c),
       (h.1 c _ (mem_uc main_arg3 (by decide))).trans (W8_main_arg3 m ρ c),
       (h.1 c _ (mem_uc main_arg4 (by decide))).trans (W8_main_arg4 m ρ c),
       (h.1 c _ (mem_uc main_arg5 (by decide))).trans (W8_main_arg5 m ρ c),
       (h.1 c _ (mem_uc main_arg6 (by decide))).trans (W8_main_arg6 m ρ c),
       (h.1 c _ (mem_uc main_arg7 (by decide))).trans (W8_main_arg7 m ρ c),
       (h.1 c _ (mem_uc main_arg8 (by decide))).trans (W8_main_arg8 m ρ c),
       (h.1 c _ (mem_uc main_arg9 (by decide))).trans (W8_main_arg9 m ρ c),
       (h.1 c _ (mem_uc main_arg10 (by decide))).trans (W8_main_arg10 m ρ c),
       (h.1 c _ (mem_uc main_arg11 (by decide))).trans (W8_main_arg11 m ρ c)⟩, h.2⟩) (run_main m ρ)

end Cert.Kernel3Ideal.Weights

end
-- ==== Proof.Weights.Value.lean ====
module

public import proofs.«01_k».proof.Proof.Gen.Kernel3Ideal.Frame
public import Idealize.ShloMosaic.Lib.Pipeline.ValueKit
public import Idealize.ShloMosaic.Lib.Pointwise

/-! Six weight-gradient products: what each array they write holds after the call, over the extended reals. -/

@[expose] public section

set_option maxRecDepth 16384

noncomputable section

namespace Cert.Kernel3Ideal.Weights

open Idealize.ShloMosaic Idealize.ShloMosaic.TcCoe Cert.Kernel3Ideal.Gen
open Idealize.ShloMosaic.Pipeline (Dat)

/-- A table of two axes. -/
abbrev Mat (a b : ℕ) : Type := (⟨2, ![a, b]⟩ : Shape).Idx → EReal
/-- Four tables side by side. -/
abbrev Mats (a b : ℕ) : Type := (⟨3, ![4, a, b]⟩ : Shape).Idx → EReal

/-- The gradient of a weight: over the tokens, what went in times the gradient of what came out. -/
def grad {K N : ℕ} (x : Mat 2048 K) (y : Mat 2048 N) (k : Fin K) (j : Fin N) : EReal := ∑ t : Fin 2048, x (ix2 t k) * y (ix2 t j)

/-- Place `r` of piece `i`, of `g` pieces of width `w`. -/
def cut {g w n : ℕ} (h : n = g * w) (i : Fin g) (r : Fin w) : Fin n :=
  ⟨i.val * w + r.val, by
    subst h
    calc i.val * w + r.val < i.val * w + w := by have := r.isLt; omega
      _ = (i.val + 1) * w := (Nat.succ_mul _ _).symm
      _ ≤ g * w := Nat.mul_le_mul_right _ i.isLt⟩

variable (V : (c : Dev nD) → (b : Ref sig .tc) → Buf (Elt Ideal) ((c : Thread nD τ).loc b)) (c : Dev nD)

/-! ## Call 0: the embedding's gate -/

theorem ld0_0 (v : Vec Ideal S2048x512 .bf16) : View.ld v r0_0 = v := funext fun i => by
  rw [eq_ix2 i]
  pointwise
theorem ld0_1 (v : Vec Ideal S2048x1024 .bf16) : View.ld v r0_1 = v := funext fun i => by
  rw [eq_ix2 i]
  pointwise

theorem pay0 (v0 : Vec Ideal S2048x512 .bf16) (v1 : Vec Ideal S2048x1024 .bf16) (k : Fin 512) (j : Fin 1024) :
    k0_pay1 (F := Ideal) v0 v1 (ix2 k j) = grad (K := 512) (N := 1024) v0 v1 k j := by
  pointwise [k0_pay1]
  rfl

theorem blk0 (v0 : Vec Ideal S2048x512 .bf16) (v1 : Vec Ideal S2048x1024 .bf16) (k : Fin 512) (j : Fin 1024) :
    out0_2 (F := Ideal) v0 v1 (ix2 k j) = grad (K := 512) (N := 1024) v0 v1 k j := by
  unfold out0_2
  rw [View.canon_unit_zero (by decide), ld0_0, ld0_1]
  exact pay0 v0 v1 k j

theorem index0_0 : ∀ t : Fin cfg0.N, win0_0.index t = ![0, (grid0.coords t 0).val] := by decide +kernel
theorem index0_1 : ∀ t : Fin cfg0.N, win0_1.index t = ![0, 0] := by decide +kernel
theorem index0_2 : ∀ t : Fin cfg0.N, win0_2.index t = ![(grid0.coords t 0).val, 0] := by decide +kernel

theorem iblk0_0' (t : Fin cfg0.N) (r : Fin 2048) (d : Fin 512) :
    (iblk0 V c 0 t : Mat 2048 512) (ix2 r d) = (V c main_v0 : Mat 2048 1024) (ix2 r (cut (g := 2) (w := 512) rfl (grid0.coords t 0) d)) := by
  blk_simp [iblk0]
  refine congrArg (V c main_v0) ?_
  blk_ext [index0_0]
  try rfl
theorem iblk0_1' (t : Fin cfg0.N) (r : Fin 2048) (d : Fin 1024) :
    (iblk0 V c 1 t : Mat 2048 1024) (ix2 r d) = (V c main_v1 : Mat 2048 1024) (ix2 r d) := by
  blk_simp [iblk0]
  refine congrArg (V c main_v1) ?_
  blk_ext [index0_1]
  try rfl

theorem emb0 (t : Fin cfg0.N) (k : Fin 512) (j : Fin 1024) :
    ((cfg0.win 2).blk t).view.emb (ix2 k j) = ix2 (cut (g := 2) (w := 512) rfl (grid0.coords t 0) k) j := by
  blk_ext [index0_2]
  all_goals first | omega | rfl

/-- What the call leaves. -/
theorem arr0 (k : Fin 1024) (j : Fin 1024) : ((dat0 V c).arrAt 2 cfg0.N : Mat 1024 1024) (ix2 k j)
    = grad (V c main_v0 : Mat 2048 1024) (V c main_v1 : Mat 2048 1024) k j := by
  refine (dat0 V c).arrAt_forall_of_covers 2 (fun i v => v = (fun (k : Fin 1024) (j : Fin 1024) =>
      grad (V c main_v0 : Mat 2048 1024) (V c main_v1 : Mat 2048 1024) k j) (i 0) (i 1))
    (by decide +kernel) (fun t hf y => ?_) (ix2 k j)
  blk_simp
  rw [after0_2]
  idx_vars y
  rw [emb0 t y0 y1]
  refine (blk0 _ _ y0 y1).trans ?_
  exact Finset.sum_congr rfl fun s _ => congrArg₂ (· * ·) (iblk0_0' V c t s y0) (iblk0_1' V c t s y1)

/-! ## Call 1: the embedding's input product -/

theorem ld1_0 (v : Vec Ideal S2048x256 .bf16) : View.ld v r1_0 = v := funext fun i => by
  rw [eq_ix2 i]
  pointwise
theorem ld1_1 (v : Vec Ideal S2048x256 .bf16) : View.ld v r1_0 = v := funext fun i => by
  rw [eq_ix2 i]
  pointwise

theorem pay1 (v0 : Vec Ideal S2048x256 .bf16) (v1 : Vec Ideal S2048x256 .bf16) (k : Fin 256) (j : Fin 256) :
    k1_pay1 (F := Ideal) v0 v1 (ix3 0 k j) = grad (K := 256) (N := 256) v0 v1 k j := by
  pointwise [k1_pay1]
  rfl

theorem blk1 (v0 : Vec Ideal S2048x256 .bf16) (v1 : Vec Ideal S2048x256 .bf16) (k : Fin 256) (j : Fin 256) :
    out1_2 (F := Ideal) v0 v1 (ix3 0 k j) = grad (K := 256) (N := 256) v0 v1 k j := by
  unfold out1_2
  rw [View.canon_unit_zero (by decide), ld1_0, ld1_1]
  exact pay1 v0 v1 k j

theorem index1_0 : ∀ t : Fin cfg1.N, win1_0.index t = ![0, 0] := by decide +kernel
theorem index1_1 : ∀ t : Fin cfg1.N, win1_1.index t = ![0, (grid1.coords t 1).val] := by decide +kernel
theorem index1_2 : ∀ t : Fin cfg1.N, win1_2.index t = ![(grid1.coords t 1).val, 0, 0] := by decide +kernel

theorem iblk1_0' (t : Fin cfg1.N) (r : Fin 2048) (d : Fin 256) :
    (iblk1 V c 0 t : Mat 2048 256) (ix2 r d) = (V c main_v2 : Mat 2048 256) (ix2 r d) := by
  blk_simp [iblk1]
  refine congrArg (V c main_v2) ?_
  blk_ext [index1_0]
  try rfl
theorem iblk1_1' (t : Fin cfg1.N) (r : Fin 2048) (d : Fin 256) :
    (iblk1 V c 1 t : Mat 2048 256) (ix2 r d) = (V c main_v3 : Mat 2048 1024) (ix2 r (cut (g := 4) (w := 256) rfl (grid1.coords t 1) d)) := by
  blk_simp [iblk1]
  refine congrArg (V c main_v3) ?_
  blk_ext [index1_1]
  try rfl

theorem emb1 (t : Fin cfg1.N) (q : Fin 1) (k : Fin 256) (j : Fin 256) :
    ((cfg1.win 2).blk t).view.emb (ix3 q k j) = ix3 (grid1.coords t 1) k j := by
  have hq := q.isLt
  blk_ext [index1_2]
  all_goals first | omega | rfl

/-- What the call leaves. -/
theorem arr1 (q : Fin 4) (k : Fin 256) (j : Fin 256) : ((dat1 V c).arrAt 2 cfg1.N : Mats 256 256) (ix3 q k j)
    = grad (V c main_v2 : Mat 2048 256) (V c main_v3 : Mat 2048 1024) k (cut (g := 4) (w := 256) rfl q j) := by
  refine (dat1 V c).arrAt_forall_of_covers 2 (fun i v => v = (fun (q : Fin 4) (k : Fin 256) (j : Fin 256) =>
      grad (V c main_v2 : Mat 2048 256) (V c main_v3 : Mat 2048 1024) k (cut (g := 4) (w := 256) rfl q j)) (i 0) (i 1) (i 2))
    (by decide +kernel) (fun t hf y => ?_) (ix3 q k j)
  blk_simp
  rw [after1_2]
  idx_vars y
  rw [emb1 t y0 y1 y2]
  have hy : y0 = 0 := Subsingleton.elim _ _
  subst hy
  refine (blk1 _ _ y1 y2).trans ?_
  show _ = grad _ _ y1 (cut (g := 4) (w := 256) rfl (grid1.coords t 1) y2)
  exact Finset.sum_congr rfl fun s _ => congrArg₂ (· * ·) (iblk1_0' V c t s y1) (iblk1_1' V c t s y2)

/-! ## Call 2: the mixer's output product -/

theorem ld2_0 (v : Vec Ideal S2048x512 .bf16) : View.ld v r2_0 = v := funext fun i => by
  rw [eq_ix2 i]
  pointwise
theorem ld2_1 (v : Vec Ideal S2048x1024 .bf16) : View.ld v r2_1 = v := funext fun i => by
  rw [eq_ix2 i]
  pointwise

theorem pay2 (v0 : Vec Ideal S2048x512 .bf16) (v1 : Vec Ideal S2048x1024 .bf16) (k : Fin 512) (j : Fin 1024) :
    k2_pay1 (F := Ideal) v0 v1 (ix2 k j) = grad (K := 512) (N := 1024) v0 v1 k j := by
  pointwise [k2_pay1]
  rfl

theorem blk2 (v0 : Vec Ideal S2048x512 .bf16) (v1 : Vec Ideal S2048x1024 .bf16) (k : Fin 512) (j : Fin 1024) :
    out2_2 (F := Ideal) v0 v1 (ix2 k j) = grad (K := 512) (N := 1024) v0 v1 k j := by
  unfold out2_2
  rw [View.canon_unit_zero (by decide), ld2_0, ld2_1]
  exact pay2 v0 v1 k j

theorem index2_0 : ∀ t : Fin cfg2.N, win2_0.index t = ![0, (grid2.coords t 0).val] := by decide +kernel
theorem index2_1 : ∀ t : Fin cfg2.N, win2_1.index t = ![0, 0] := by decide +kernel
theorem index2_2 : ∀ t : Fin cfg2.N, win2_2.index t = ![(grid2.coords t 0).val, 0] := by decide +kernel

theorem iblk2_0' (t : Fin cfg2.N) (r : Fin 2048) (d : Fin 512) :
    (iblk2 V c 0 t : Mat 2048 512) (ix2 r d) = (V c main_v4 : Mat 2048 1024) (ix2 r (cut (g := 2) (w := 512) rfl (grid2.coords t 0) d)) := by
  blk_simp [iblk2]
  refine congrArg (V c main_v4) ?_
  blk_ext [index2_0]
  try rfl
theorem iblk2_1' (t : Fin cfg2.N) (r : Fin 2048) (d : Fin 1024) :
    (iblk2 V c 1 t : Mat 2048 1024) (ix2 r d) = (V c main_v5 : Mat 2048 1024) (ix2 r d) := by
  blk_simp [iblk2]
  refine congrArg (V c main_v5) ?_
  blk_ext [index2_1]
  try rfl

theorem emb2 (t : Fin cfg2.N) (k : Fin 512) (j : Fin 1024) :
    ((cfg2.win 2).blk t).view.emb (ix2 k j) = ix2 (cut (g := 2) (w := 512) rfl (grid2.coords t 0) k) j := by
  blk_ext [index2_2]
  all_goals first | omega | rfl

/-- What the call leaves. -/
theorem arr2 (k : Fin 1024) (j : Fin 1024) : ((dat2 V c).arrAt 2 cfg2.N : Mat 1024 1024) (ix2 k j)
    = grad (V c main_v4 : Mat 2048 1024) (V c main_v5 : Mat 2048 1024) k j := by
  refine (dat2 V c).arrAt_forall_of_covers 2 (fun i v => v = (fun (k : Fin 1024) (j : Fin 1024) =>
      grad (V c main_v4 : Mat 2048 1024) (V c main_v5 : Mat 2048 1024) k j) (i 0) (i 1))
    (by decide +kernel) (fun t hf y => ?_) (ix2 k j)
  blk_simp
  rw [after2_2]
  idx_vars y
  rw [emb2 t y0 y1]
  refine (blk2 _ _ y0 y1).trans ?_
  exact Finset.sum_congr rfl fun s _ => congrArg₂ (· * ·) (iblk2_0' V c t s y0) (iblk2_1' V c t s y1)

/-! ## Call 3: the state space's output gate -/

theorem ld3_0 (v : Vec Ideal S2048x512 .bf16) : View.ld v r3_0 = v := funext fun i => by
  rw [eq_ix2 i]
  pointwise
theorem ld3_1 (v : Vec Ideal S2048x512 .bf16) : View.ld v r3_0 = v := funext fun i => by
  rw [eq_ix2 i]
  pointwise

theorem pay3 (v0 : Vec Ideal S2048x512 .bf16) (v1 : Vec Ideal S2048x512 .bf16) (k : Fin 512) (j : Fin 512) :
    k3_pay1 (F := Ideal) v0 v1 (ix3 0 k j) = grad (K := 512) (N := 512) v0 v1 k j := by
  pointwise [k3_pay1]
  rfl

theorem blk3 (v0 : Vec Ideal S2048x512 .bf16) (v1 : Vec Ideal S2048x512 .bf16) (k : Fin 512) (j : Fin 512) :
    out3_2 (F := Ideal) v0 v1 (ix3 0 k j) = grad (K := 512) (N := 512) v0 v1 k j := by
  unfold out3_2
  rw [View.canon_unit_zero (by decide), ld3_0, ld3_1]
  exact pay3 v0 v1 k j

theorem index3_0 : ∀ t : Fin cfg3.N, win3_0.index t = ![0, 0] := by decide +kernel
theorem index3_1 : ∀ t : Fin cfg3.N, win3_1.index t = ![0, (grid3.coords t 1).val] := by decide +kernel
theorem index3_2 : ∀ t : Fin cfg3.N, win3_2.index t = ![(grid3.coords t 1).val, 0, 0] := by decide +kernel

theorem iblk3_0' (t : Fin cfg3.N) (r : Fin 2048) (d : Fin 512) :
    (iblk3 V c 0 t : Mat 2048 512) (ix2 r d) = (V c main_v6 : Mat 2048 512) (ix2 r d) := by
  blk_simp [iblk3]
  refine congrArg (V c main_v6) ?_
  blk_ext [index3_0]
  try rfl
theorem iblk3_1' (t : Fin cfg3.N) (r : Fin 2048) (d : Fin 512) :
    (iblk3 V c 1 t : Mat 2048 512) (ix2 r d) = (V c main_v7 : Mat 2048 2048) (ix2 r (cut (g := 4) (w := 512) rfl (grid3.coords t 1) d)) := by
  blk_simp [iblk3]
  refine congrArg (V c main_v7) ?_
  blk_ext [index3_1]
  try rfl

theorem emb3 (t : Fin cfg3.N) (q : Fin 1) (k : Fin 512) (j : Fin 512) :
    ((cfg3.win 2).blk t).view.emb (ix3 q k j) = ix3 (grid3.coords t 1) k j := by
  have hq := q.isLt
  blk_ext [index3_2]
  all_goals first | omega | rfl

/-- What the call leaves. -/
theorem arr3 (q : Fin 4) (k : Fin 512) (j : Fin 512) : ((dat3 V c).arrAt 2 cfg3.N : Mats 512 512) (ix3 q k j)
    = grad (V c main_v6 : Mat 2048 512) (V c main_v7 : Mat 2048 2048) k (cut (g := 4) (w := 512) rfl q j) := by
  refine (dat3 V c).arrAt_forall_of_covers 2 (fun i v => v = (fun (q : Fin 4) (k : Fin 512) (j : Fin 512) =>
      grad (V c main_v6 : Mat 2048 512) (V c main_v7 : Mat 2048 2048) k (cut (g := 4) (w := 512) rfl q j)) (i 0) (i 1) (i 2))
    (by decide +kernel) (fun t hf y => ?_) (ix3 q k j)
  blk_simp
  rw [after3_2]
  idx_vars y
  rw [emb3 t y0 y1 y2]
  have hy : y0 = 0 := Subsingleton.elim _ _
  subst hy
  refine (blk3 _ _ y1 y2).trans ?_
  show _ = grad _ _ y1 (cut (g := 4) (w := 512) rfl (grid3.coords t 1) y2)
  exact Finset.sum_congr rfl fun s _ => congrArg₂ (· * ·) (iblk3_0' V c t s y1) (iblk3_1' V c t s y2)

/-! ## Call 4: the convolution's output product -/

theorem ld4_0 (v : Vec Ideal S2048x512 .bf16) : View.ld v r4_0 = v := funext fun i => by
  rw [eq_ix2 i]
  pointwise
theorem ld4_1 (v : Vec Ideal S2048x256 .bf16) : View.ld v r4_1 = v := funext fun i => by
  rw [eq_ix2 i]
  pointwise

theorem pay4 (v0 : Vec Ideal S2048x512 .bf16) (v1 : Vec Ideal S2048x256 .bf16) (k : Fin 512) (j : Fin 256) :
    k4_pay1 (F := Ideal) v0 v1 (ix3 0 k j) = grad (K := 512) (N := 256) v0 v1 k j := by
  pointwise [k4_pay1]
  rfl

theorem blk4 (v0 : Vec Ideal S2048x512 .bf16) (v1 : Vec Ideal S2048x256 .bf16) (k : Fin 512) (j : Fin 256) :
    out4_2 (F := Ideal) v0 v1 (ix3 0 k j) = grad (K := 512) (N := 256) v0 v1 k j := by
  unfold out4_2
  rw [View.canon_unit_zero (by decide), ld4_0, ld4_1]
  exact pay4 v0 v1 k j

theorem index4_0 : ∀ t : Fin cfg4.N, win4_0.index t = ![0, 0] := by decide +kernel
theorem index4_1 : ∀ t : Fin cfg4.N, win4_1.index t = ![0, (grid4.coords t 1).val] := by decide +kernel
theorem index4_2 : ∀ t : Fin cfg4.N, win4_2.index t = ![(grid4.coords t 1).val, 0, 0] := by decide +kernel

theorem iblk4_0' (t : Fin cfg4.N) (r : Fin 2048) (d : Fin 512) :
    (iblk4 V c 0 t : Mat 2048 512) (ix2 r d) = (V c main_v8 : Mat 2048 512) (ix2 r d) := by
  blk_simp [iblk4]
  refine congrArg (V c main_v8) ?_
  blk_ext [index4_0]
  try rfl
theorem iblk4_1' (t : Fin cfg4.N) (r : Fin 2048) (d : Fin 256) :
    (iblk4 V c 1 t : Mat 2048 256) (ix2 r d) = (V c main_v9 : Mat 2048 1024) (ix2 r (cut (g := 4) (w := 256) rfl (grid4.coords t 1) d)) := by
  blk_simp [iblk4]
  refine congrArg (V c main_v9) ?_
  blk_ext [index4_1]
  try rfl

theorem emb4 (t : Fin cfg4.N) (q : Fin 1) (k : Fin 512) (j : Fin 256) :
    ((cfg4.win 2).blk t).view.emb (ix3 q k j) = ix3 (grid4.coords t 1) k j := by
  have hq := q.isLt
  blk_ext [index4_2]
  all_goals first | omega | rfl

/-- What the call leaves. -/
theorem arr4 (q : Fin 4) (k : Fin 512) (j : Fin 256) : ((dat4 V c).arrAt 2 cfg4.N : Mats 512 256) (ix3 q k j)
    = grad (V c main_v8 : Mat 2048 512) (V c main_v9 : Mat 2048 1024) k (cut (g := 4) (w := 256) rfl q j) := by
  refine (dat4 V c).arrAt_forall_of_covers 2 (fun i v => v = (fun (q : Fin 4) (k : Fin 512) (j : Fin 256) =>
      grad (V c main_v8 : Mat 2048 512) (V c main_v9 : Mat 2048 1024) k (cut (g := 4) (w := 256) rfl q j)) (i 0) (i 1) (i 2))
    (by decide +kernel) (fun t hf y => ?_) (ix3 q k j)
  blk_simp
  rw [after4_2]
  idx_vars y
  rw [emb4 t y0 y1 y2]
  have hy : y0 = 0 := Subsingleton.elim _ _
  subst hy
  refine (blk4 _ _ y1 y2).trans ?_
  show _ = grad _ _ y1 (cut (g := 4) (w := 256) rfl (grid4.coords t 1) y2)
  exact Finset.sum_congr rfl fun s _ => congrArg₂ (· * ·) (iblk4_0' V c t s y1) (iblk4_1' V c t s y2)

/-! ## Call 5: the mixer's input product -/

theorem ld5_0 (v : Vec Ideal S2048x512 .bf16) : View.ld v r5_0 = v := funext fun i => by
  rw [eq_ix2 i]
  pointwise
theorem ld5_1 (v : Vec Ideal S2048x1024 .bf16) : View.ld v r5_1 = v := funext fun i => by
  rw [eq_ix2 i]
  pointwise

theorem pay5 (v0 : Vec Ideal S2048x512 .bf16) (v1 : Vec Ideal S2048x1024 .bf16) (k : Fin 512) (j : Fin 1024) :
    k5_pay1 (F := Ideal) v0 v1 (ix3 0 k j) = grad (K := 512) (N := 1024) v0 v1 k j := by
  pointwise [k5_pay1]
  rfl

theorem blk5 (v0 : Vec Ideal S2048x512 .bf16) (v1 : Vec Ideal S2048x1024 .bf16) (k : Fin 512) (j : Fin 1024) :
    out5_2 (F := Ideal) v0 v1 (ix3 0 k j) = grad (K := 512) (N := 1024) v0 v1 k j := by
  unfold out5_2
  rw [View.canon_unit_zero (by decide), ld5_0, ld5_1]
  exact pay5 v0 v1 k j

theorem index5_0 : ∀ t : Fin cfg5.N, win5_0.index t = ![0, (grid5.coords t 0).val] := by decide +kernel
theorem index5_1 : ∀ t : Fin cfg5.N, win5_1.index t = ![0, (grid5.coords t 1).val] := by decide +kernel
theorem index5_2 : ∀ t : Fin cfg5.N, win5_2.index t = ![(grid5.coords t 1).val, (grid5.coords t 0).val, 0] := by decide +kernel

theorem iblk5_0' (t : Fin cfg5.N) (r : Fin 2048) (d : Fin 512) :
    (iblk5 V c 0 t : Mat 2048 512) (ix2 r d) = (V c main_v10 : Mat 2048 1024) (ix2 r (cut (g := 2) (w := 512) rfl (grid5.coords t 0) d)) := by
  blk_simp [iblk5]
  refine congrArg (V c main_v10) ?_
  blk_ext [index5_0]
  try rfl
theorem iblk5_1' (t : Fin cfg5.N) (r : Fin 2048) (d : Fin 1024) :
    (iblk5 V c 1 t : Mat 2048 1024) (ix2 r d) = (V c main_v11 : Mat 2048 4096) (ix2 r (cut (g := 4) (w := 1024) rfl (grid5.coords t 1) d)) := by
  blk_simp [iblk5]
  refine congrArg (V c main_v11) ?_
  blk_ext [index5_1]
  try rfl

theorem emb5 (t : Fin cfg5.N) (q : Fin 1) (k : Fin 512) (j : Fin 1024) :
    ((cfg5.win 2).blk t).view.emb (ix3 q k j) = ix3 (grid5.coords t 1) (cut (g := 2) (w := 512) rfl (grid5.coords t 0) k) j := by
  have hq := q.isLt
  blk_ext [index5_2]
  all_goals first | omega | rfl

/-- What the call leaves. -/
theorem arr5 (q : Fin 4) (k : Fin 1024) (j : Fin 1024) : ((dat5 V c).arrAt 2 cfg5.N : Mats 1024 1024) (ix3 q k j)
    = grad (V c main_v10 : Mat 2048 1024) (V c main_v11 : Mat 2048 4096) k (cut (g := 4) (w := 1024) rfl q j) := by
  refine (dat5 V c).arrAt_forall_of_covers 2 (fun i v => v = (fun (q : Fin 4) (k : Fin 1024) (j : Fin 1024) =>
      grad (V c main_v10 : Mat 2048 1024) (V c main_v11 : Mat 2048 4096) k (cut (g := 4) (w := 1024) rfl q j)) (i 0) (i 1) (i 2))
    (by decide +kernel) (fun t hf y => ?_) (ix3 q k j)
  blk_simp
  rw [after5_2]
  idx_vars y
  rw [emb5 t y0 y1 y2]
  have hy : y0 = 0 := Subsingleton.elim _ _
  subst hy
  refine (blk5 _ _ y1 y2).trans ?_
  show _ = grad _ _ (cut (g := 2) (w := 512) rfl (grid5.coords t 0) y1) (cut (g := 4) (w := 1024) rfl (grid5.coords t 1) y2)
  exact Finset.sum_congr rfl fun s _ => congrArg₂ (· * ·) (iblk5_0' V c t s y1) (iblk5_1' V c t s y2)

end Cert.Kernel3Ideal.Weights

end
-- ==== Proof.Weights.Result.lean ====
module

public import proofs.«01_k».proof.Proof.Weights.Value
public import Idealize.ShloMosaic.Lib.StableHlo.ReadAt

/-! The six results of the run, from what the calls leave and what the host lays out before and after them. -/

@[expose] public section

set_option maxRecDepth 16384

noncomputable section

namespace Cert.Kernel3Ideal.Weights

open Idealize.ShloMosaic Idealize.ShloMosaic.TcCoe Cert.Kernel3Ideal.Gen

variable (m : (ℓ : Loc nD τ sig) → Buf (Elt Ideal) ℓ) (ρ : Dev nD → PrngReg) (c : Dev nD)

theorem cut_div {w n : ℕ} (h : n = 4 * w) (k : Fin n) (h₁ h₂) : cut (g := 4) (w := w) h ⟨k.val / w, h₁⟩ ⟨k.val % w, h₂⟩ = k :=
  Fin.ext (Nat.div_add_mod' k.val w)

/-! ## What the host prepares -/

theorem w1_0 : (W1 m ρ c (Proc.devRef .tc main_v0) : Mat 2048 1024) = m ((c : Thread nD τ).loc main_arg0) := funext fun i => by
  rw [eq_ix2 i]
  show StableHlo.after hostOps0 (W0 m ρ c) (Proc.devRef .tc main_v0) (ix2 (i 0) (i 1)) = _
  after_reads_at

theorem w1_1 : (W1 m ρ c (Proc.devRef .tc main_v1) : Mat 2048 1024) = m ((c : Thread nD τ).loc main_arg1) := funext fun i => by
  rw [eq_ix2 i]
  show StableHlo.after hostOps0 (W0 m ρ c) (Proc.devRef .tc main_v1) (ix2 (i 0) (i 1)) = _
  after_reads_at

theorem w1_2 : (W1 m ρ c (Proc.devRef .tc main_v2) : Mat 2048 256) = m ((c : Thread nD τ).loc main_arg2) := funext fun i => by
  rw [eq_ix2 i]
  show StableHlo.after hostOps0 (W0 m ρ c) (Proc.devRef .tc main_v2) (ix2 (i 0) (i 1)) = _
  after_reads_at

theorem w1_3 : (W1 m ρ c (Proc.devRef .tc main_v3) : Mat 2048 1024) = m ((c : Thread nD τ).loc main_arg3) := funext fun i => by
  rw [eq_ix2 i]
  show StableHlo.after hostOps0 (W0 m ρ c) (Proc.devRef .tc main_v3) (ix2 (i 0) (i 1)) = _
  after_reads_at

theorem w1_4 : (W1 m ρ c (Proc.devRef .tc main_v4) : Mat 2048 1024) = m ((c : Thread nD τ).loc main_arg4) := funext fun i => by
  rw [eq_ix2 i]
  show StableHlo.after hostOps0 (W0 m ρ c) (Proc.devRef .tc main_v4) (ix2 (i 0) (i 1)) = _
  after_reads_at

theorem w1_5 : (W1 m ρ c (Proc.devRef .tc main_v5) : Mat 2048 1024) = m ((c : Thread nD τ).loc main_arg5) := funext fun i => by
  rw [eq_ix2 i]
  show StableHlo.after hostOps0 (W0 m ρ c) (Proc.devRef .tc main_v5) (ix2 (i 0) (i 1)) = _
  after_reads_at

theorem w1_6 : (W1 m ρ c (Proc.devRef .tc main_v6) : Mat 2048 512) = m ((c : Thread nD τ).loc main_arg6) := funext fun i => by
  rw [eq_ix2 i]
  show StableHlo.after hostOps0 (W0 m ρ c) (Proc.devRef .tc main_v6) (ix2 (i 0) (i 1)) = _
  after_reads_at

theorem w1_7 : (W1 m ρ c (Proc.devRef .tc main_v7) : Mat 2048 2048) = m ((c : Thread nD τ).loc main_arg7) := funext fun i => by
  rw [eq_ix2 i]
  show StableHlo.after hostOps0 (W0 m ρ c) (Proc.devRef .tc main_v7) (ix2 (i 0) (i 1)) = _
  after_reads_at

theorem w1_8 : (W1 m ρ c (Proc.devRef .tc main_v8) : Mat 2048 512) = m ((c : Thread nD τ).loc main_arg8) := funext fun i => by
  rw [eq_ix2 i]
  show StableHlo.after hostOps0 (W0 m ρ c) (Proc.devRef .tc main_v8) (ix2 (i 0) (i 1)) = _
  after_reads_at

theorem w1_9 : (W1 m ρ c (Proc.devRef .tc main_v9) : Mat 2048 1024) = m ((c : Thread nD τ).loc main_arg9) := funext fun i => by
  rw [eq_ix2 i]
  show StableHlo.after hostOps0 (W0 m ρ c) (Proc.devRef .tc main_v9) (ix2 (i 0) (i 1)) = _
  after_reads_at

theorem w1_10 : (W1 m ρ c (Proc.devRef .tc main_v10) : Mat 2048 1024) = m ((c : Thread nD τ).loc main_arg10) := funext fun i => by
  rw [eq_ix2 i]
  show StableHlo.after hostOps0 (W0 m ρ c) (Proc.devRef .tc main_v10) (ix2 (i 0) (i 1)) = _
  after_reads_at

theorem w1_11 : (W1 m ρ c (Proc.devRef .tc main_v11) : Mat 2048 4096) = m ((c : Thread nD τ).loc main_arg11) := funext fun i => by
  rw [eq_ix2 i]
  show StableHlo.after hostOps0 (W0 m ρ c) (Proc.devRef .tc main_v11) (ix2 (i 0) (i 1)) = _
  after_reads_at

/-! ## The results -/

theorem in0_0 : (V1 m ρ c main_v0 : Mat 2048 1024) = m ((c : Thread nD τ).loc main_arg0) :=
  w1_0 m ρ c
theorem in0_1 : (V1 m ρ c main_v1 : Mat 2048 1024) = m ((c : Thread nD τ).loc main_arg1) :=
  w1_1 m ρ c
theorem res0 (k : Fin 1024) (j : Fin 1024) : (W8 m ρ c (Proc.devRef .tc main_v12) : Mat 1024 1024) (ix2 k j) = grad (m ((c : Thread nD τ).loc main_arg0) : Mat 2048 1024) (m ((c : Thread nD τ).loc main_arg1) : Mat 2048 1024) k j := by
  rw [show W8 m ρ c (Proc.devRef .tc main_v12) = _ from (W8_of m ρ c main_v12 (by decide)).trans ((W7_of m ρ c main_v12 (by decide)).trans ((W6_of m ρ c main_v12 (by decide)).trans ((W5_of m ρ c main_v12 (by decide)).trans ((W4_of m ρ c main_v12 (by decide)).trans ((W3_of m ρ c main_v12 (by decide)).trans (W2_arr m ρ c 2))))))]
  refine (arr0 (V1 m ρ) c k j).trans ?_
  rw [in0_0, in0_1]

theorem in1_0 : (V2 m ρ c main_v2 : Mat 2048 256) = m ((c : Thread nD τ).loc main_arg2) :=
  (W2_of m ρ c main_v2 (by decide)).trans (w1_2 m ρ c)
theorem in1_1 : (V2 m ρ c main_v3 : Mat 2048 1024) = m ((c : Thread nD τ).loc main_arg3) :=
  (W2_of m ρ c main_v3 (by decide)).trans (w1_3 m ρ c)
theorem res1 (k : Fin 256) (j : Fin 1024) : (W8 m ρ c (Proc.devRef .tc main_v19) : Mat 256 1024) (ix2 k j) = grad (m ((c : Thread nD τ).loc main_arg2) : Mat 2048 256) (m ((c : Thread nD τ).loc main_arg3) : Mat 2048 1024) k j := by
  show StableHlo.after hostOps6 (W7 m ρ c) (Proc.devRef .tc main_v19) (ix2 k j) = _
  after_reads_at
  rw [show W7 m ρ c (Proc.devRef .tc main_v13) = _ from (W7_of m ρ c main_v13 (by decide)).trans ((W6_of m ρ c main_v13 (by decide)).trans ((W5_of m ρ c main_v13 (by decide)).trans ((W4_of m ρ c main_v13 (by decide)).trans (W3_arr m ρ c 2))))]
  refine (arr1 (V2 m ρ) c _ k _).trans ?_
  rw [in1_0, in1_1, cut_div]

theorem in2_0 : (V3 m ρ c main_v4 : Mat 2048 1024) = m ((c : Thread nD τ).loc main_arg4) :=
  (W3_of m ρ c main_v4 (by decide)).trans ((W2_of m ρ c main_v4 (by decide)).trans (w1_4 m ρ c))
theorem in2_1 : (V3 m ρ c main_v5 : Mat 2048 1024) = m ((c : Thread nD τ).loc main_arg5) :=
  (W3_of m ρ c main_v5 (by decide)).trans ((W2_of m ρ c main_v5 (by decide)).trans (w1_5 m ρ c))
theorem res2 (k : Fin 1024) (j : Fin 1024) : (W8 m ρ c (Proc.devRef .tc main_v14) : Mat 1024 1024) (ix2 k j) = grad (m ((c : Thread nD τ).loc main_arg4) : Mat 2048 1024) (m ((c : Thread nD τ).loc main_arg5) : Mat 2048 1024) k j := by
  rw [show W8 m ρ c (Proc.devRef .tc main_v14) = _ from (W8_of m ρ c main_v14 (by decide)).trans ((W7_of m ρ c main_v14 (by decide)).trans ((W6_of m ρ c main_v14 (by decide)).trans ((W5_of m ρ c main_v14 (by decide)).trans (W4_arr m ρ c 2))))]
  refine (arr2 (V3 m ρ) c k j).trans ?_
  rw [in2_0, in2_1]

theorem in3_0 : (V4 m ρ c main_v6 : Mat 2048 512) = m ((c : Thread nD τ).loc main_arg6) :=
  (W4_of m ρ c main_v6 (by decide)).trans ((W3_of m ρ c main_v6 (by decide)).trans ((W2_of m ρ c main_v6 (by decide)).trans (w1_6 m ρ c)))
theorem in3_1 : (V4 m ρ c main_v7 : Mat 2048 2048) = m ((c : Thread nD τ).loc main_arg7) :=
  (W4_of m ρ c main_v7 (by decide)).trans ((W3_of m ρ c main_v7 (by decide)).trans ((W2_of m ρ c main_v7 (by decide)).trans (w1_7 m ρ c)))
theorem res3 (k : Fin 512) (j : Fin 2048) : (W8 m ρ c (Proc.devRef .tc main_v21) : Mat 512 2048) (ix2 k j) = grad (m ((c : Thread nD τ).loc main_arg6) : Mat 2048 512) (m ((c : Thread nD τ).loc main_arg7) : Mat 2048 2048) k j := by
  show StableHlo.after hostOps6 (W7 m ρ c) (Proc.devRef .tc main_v21) (ix2 k j) = _
  after_reads_at
  rw [show W7 m ρ c (Proc.devRef .tc main_v15) = _ from (W7_of m ρ c main_v15 (by decide)).trans ((W6_of m ρ c main_v15 (by decide)).trans (W5_arr m ρ c 2))]
  refine (arr3 (V4 m ρ) c _ k _).trans ?_
  rw [in3_0, in3_1, cut_div]

theorem in4_0 : (V5 m ρ c main_v8 : Mat 2048 512) = m ((c : Thread nD τ).loc main_arg8) :=
  (W5_of m ρ c main_v8 (by decide)).trans ((W4_of m ρ c main_v8 (by decide)).trans ((W3_of m ρ c main_v8 (by decide)).trans ((W2_of m ρ c main_v8 (by decide)).trans (w1_8 m ρ c))))
theorem in4_1 : (V5 m ρ c main_v9 : Mat 2048 1024) = m ((c : Thread nD τ).loc main_arg9) :=
  (W5_of m ρ c main_v9 (by decide)).trans ((W4_of m ρ c main_v9 (by decide)).trans ((W3_of m ρ c main_v9 (by decide)).trans ((W2_of m ρ c main_v9 (by decide)).trans (w1_9 m ρ c))))
theorem res4 (k : Fin 512) (j : Fin 1024) : (W8 m ρ c (Proc.devRef .tc main_v23) : Mat 512 1024) (ix2 k j) = grad (m ((c : Thread nD τ).loc main_arg8) : Mat 2048 512) (m ((c : Thread nD τ).loc main_arg9) : Mat 2048 1024) k j := by
  show StableHlo.after hostOps6 (W7 m ρ c) (Proc.devRef .tc main_v23) (ix2 k j) = _
  after_reads_at
  rw [show W7 m ρ c (Proc.devRef .tc main_v16) = _ from (W7_of m ρ c main_v16 (by decide)).trans (W6_arr m ρ c 2)]
  refine (arr4 (V5 m ρ) c _ k _).trans ?_
  rw [in4_0, in4_1, cut_div]

theorem in5_0 : (V6 m ρ c main_v10 : Mat 2048 1024) = m ((c : Thread nD τ).loc main_arg10) :=
  (W6_of m ρ c main_v10 (by decide)).trans ((W5_of m ρ c main_v10 (by decide)).trans ((W4_of m ρ c main_v10 (by decide)).trans ((W3_of m ρ c main_v10 (by decide)).trans ((W2_of m ρ c main_v10 (by decide)).trans (w1_10 m ρ c)))))
theorem in5_1 : (V6 m ρ c main_v11 : Mat 2048 4096) = m ((c : Thread nD τ).loc main_arg11) :=
  (W6_of m ρ c main_v11 (by decide)).trans ((W5_of m ρ c main_v11 (by decide)).trans ((W4_of m ρ c main_v11 (by decide)).trans ((W3_of m ρ c main_v11 (by decide)).trans ((W2_of m ρ c main_v11 (by decide)).trans (w1_11 m ρ c)))))
theorem res5 (k : Fin 1024) (j : Fin 4096) : (W8 m ρ c (Proc.devRef .tc main_v25) : Mat 1024 4096) (ix2 k j) = grad (m ((c : Thread nD τ).loc main_arg10) : Mat 2048 1024) (m ((c : Thread nD τ).loc main_arg11) : Mat 2048 4096) k j := by
  show StableHlo.after hostOps6 (W7 m ρ c) (Proc.devRef .tc main_v25) (ix2 k j) = _
  after_reads_at
  rw [show W7 m ρ c (Proc.devRef .tc main_v17) = _ from W7_arr m ρ c 2]
  refine (arr5 (V6 m ρ) c _ k _).trans ?_
  rw [in5_0, in5_1, cut_div]

end Cert.Kernel3Ideal.Weights

end
-- ==== Proof.Weights.Equal.lean ====
module

public import proofs.«01_k».proof.Proof.Weights.Launch
public import proofs.«01_k».proof.Proof.Weights.Result
public import proofs.«01_k».proof.Proof.Gen.Reference3Ideal.Run
public import proofs.«01_k».proof.Defs

/-! The six wsix gradients that the kernel leaves and those of the reference are equal. -/

@[expose] public section

set_option maxRecDepth 16384

noncomputable section

namespace Cert.Reference3Ideal.Value

open Idealize.ShloMosaic Idealize.ShloMosaic.TcCoe Cert.Kernel3Ideal.Weights Cert.Reference3Ideal.Gen

theorem grad0 (x : FVec Ideal S2048x1024 .f32) (y : FVec Ideal S2048x1024 .f32) (k : Fin 1024) (j : Fin 1024) :
    (transpose S1024x1024 [1, 0] (Host.dotGeneral (F := Ideal) dot_S2048x1024_S2048x1024_S1024x1024_0_0_1_1_n_n none y x) transposes_S1024x1024_S1024x1024_1_0) (ix2 k j) = grad (K := 1024) (N := 1024) x y k j := by
  pointwise
  exact Finset.sum_congr rfl fun t _ => mul_comm _ _

theorem grad1 (x : FVec Ideal S2048x256 .f32) (y : FVec Ideal S2048x1024 .f32) (k : Fin 256) (j : Fin 1024) :
    (transpose S256x1024 [1, 0] (Host.dotGeneral (F := Ideal) dot_S2048x1024_S2048x256_S1024x256_0_0_1_1_n_n none y x) transposes_S1024x256_S256x1024_1_0) (ix2 k j) = grad (K := 256) (N := 1024) x y k j := by
  pointwise
  exact Finset.sum_congr rfl fun t _ => mul_comm _ _

theorem grad2 (x : FVec Ideal S2048x1024 .f32) (y : FVec Ideal S2048x1024 .f32) (k : Fin 1024) (j : Fin 1024) :
    (transpose S1024x1024 [1, 0] (Host.dotGeneral (F := Ideal) dot_S2048x1024_S2048x1024_S1024x1024_0_0_1_1_n_n none y x) transposes_S1024x1024_S1024x1024_1_0) (ix2 k j) = grad (K := 1024) (N := 1024) x y k j := by
  pointwise
  exact Finset.sum_congr rfl fun t _ => mul_comm _ _

theorem grad3 (x : FVec Ideal S2048x512 .f32) (y : FVec Ideal S2048x2048 .f32) (k : Fin 512) (j : Fin 2048) :
    (transpose S512x2048 [1, 0] (Host.dotGeneral (F := Ideal) dot_S2048x2048_S2048x512_S2048x512_0_0_1_1_n_n none y x) transposes_S2048x512_S512x2048_1_0) (ix2 k j) = grad (K := 512) (N := 2048) x y k j := by
  pointwise
  exact Finset.sum_congr rfl fun t _ => mul_comm _ _

theorem grad4 (x : FVec Ideal S2048x512 .f32) (y : FVec Ideal S2048x1024 .f32) (k : Fin 512) (j : Fin 1024) :
    (transpose S512x1024 [1, 0] (Host.dotGeneral (F := Ideal) dot_S2048x1024_S2048x512_S1024x512_0_0_1_1_n_n none y x) transposes_S1024x512_S512x1024_1_0) (ix2 k j) = grad (K := 512) (N := 1024) x y k j := by
  pointwise
  exact Finset.sum_congr rfl fun t _ => mul_comm _ _

theorem grad5 (x : FVec Ideal S2048x1024 .f32) (y : FVec Ideal S2048x4096 .f32) (k : Fin 1024) (j : Fin 4096) :
    (transpose S1024x4096 [1, 0] (Host.dotGeneral (F := Ideal) dot_S2048x4096_S2048x1024_S4096x1024_0_0_1_1_n_n none y x) transposes_S4096x1024_S1024x4096_1_0) (ix2 k j) = grad (K := 1024) (N := 4096) x y k j := by
  pointwise
  exact Finset.sum_congr rfl fun t _ => mul_comm _ _

end Cert.Reference3Ideal.Value

namespace Cert.Equal3

open Idealize.ShloMosaic Idealize.ShloMosaic.TcCoe Idealize.SL.Sem Cert.Kernel3Ideal.Weights

/-- The kernel and the reference end with equal gradients, their arguments unchanged. -/
theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Cert.Kernel3Ideal.Gen.W8 m ρ c (Proc.devRef .tc Cert.Kernel3Ideal.main_v12), fun c => Cert.Kernel3Ideal.Gen.W8 m ρ c (Proc.devRef .tc Cert.Kernel3Ideal.main_v19), fun c => Cert.Kernel3Ideal.Gen.W8 m ρ c (Proc.devRef .tc Cert.Kernel3Ideal.main_v14), fun c => Cert.Kernel3Ideal.Gen.W8 m ρ c (Proc.devRef .tc Cert.Kernel3Ideal.main_v21), fun c => Cert.Kernel3Ideal.Gen.W8 m ρ c (Proc.devRef .tc Cert.Kernel3Ideal.main_v23), fun c => Cert.Kernel3Ideal.Gen.W8 m ρ c (Proc.devRef .tc Cert.Kernel3Ideal.main_v25), ?_, ?_⟩
  · refine (θ_run Cert.Kernel3Ideal.defs _ _).mono (fun _ h c => ?_) (θ_run_and (run_main (F := Ideal) m ρ) (frame (F := Ideal) m ρ))
    exact ⟨h.1.1 c _ (Cert.Kernel3Ideal.Gen.mem_uc Cert.Kernel3Ideal.main_v12 (by decide)),
      h.1.1 c _ (Cert.Kernel3Ideal.Gen.mem_uc Cert.Kernel3Ideal.main_v19 (by decide)),
      h.1.1 c _ (Cert.Kernel3Ideal.Gen.mem_uc Cert.Kernel3Ideal.main_v14 (by decide)),
      h.1.1 c _ (Cert.Kernel3Ideal.Gen.mem_uc Cert.Kernel3Ideal.main_v21 (by decide)),
      h.1.1 c _ (Cert.Kernel3Ideal.Gen.mem_uc Cert.Kernel3Ideal.main_v23 (by decide)),
      h.1.1 c _ (Cert.Kernel3Ideal.Gen.mem_uc Cert.Kernel3Ideal.main_v25 (by decide)), h.2.1 c⟩
  · refine (θ_run Cert.Reference3Ideal.defs _ _).mono (fun _ h c => ?_) (Cert.Reference3Ideal.Value.run (F := Ideal) m' ρ')
    obtain ⟨a0, a1, a2, a3, a4, a5, a6, a7, a8, a9, a10, a11⟩ := hag c
    obtain ⟨h0, h1, h2, h3, h4, h5, k⟩ := h c
    refine ⟨h0.trans ?_, h1.trans ?_, h2.trans ?_, h3.trans ?_, h4.trans ?_, h5.trans ?_, k⟩
    · rw [a0, a1]
      exact funext fun i => by
        rw [eq_ix2 i]
        exact (Cert.Reference3Ideal.Value.grad0 _ _ _ _).trans (res0 m ρ c _ _).symm
    · rw [a2, a3]
      exact funext fun i => by
        rw [eq_ix2 i]
        exact (Cert.Reference3Ideal.Value.grad1 _ _ _ _).trans (res1 m ρ c _ _).symm
    · rw [a4, a5]
      exact funext fun i => by
        rw [eq_ix2 i]
        exact (Cert.Reference3Ideal.Value.grad2 _ _ _ _).trans (res2 m ρ c _ _).symm
    · rw [a6, a7]
      exact funext fun i => by
        rw [eq_ix2 i]
        exact (Cert.Reference3Ideal.Value.grad3 _ _ _ _).trans (res3 m ρ c _ _).symm
    · rw [a8, a9]
      exact funext fun i => by
        rw [eq_ix2 i]
        exact (Cert.Reference3Ideal.Value.grad4 _ _ _ _).trans (res4 m ρ c _ _).symm
    · rw [a10, a11]
      exact funext fun i => by
        rw [eq_ix2 i]
        exact (Cert.Reference3Ideal.Value.grad5 _ _ _ _).trans (res5 m ρ c _ _).symm

end Cert.Equal3

end
-- ==== Proof.First.Same.lean ====
module

public import proofs.«01_k».proof.Defs
public import proofs.«01_k».proof.Proof.Gen.Kernel4
public import proofs.«01_k».proof.Proof.Gen.Kernel4Ideal
public import proofs.«01_k».proof.Proof.Gen.KernelIdeal

/-! The first feed-forward sublayer's calls are the second's at the same shapes: the two programs' body tables and texts are equal, at words
and over the extended reals. -/

@[expose] public section

set_option maxHeartbeats 0
set_option maxRecDepth 65536

namespace Cert.Same4

open Idealize.ShloMosaic

theorem fwd : @Cert.Kernel4.cc0_ffn1_fwd Bits _ Cert.Kernel4.Gen.facts = @Cert.KernelIdeal.cc0_ffn2_fwd Bits _ Cert.KernelIdeal.Gen.facts := rfl
theorem bwd : @Cert.Kernel4.cc1_ffn1_bwd Bits _ Cert.Kernel4.Gen.facts = @Cert.KernelIdeal.cc1_ffn2_bwd Bits _ Cert.KernelIdeal.Gen.facts := rfl
theorem dw_in : @Cert.Kernel4.cc2_dw_ffn1_in Bits _ Cert.Kernel4.Gen.facts = @Cert.KernelIdeal.cc2_dw_ffn2_in Bits _ Cert.KernelIdeal.Gen.facts := rfl
theorem dw_out : @Cert.Kernel4.cc3_dw_ffn1_out Bits _ Cert.Kernel4.Gen.facts = @Cert.KernelIdeal.cc3_dw_ffn2_out Bits _ Cert.KernelIdeal.Gen.facts := rfl

/-- The kernels' table, at words. -/
theorem bodies : @Cert.Kernel4.defs₀ Bits _ Cert.Kernel4.Gen.facts = @Cert.KernelIdeal.defs₀ Bits _ Cert.KernelIdeal.Gen.facts := by
  unfold Cert.Kernel4.defs₀ Cert.KernelIdeal.defs₀
  rw [fwd, bwd, dw_in, dw_out]
  refine congrArg Defs.onTc ?_
  funext l a
  match l, a with
  | 0, (t, s) => rfl
  | 1, (t, s) => rfl
  | 2, (t, s) => rfl
  | 3, (t, s) => rfl
  | ⟨n + 4, h⟩, _ => exact absurd h (Nat.not_lt.2 (Nat.le_add_left _ _))

/-- The whole table, at words. -/
theorem table : @Cert.Kernel4.defs Bits _ Cert.Kernel4.Gen.facts = @Cert.KernelIdeal.defs Bits _ Cert.KernelIdeal.Gen.facts := by
  show Pipeline.defs (@Cert.Kernel4.pcfgs Bits Cert.Kernel4.Gen.facts) (@Cert.Kernel4.defs₀ Bits _ Cert.Kernel4.Gen.facts)
    = Pipeline.defs (@Cert.KernelIdeal.pcfgs Bits Cert.KernelIdeal.Gen.facts) (@Cert.KernelIdeal.defs₀ Bits _ Cert.KernelIdeal.Gen.facts)
  rw [bodies]
  rfl

set_option maxRecDepth 65536 in
set_option maxHeartbeats 0 in
/-- The program text, at words. -/
theorem text : @Cert.Kernel4.main Bits _ Cert.Kernel4.Gen.facts = @Cert.KernelIdeal.main Bits _ Cert.KernelIdeal.Gen.facts := rfl

end Cert.Same4

namespace Cert.Same4Ideal

open Idealize.ShloMosaic

theorem fwd : @Cert.Kernel4Ideal.cc0_ffn1_fwd Ideal _ Cert.Kernel4Ideal.Gen.facts = @Cert.KernelIdeal.cc0_ffn2_fwd Ideal _ Cert.KernelIdeal.Gen.facts := rfl
theorem bwd : @Cert.Kernel4Ideal.cc1_ffn1_bwd Ideal _ Cert.Kernel4Ideal.Gen.facts = @Cert.KernelIdeal.cc1_ffn2_bwd Ideal _ Cert.KernelIdeal.Gen.facts := rfl
theorem dw_in : @Cert.Kernel4Ideal.cc2_dw_ffn1_in Ideal _ Cert.Kernel4Ideal.Gen.facts = @Cert.KernelIdeal.cc2_dw_ffn2_in Ideal _ Cert.KernelIdeal.Gen.facts := rfl
theorem dw_out : @Cert.Kernel4Ideal.cc3_dw_ffn1_out Ideal _ Cert.Kernel4Ideal.Gen.facts = @Cert.KernelIdeal.cc3_dw_ffn2_out Ideal _ Cert.KernelIdeal.Gen.facts := rfl

/-- The kernels' table, over the extended reals. -/
theorem bodies : @Cert.Kernel4Ideal.defs₀ Ideal _ Cert.Kernel4Ideal.Gen.facts = @Cert.KernelIdeal.defs₀ Ideal _ Cert.KernelIdeal.Gen.facts := by
  unfold Cert.Kernel4Ideal.defs₀ Cert.KernelIdeal.defs₀
  rw [fwd, bwd, dw_in, dw_out]
  refine congrArg Defs.onTc ?_
  funext l a
  match l, a with
  | 0, (t, s) => rfl
  | 1, (t, s) => rfl
  | 2, (t, s) => rfl
  | 3, (t, s) => rfl
  | ⟨n + 4, h⟩, _ => exact absurd h (Nat.not_lt.2 (Nat.le_add_left _ _))

/-- The whole table, over the extended reals. -/
theorem table : @Cert.Kernel4Ideal.defs Ideal _ Cert.Kernel4Ideal.Gen.facts = @Cert.KernelIdeal.defs Ideal _ Cert.KernelIdeal.Gen.facts := by
  show Pipeline.defs (@Cert.Kernel4Ideal.pcfgs Ideal Cert.Kernel4Ideal.Gen.facts) (@Cert.Kernel4Ideal.defs₀ Ideal _ Cert.Kernel4Ideal.Gen.facts)
    = Pipeline.defs (@Cert.KernelIdeal.pcfgs Ideal Cert.KernelIdeal.Gen.facts) (@Cert.KernelIdeal.defs₀ Ideal _ Cert.KernelIdeal.Gen.facts)
  rw [bodies]
  rfl

set_option maxRecDepth 65536 in
set_option maxHeartbeats 0 in
/-- The program text, over the extended reals. -/
theorem text : @Cert.Kernel4Ideal.main Ideal _ Cert.Kernel4Ideal.Gen.facts = @Cert.KernelIdeal.main Ideal _ Cert.KernelIdeal.Gen.facts := rfl

end Cert.Same4Ideal
-- ==== Proof.First.Equal.lean ====
module

public import proofs.«01_k».proof.Proof.First.Same
public import proofs.«01_k».proof.Proof.Value.Equal
public import proofs.«01_k».proof.Defs

/-! The first feed-forward sublayer: the claims of the second, whose program it is. -/

@[expose] public section

set_option maxRecDepth 65536

noncomputable section

namespace Cert.Equal4

open Idealize.ShloMosaic Idealize.SL.Sem

set_option maxHeartbeats 0 in
/-- The kernel's arguments end unchanged, at words. -/
theorem frame_bits : Cert.quiescent_Kernel4 (hKernel4 := Cert.Kernel4.Gen.facts) := by
  intro m ρ _
  rw [Cert.Same4.table, Cert.Same4.text]
  exact Cert.KernelIdeal.Run.frame (F := Bits) m ρ

set_option maxHeartbeats 0 in
/-- The kernel's arguments end unchanged, over the extended reals. -/
theorem frame_ideal : Cert.quiescent_Kernel4Ideal (hKernel4Ideal := Cert.Kernel4Ideal.Gen.facts) := by
  intro m ρ _
  rw [Cert.Same4Ideal.table, Cert.Same4Ideal.text]
  exact Cert.KernelIdeal.Run.frame (F := Ideal) m ρ

set_option maxHeartbeats 0 in
/-- The kernel and the reference end with equal results, their arguments unchanged. -/
theorem algebraic : Cert.algebraic_Kernel4Ideal_ReferenceIdeal_pre_finite (hKernel4Ideal := Cert.Kernel4Ideal.Gen.facts)
    (hReferenceIdeal := Cert.ReferenceIdeal.Gen.facts) (hPre_finite := Cert.Pre_finite.Gen.facts) := by
  intro m ρ m' ρ' hpre hag
  rw [Cert.Same4Ideal.table, Cert.Same4Ideal.text]
  exact Cert.Equal.algebraic m ρ m' ρ' hpre hag

end Cert.Equal4

end
-- ==== Proof.Update.Same.lean ====
module

public import proofs.«01_k».proof.Defs
public import proofs.«01_k».proof.Proof.Gen.Kernel5
public import proofs.«01_k».proof.Proof.Gen.Kernel5Ideal

/-! The optimiser's program and its idealization are one program, no operation having been replaced: their body tables are equal. -/

@[expose] public section

set_option maxHeartbeats 0
set_option maxRecDepth 65536

namespace Cert.Same5

open Idealize.ShloMosaic

theorem update : @Cert.Kernel5.cc0_adamw_small Bits _ Cert.Kernel5.Gen.facts = @Cert.Kernel5Ideal.cc0_adamw_small Bits _ Cert.Kernel5Ideal.Gen.facts := rfl

/-- The kernels' table. -/
theorem bodies : @Cert.Kernel5.defs₀ Bits _ Cert.Kernel5.Gen.facts = @Cert.Kernel5Ideal.defs₀ Bits _ Cert.Kernel5Ideal.Gen.facts := by
  unfold Cert.Kernel5.defs₀ Cert.Kernel5Ideal.defs₀
  rw [update]
  refine congrArg Defs.onTc ?_
  funext l a
  match l, a with
  | 0, (t, s) => rfl
  | ⟨n + 1, h⟩, _ => exact absurd h (Nat.not_lt.2 (Nat.le_add_left _ _))

/-- The whole table. -/
theorem table : @Cert.Kernel5.defs Bits _ Cert.Kernel5.Gen.facts = @Cert.Kernel5Ideal.defs Bits _ Cert.Kernel5Ideal.Gen.facts := by
  show Pipeline.defs (@Cert.Kernel5.pcfgs Bits Cert.Kernel5.Gen.facts) (@Cert.Kernel5.defs₀ Bits _ Cert.Kernel5.Gen.facts)
    = Pipeline.defs (@Cert.Kernel5Ideal.pcfgs Bits Cert.Kernel5Ideal.Gen.facts) (@Cert.Kernel5Ideal.defs₀ Bits _ Cert.Kernel5Ideal.Gen.facts)
  rw [bodies]
  rfl

/-- The program text. -/
theorem text : Cert.Kernel5.main (F := Bits) = Cert.Kernel5Ideal.main (F := Bits) := rfl

end Cert.Same5
-- ==== Proof.Update.Equal.lean ====
module

public import proofs.«01_k».proof.Proof.Gen.Kernel5Ideal.Frame
public import proofs.«01_k».proof.Proof.Gen.Reference5Ideal.Run
public import proofs.«01_k».proof.Defs
public import Idealize.ShloMosaic.Lib.Pipeline.ValueKit
public import Idealize.ShloMosaic.Lib.Pointwise

/-! The optimiser's step of the small weights: the kernel's blocks and the reference's arrays are the same function of the elements. -/

@[expose] public section

set_option maxRecDepth 16384

noncomputable section

namespace Cert.Kernel5Ideal.Update

open Idealize.ShloMosaic Idealize.ShloMosaic.TcCoe Cert.Kernel5Ideal.Gen
open Idealize.ShloMosaic.Pipeline (Dat)

/-- A table of two axes. -/
abbrev Mat (a b : ℕ) : Type := (⟨2, ![a, b]⟩ : Shape).Idx → EReal

/-- What the body makes of one element of the weight, the gradient and both moments: the step, and the two new moments. -/
def delta (w g m v : EReal) : EReal := k0_pay4 (F := Ideal) (fun _ => w) (fun _ => g) (fun _ => m) (fun _ => v) (ix2 0 0)
def mean (_w g m _v : EReal) : EReal := k0_pay5 (F := Ideal) (fun _ => g) (fun _ => m) (ix2 0 0)
def square (_w g _m v : EReal) : EReal := k0_pay3 (F := Ideal) (fun _ => g) (fun _ => v) (ix2 0 0)

theorem ld (v : Vec Ideal S16x1024 .f32) : View.ld v r0_0 = v := funext fun i => by
  rw [eq_ix2 i]
  pointwise

/-- Row `r` of tile `i`. -/
def row (i : Fin 9) (r : Fin 16) : Fin 144 := ⟨i.val * 16 + r.val, by have := i.isLt; have := r.isLt; omega⟩

variable (m : (ℓ : Loc nD τ sig) → Buf (Elt Ideal) ℓ) (c : Dev nD)

/-- An argument's table. -/
abbrev arg (b : Ref sig .tc) : Buf (Elt Ideal) ((c : Thread nD τ).loc b) := m ((c : Thread nD τ).loc b)

theorem index_0 : ∀ t : Fin cfg0.N, win0_0.index t = ![(grid0.coords t 0).val, 0] := by decide +kernel
theorem iblk_0 (t : Fin cfg0.N) (r : Fin 16) (k : Fin 1024) :
    (iblk m c 0 t : Mat 16 1024) (ix2 r k) = (arg m c main_arg0 : Mat 144 1024) (ix2 (row (grid0.coords t 0) r) k) := by
  blk_simp [iblk]
  refine congrArg (arg m c main_arg0) ?_
  blk_ext [index_0]
  try rfl

theorem index_1 : ∀ t : Fin cfg0.N, win0_1.index t = ![(grid0.coords t 0).val, 0] := by decide +kernel
theorem iblk_1 (t : Fin cfg0.N) (r : Fin 16) (k : Fin 1024) :
    (iblk m c 1 t : Mat 16 1024) (ix2 r k) = (arg m c main_arg1 : Mat 144 1024) (ix2 (row (grid0.coords t 0) r) k) := by
  blk_simp [iblk]
  refine congrArg (arg m c main_arg1) ?_
  blk_ext [index_1]
  try rfl

theorem index_2 : ∀ t : Fin cfg0.N, win0_2.index t = ![(grid0.coords t 0).val, 0] := by decide +kernel
theorem iblk_2 (t : Fin cfg0.N) (r : Fin 16) (k : Fin 1024) :
    (iblk m c 2 t : Mat 16 1024) (ix2 r k) = (arg m c main_arg2 : Mat 144 1024) (ix2 (row (grid0.coords t 0) r) k) := by
  blk_simp [iblk]
  refine congrArg (arg m c main_arg2) ?_
  blk_ext [index_2]
  try rfl

theorem index_3 : ∀ t : Fin cfg0.N, win0_3.index t = ![(grid0.coords t 0).val, 0] := by decide +kernel
theorem iblk_3 (t : Fin cfg0.N) (r : Fin 16) (k : Fin 1024) :
    (iblk m c 3 t : Mat 16 1024) (ix2 r k) = (arg m c main_arg3 : Mat 144 1024) (ix2 (row (grid0.coords t 0) r) k) := by
  blk_simp [iblk]
  refine congrArg (arg m c main_arg3) ?_
  blk_ext [index_3]
  try rfl

theorem index_4 : ∀ t : Fin cfg0.N, win0_4.index t = ![(grid0.coords t 0).val, 0] := by decide +kernel
theorem emb_4 (t : Fin cfg0.N) (r : Fin 16) (k : Fin 1024) : ((cfg0.win 4).blk t).view.emb (ix2 r k) = ix2 (row (grid0.coords t 0) r) k := by
  blk_ext [index_4]
  try rfl

theorem pay_4 (x0 x1 x2 x3 : Vec Ideal S16x1024 .f32) (r : Fin 16) (k : Fin 1024) :
    (k0_pay4 (F := Ideal) x0 x1 x2 x3) (ix2 r k) = delta (x0 (ix2 r k)) (x1 (ix2 r k)) (x2 (ix2 r k)) (x3 (ix2 r k)) := by
  unfold delta
  pointwise [k0_pay4, k0_pay3, k0_pay2]

theorem blk_4 (x0 x1 x2 x3 : Vec Ideal S16x1024 .f32) (r : Fin 16) (k : Fin 1024) :
    out0_4 (F := Ideal) x0 x1 x2 x3 (ix2 r k) = delta (x0 (ix2 r k)) (x1 (ix2 r k)) (x2 (ix2 r k)) (x3 (ix2 r k)) := by
  unfold out0_4
  rw [View.canon_unit_zero (by decide)]
  simp only [ld]
  exact pay_4 x0 x1 x2 x3 r k

/-- What the call leaves. -/
theorem arr_4 (r : Fin 144) (k : Fin 1024) : ((dats m 0 c).arrAt 4 cfg0.N : Mat 144 1024) (ix2 r k)
    = delta ((arg m c main_arg0 : Mat 144 1024) (ix2 r k)) ((arg m c main_arg1 : Mat 144 1024) (ix2 r k)) ((arg m c main_arg2 : Mat 144 1024) (ix2 r k)) ((arg m c main_arg3 : Mat 144 1024) (ix2 r k)) := by
  refine (dats m 0 c).arrAt_forall_of_covers 4 (fun i v => v = (fun (r : Fin 144) (k : Fin 1024) =>
      delta ((arg m c main_arg0 : Mat 144 1024) (ix2 r k)) ((arg m c main_arg1 : Mat 144 1024) (ix2 r k)) ((arg m c main_arg2 : Mat 144 1024) (ix2 r k)) ((arg m c main_arg3 : Mat 144 1024) (ix2 r k))) (i 0) (i 1)) (by decide +kernel) (fun t hf y => ?_) (ix2 r k)
  blk_simp
  rw [after0_4]
  idx_vars y
  rw [emb_4 t y0 y1]
  refine (blk_4 _ _ _ _ y0 y1).trans ?_
  rw [iblk_0, iblk_1, iblk_2, iblk_3]
  rfl

theorem index_5 : ∀ t : Fin cfg0.N, win0_5.index t = ![(grid0.coords t 0).val, 0] := by decide +kernel
theorem emb_5 (t : Fin cfg0.N) (r : Fin 16) (k : Fin 1024) : ((cfg0.win 5).blk t).view.emb (ix2 r k) = ix2 (row (grid0.coords t 0) r) k := by
  blk_ext [index_5]
  try rfl

theorem pay_5 (x0 x1 x2 x3 : Vec Ideal S16x1024 .f32) (r : Fin 16) (k : Fin 1024) :
    (k0_pay5 (F := Ideal) x1 x2) (ix2 r k) = mean (x0 (ix2 r k)) (x1 (ix2 r k)) (x2 (ix2 r k)) (x3 (ix2 r k)) := by
  unfold mean
  pointwise [k0_pay5, k0_pay2]

theorem blk_5 (x0 x1 x2 x3 : Vec Ideal S16x1024 .f32) (r : Fin 16) (k : Fin 1024) :
    out0_5 (F := Ideal) x0 x1 x2 x3 (ix2 r k) = mean (x0 (ix2 r k)) (x1 (ix2 r k)) (x2 (ix2 r k)) (x3 (ix2 r k)) := by
  unfold out0_5
  rw [View.canon_unit_zero (by decide)]
  simp only [ld]
  exact pay_5 x0 x1 x2 x3 r k

/-- What the call leaves. -/
theorem arr_5 (r : Fin 144) (k : Fin 1024) : ((dats m 0 c).arrAt 5 cfg0.N : Mat 144 1024) (ix2 r k)
    = mean ((arg m c main_arg0 : Mat 144 1024) (ix2 r k)) ((arg m c main_arg1 : Mat 144 1024) (ix2 r k)) ((arg m c main_arg2 : Mat 144 1024) (ix2 r k)) ((arg m c main_arg3 : Mat 144 1024) (ix2 r k)) := by
  refine (dats m 0 c).arrAt_forall_of_covers 5 (fun i v => v = (fun (r : Fin 144) (k : Fin 1024) =>
      mean ((arg m c main_arg0 : Mat 144 1024) (ix2 r k)) ((arg m c main_arg1 : Mat 144 1024) (ix2 r k)) ((arg m c main_arg2 : Mat 144 1024) (ix2 r k)) ((arg m c main_arg3 : Mat 144 1024) (ix2 r k))) (i 0) (i 1)) (by decide +kernel) (fun t hf y => ?_) (ix2 r k)
  blk_simp
  rw [after0_5]
  idx_vars y
  rw [emb_5 t y0 y1]
  refine (blk_5 _ _ _ _ y0 y1).trans ?_
  rw [iblk_0, iblk_1, iblk_2, iblk_3]
  rfl

theorem index_6 : ∀ t : Fin cfg0.N, win0_6.index t = ![(grid0.coords t 0).val, 0] := by decide +kernel
theorem emb_6 (t : Fin cfg0.N) (r : Fin 16) (k : Fin 1024) : ((cfg0.win 6).blk t).view.emb (ix2 r k) = ix2 (row (grid0.coords t 0) r) k := by
  blk_ext [index_6]
  try rfl

theorem pay_6 (x0 x1 x2 x3 : Vec Ideal S16x1024 .f32) (r : Fin 16) (k : Fin 1024) :
    (k0_pay1 (F := Ideal) (k0_pay3 (F := Ideal) x1 x3)) (ix2 r k) = square (x0 (ix2 r k)) (x1 (ix2 r k)) (x2 (ix2 r k)) (x3 (ix2 r k)) := by
  unfold square
  pointwise [k0_pay1, k0_pay3]

theorem blk_6 (x0 x1 x2 x3 : Vec Ideal S16x1024 .f32) (r : Fin 16) (k : Fin 1024) :
    out0_6 (F := Ideal) x0 x1 x2 x3 (ix2 r k) = square (x0 (ix2 r k)) (x1 (ix2 r k)) (x2 (ix2 r k)) (x3 (ix2 r k)) := by
  unfold out0_6
  rw [View.canon_unit_zero (by decide)]
  simp only [ld]
  exact pay_6 x0 x1 x2 x3 r k

/-- What the call leaves. -/
theorem arr_6 (r : Fin 144) (k : Fin 1024) : ((dats m 0 c).arrAt 6 cfg0.N : Mat 144 1024) (ix2 r k)
    = square ((arg m c main_arg0 : Mat 144 1024) (ix2 r k)) ((arg m c main_arg1 : Mat 144 1024) (ix2 r k)) ((arg m c main_arg2 : Mat 144 1024) (ix2 r k)) ((arg m c main_arg3 : Mat 144 1024) (ix2 r k)) := by
  refine (dats m 0 c).arrAt_forall_of_covers 6 (fun i v => v = (fun (r : Fin 144) (k : Fin 1024) =>
      square ((arg m c main_arg0 : Mat 144 1024) (ix2 r k)) ((arg m c main_arg1 : Mat 144 1024) (ix2 r k)) ((arg m c main_arg2 : Mat 144 1024) (ix2 r k)) ((arg m c main_arg3 : Mat 144 1024) (ix2 r k))) (i 0) (i 1)) (by decide +kernel) (fun t hf y => ?_) (ix2 r k)
  blk_simp
  rw [after0_6]
  idx_vars y
  rw [emb_6 t y0 y1]
  refine (blk_6 _ _ _ _ y0 y1).trans ?_
  rw [iblk_0, iblk_1, iblk_2, iblk_3]
  rfl

end Cert.Kernel5Ideal.Update

namespace Cert.Reference5Ideal.Value

open Idealize.ShloMosaic Idealize.ShloMosaic.TcCoe Cert.Kernel5Ideal.Update Cert.Reference5Ideal.Gen

theorem delta_eq (w g m v : FVec Ideal S144x1024 .f32) (r : Fin 144) (k : Fin 1024) :
    (mulf (broadcastInDim S144x1024 ![] bcast_S_S144x1024 (constant S_ .f32 0xBA83126F#32)) (addf (Host.divf (Host.divf (addf (mulf (broadcastInDim S144x1024 ![] bcast_S_S144x1024 (constant S_ .f32 0x3F666666#32)) m) (mulf (broadcastInDim S144x1024 ![] bcast_S_S144x1024 (constant S_ .f32 0x3DCCCCCD#32)) g)) (broadcastInDim S144x1024 ![] bcast_S_S144x1024 (constant S_ .f32 0x3F26BD02#32))) (addf (Host.sqrt (Host.divf (addf (mulf (broadcastInDim S144x1024 ![] bcast_S_S144x1024 (constant S_ .f32 0x3F7FBE77#32)) v) (mulf (broadcastInDim S144x1024 ![] bcast_S_S144x1024 (constant S_ .f32 0x3A83126F#32)) (mulf g g))) (broadcastInDim S144x1024 ![] bcast_S_S144x1024 (constant S_ .f32 0x3C231ACC#32)))) (broadcastInDim S144x1024 ![] bcast_S_S144x1024 (constant S_ .f32 0x322BCC77#32)))) (mulf (broadcastInDim S144x1024 ![] bcast_S_S144x1024 (constant S_ .f32 0x3C23D70A#32)) w)) : FVec Ideal S144x1024 .f32) (ix2 r k)
      = delta (w (ix2 r k)) (g (ix2 r k)) (m (ix2 r k)) (v (ix2 r k)) := by
  unfold delta
  pointwise [Cert.Kernel5Ideal.Gen.k0_pay4, Cert.Kernel5Ideal.Gen.k0_pay3, Cert.Kernel5Ideal.Gen.k0_pay2]

theorem mean_eq (w g m v : FVec Ideal S144x1024 .f32) (r : Fin 144) (k : Fin 1024) :
    (addf (mulf (broadcastInDim S144x1024 ![] bcast_S_S144x1024 (constant S_ .f32 0x3F666666#32)) m) (mulf (broadcastInDim S144x1024 ![] bcast_S_S144x1024 (constant S_ .f32 0x3DCCCCCD#32)) g) : FVec Ideal S144x1024 .f32) (ix2 r k)
      = mean (w (ix2 r k)) (g (ix2 r k)) (m (ix2 r k)) (v (ix2 r k)) := by
  unfold mean
  pointwise [Cert.Kernel5Ideal.Gen.k0_pay5, Cert.Kernel5Ideal.Gen.k0_pay2]

theorem square_eq (w g m v : FVec Ideal S144x1024 .f32) (r : Fin 144) (k : Fin 1024) :
    (addf (mulf (broadcastInDim S144x1024 ![] bcast_S_S144x1024 (constant S_ .f32 0x3F7FBE77#32)) v) (mulf (broadcastInDim S144x1024 ![] bcast_S_S144x1024 (constant S_ .f32 0x3A83126F#32)) (mulf g g)) : FVec Ideal S144x1024 .f32) (ix2 r k)
      = square (w (ix2 r k)) (g (ix2 r k)) (m (ix2 r k)) (v (ix2 r k)) := by
  unfold square
  pointwise [Cert.Kernel5Ideal.Gen.k0_pay1, Cert.Kernel5Ideal.Gen.k0_pay3]

end Cert.Reference5Ideal.Value

namespace Cert.Equal5

open Idealize.ShloMosaic Idealize.ShloMosaic.TcCoe Idealize.SL.Sem Cert.Kernel5Ideal.Update

/-- The kernel and the reference end with equal steps and moments, their arguments unchanged. -/
theorem algebraic : Cert.algebraic_Kernel5Ideal_Reference5Ideal (hKernel5Ideal := Cert.Kernel5Ideal.Gen.facts)
    (hReference5Ideal := Cert.Reference5Ideal.Gen.facts) := by
  intro m ρ m' ρ' _ hag
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N, fun c => (Cert.Kernel5Ideal.Gen.dats m 0 c).arrAt 6 Cert.Kernel5Ideal.cfg0.N, ?_, ?_⟩
  · refine (θ_run Cert.Kernel5Ideal.defs _ _).mono (fun _ h c => ?_)
      (θ_run_and (Cert.Kernel5Ideal.Gen.run_main (F := Ideal) m ρ) (Cert.Kernel5Ideal.Gen.frame (F := Ideal) m ρ))
    exact ⟨(h.1 c).1 4, (h.1 c).1 5, (h.1 c).1 6, h.2.1 c⟩
  · refine (θ_run Cert.Reference5Ideal.defs _ _).mono (fun _ h c => ?_) (Cert.Reference5Ideal.Value.run (F := Ideal) m' ρ')
    obtain ⟨a0, a1, a2, a3⟩ := hag c
    obtain ⟨h0, h1, h2, k⟩ := h c
    refine ⟨h0.trans ?_, h1.trans ?_, h2.trans ?_, k⟩
    · rw [a0, a1, a2, a3]
      exact funext fun i => by
        rw [eq_ix2 i]
        exact (Cert.Reference5Ideal.Value.delta_eq _ _ _ _ _ _).trans (arr_4 m c _ _).symm
    · rw [a1, a2]
      exact funext fun i => by
        rw [eq_ix2 i]
        exact (Cert.Reference5Ideal.Value.mean_eq (arg m c Cert.Kernel5Ideal.main_arg0) _ _ (arg m c Cert.Kernel5Ideal.main_arg3) _ _).trans (arr_5 m c _ _).symm
    · rw [a1, a3]
      exact funext fun i => by
        rw [eq_ix2 i]
        exact (Cert.Reference5Ideal.Value.square_eq (arg m c Cert.Kernel5Ideal.main_arg0) _ (arg m c Cert.Kernel5Ideal.main_arg2) _ _ _).trans (arr_6 m c _ _).symm

end Cert.Equal5

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Run.Main
public import proofs.«01_k».proof.Proof.Same
public import proofs.«01_k».proof.Proof.Value.Equal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_finite2
public import proofs.«01_k».proof.Proof.Scan.Same
public import proofs.«01_k».proof.Proof.Scan.Equal
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Weights.Same
public import proofs.«01_k».proof.Proof.Weights.Equal
public import proofs.«01_k».proof.Proof.First.Equal
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Update.Same
public import proofs.«01_k».proof.Proof.Update.Equal

@[expose] public section

noncomputable section

namespace Cert.Proof

open Idealize.ShloMosaic Idealize.SL.Sem

set_option maxRecDepth 65536 in
set_option maxHeartbeats 0 in
/-- The kernel as printed, at words: its text and its table are those of the program the run is stated of. -/
theorem frame_bits : Cert.quiescent_Kernel (hKernel := Cert.Kernel.Gen.facts) := by
  intro m ρ _
  rw [Cert.Same.table, Cert.Same.text]
  exact Cert.KernelIdeal.Run.frame (F := Bits) m ρ

/-- The reference's arguments end unchanged; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

set_option maxRecDepth 65536 in
set_option maxHeartbeats 0 in
/-- The scan's kernel as printed, at words. -/
theorem frame_bits2 : Cert.quiescent_Kernel2 (hKernel2 := Cert.Kernel2.Gen.facts) := by
  intro m ρ _
  rw [Cert.Same2.table, Cert.Same2.text]
  exact Cert.Kernel2Ideal.Run.frame (F := Bits) m ρ

/-- The scan's reference's arguments end unchanged; it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

set_option maxRecDepth 65536 in
set_option maxHeartbeats 0 in
/-- The six products' kernels as printed, at words. -/
theorem frame_bits3 : Cert.quiescent_Kernel3 (hKernel3 := Cert.Kernel3.Gen.facts) := by
  intro m ρ _
  rw [Cert.Same3.table, Cert.Same3.text]
  exact Cert.Kernel3Ideal.Weights.frame (F := Bits) m ρ

/-- The six products' reference's arguments end unchanged; it declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

set_option maxRecDepth 65536 in
set_option maxHeartbeats 0 in
/-- The optimiser's kernel as printed, at words. -/
theorem frame_bits5 : Cert.quiescent_Kernel5 (hKernel5 := Cert.Kernel5.Gen.facts) := by
  intro m ρ _
  rw [Cert.Same5.table, Cert.Same5.text]
  exact Cert.Kernel5Ideal.Gen.frame (F := Bits) m ρ

/-- The optimiser's reference's arguments end unchanged; it declares no semaphore. -/
theorem frame_reference5 : Cert.quiescent_Reference5Ideal (hReference5Ideal := Cert.Reference5Ideal.Gen.facts) := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts,
  Cert.Kernel5.Gen.facts, Cert.Kernel5Ideal.Gen.facts, Cert.Reference5Ideal.Gen.facts, Cert.Pre_finite.Gen.facts, Cert.Pre_finite2.Gen.facts,
  frame_bits, fun m ρ _ => Cert.KernelIdeal.Run.frame m ρ, fun m ρ _ => Cert.KernelIdeal.Run.frame m ρ,
  frame_reference, fun m ρ _ => frame_reference m ρ trivial,
  frame_bits2, fun m ρ _ => Cert.Kernel2Ideal.Run.frame m ρ, fun m ρ _ => Cert.Kernel2Ideal.Run.frame m ρ,
  frame_reference2, fun m ρ _ => frame_reference2 m ρ trivial,
  frame_bits3, fun m ρ _ => Cert.Kernel3Ideal.Weights.frame m ρ, frame_reference3,
  Cert.Equal4.frame_bits, Cert.Equal4.frame_ideal, fun m ρ _ => Cert.Equal4.frame_ideal m ρ trivial,
  frame_bits5, fun m ρ _ => Cert.Kernel5Ideal.Gen.frame m ρ, frame_reference5,
  trivial, Cert.Equal.algebraic, trivial, Cert.Equal2.algebraic, trivial, Cert.Equal3.algebraic, trivial, Cert.Equal4.algebraic,
  trivial, Cert.Equal5.algebraic⟩

end Cert.Proof

end
